-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v38) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v11)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v11) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v112) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Att_AttIdeal : Prop :=
  IdealRules.named_const.Statement Cert.AttIdeal.κ "mask" .f32 0xF149F2CA#32 ⊥

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)) →
    ∃ (v0 : (c : Dev Cert.AttIdeal.nD) → Buf (Elt Ideal) ((c.tc : Thread Cert.AttIdeal.nD Cert.AttIdeal.τ).loc Cert.AttIdeal.main_v4)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v4) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v30) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0))

def Claim : Prop :=
  ∃ (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hLru : Cert.Lru.Facts) (hLruIdeal : Cert.LruIdeal.Facts) (hLruRefIdeal : Cert.LruRefIdeal.Facts) (hQkv : Cert.Qkv.Facts) (hQkvIdeal : Cert.QkvIdeal.Facts) (hQkvRefIdeal : Cert.QkvRefIdeal.Facts) (hProj : Cert.Proj.Facts) (hProjIdeal : Cert.ProjIdeal.Facts) (hProjRefIdeal : Cert.ProjRefIdeal.Facts) (hAtt : Cert.Att.Facts) (hAttIdeal : Cert.AttIdeal.Facts) (hAttRefIdeal : Cert.AttRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Lru (hLru := hLru)
    ∧ quiescent_LruIdeal (hLruIdeal := hLruIdeal)
    ∧ quiescent_LruRefIdeal (hLruRefIdeal := hLruRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Proj (hProj := hProj)
    ∧ quiescent_ProjIdeal (hProjIdeal := hProjIdeal)
    ∧ quiescent_ProjRefIdeal (hProjRefIdeal := hProjRefIdeal)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Lru_LruIdeal
    ∧ algebraic_LruIdeal_LruRefIdeal (hLruIdeal := hLruIdeal) (hLruRefIdeal := hLruRefIdeal)
    ∧ preserves_Qkv_QkvIdeal
    ∧ algebraic_QkvIdeal_QkvRefIdeal (hQkvIdeal := hQkvIdeal) (hQkvRefIdeal := hQkvRefIdeal)
    ∧ preserves_Proj_ProjIdeal
    ∧ algebraic_ProjIdeal_ProjRefIdeal (hProjIdeal := hProjIdeal) (hProjRefIdeal := hProjRefIdeal)
    ∧ preserves_Att_AttIdeal
    ∧ algebraic_AttIdeal_AttRefIdeal_pre_finite (hAttIdeal := hAttIdeal) (hAttRefIdeal := hAttRefIdeal) (hPre_finite := hPre_finite)
-- ==== Pre_finite.lean ====
abbrev S2x8192x3072 : Shape := ⟨3, ![2, 8192, 3072]⟩
abbrev S2x8192x2048 : Shape := ⟨3, ![2, 8192, 2048]⟩
abbrev S_ : Shape := ⟨0, ![]⟩

class Facts : Prop where
  slices_S2x8192x3072_S2x8192x2048_0_0_0 : S2x8192x3072.Slices ![0, 0, 0] S2x8192x2048
  bitsLt_bf16_f32 : FTy.bits .bf16 < FTy.bits .f32
  bcast_S_S2x8192x2048 : S_.BroadcastsInDim S2x8192x2048 (![] : Fin 0 → Fin S2x8192x2048.rank)

variable [Facts]

def fn {F : FTy → Type} [FloatOps F] (main_arg0 : FVec F S2x8192x3072 .bf16) : IVec S2x8192x2048 1 :=
  let main_v0 : FVec F S2x8192x2048 .bf16 := (extractStridedSlice S2x8192x2048 ![0, 0, 0] · slices_S2x8192x3072_S2x8192x2048_0_0_0) main_arg0
  let main_v1 : FVec F S2x8192x2048 .f32 := (extf .f32 · bitsLt_bf16_f32) main_v0
  let main_v2 : FVec F S2x8192x2048 .f32 := Host.absf main_v1
  let main_cst : FVec F S_ .f32 := constant S_ .f32 0x7F800000#32
  let main_v3 : FVec F S2x8192x2048 .f32 := broadcastInDim S2x8192x2048 ![] bcast_S_S2x8192x2048 main_cst
  let main_v4 : IVec S2x8192x2048 1 := cmpf .olt main_v2 main_v3
  main_v4
-- ==== Ffn.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S4x1024x5632, .bf16⟩
  | .hbm, ⟨5, _⟩ => ⟨S4x2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024x5632, .f32⟩
  | .hbm, ⟨21, _⟩ => ⟨S1024x5632, .f32⟩
  | .hbm, ⟨22, _⟩ => ⟨S1x2816x1024, .f32⟩
  | .hbm, ⟨23, _⟩ => ⟨S2816x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S4x1024x5632, .bf16⟩
  | .hbm, ⟨6, _⟩ => ⟨S4x2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S16384x1024 : Shape := ⟨2, ![16384, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x5632, .f32⟩
  | .hbm, ⟨22, _⟩ => ⟨S1024x5632, .f32⟩
  | .hbm, ⟨23, _⟩ => ⟨S1x2816x1024, .f32⟩
  | .hbm, ⟨24, _⟩ => ⟨S2816x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Lru.lean ====
abbrev S16384x1024 : Shape := ⟨2, ![16384, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S4x256 : Shape := ⟨2, ![4, 256]⟩
abbrev S1024x1024 : Shape := ⟨2, ![1024, 1024]⟩
abbrev S2x8192x1024 : Shape := ⟨3, ![2, 8192, 1024]⟩
abbrev S1x1024 : Shape := ⟨2, ![1, 1024]⟩
abbrev S1x512x1024 : Shape := ⟨3, ![1, 512, 1024]⟩
abbrev S520x1024 : Shape := ⟨2, ![520, 1024]⟩
abbrev S4096x128 : Shape := ⟨2, ![4096, 128]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512x128 : Shape := ⟨2, ![512, 128]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S4x256, .f32⟩
  | .hbm, ⟨7, _⟩ => ⟨S4x256x256, .f32⟩
  | .hbm, ⟨8, _⟩ => ⟨S4x256, .f32⟩
  | .hbm, ⟨9, _⟩ => ⟨S1024, .f32⟩
  | .hbm, ⟨10, _⟩ => ⟨S1024x1024, .f32⟩
  | .hbm, ⟨11, _⟩ => ⟨S1024x2048, .bf16⟩
  | .hbm, ⟨12, _⟩ => ⟨S4x256x256, .bf16⟩
  | .hbm, ⟨13, _⟩ => ⟨S4x256x256, .bf16⟩
  | .hbm, ⟨14, _⟩ => ⟨S1024x1024, .bf16⟩
  | .hbm, ⟨15, _⟩ => ⟨S2x8192x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2x8192x1024, .f32⟩
  | .hbm, ⟨22, _⟩ => ⟨S16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S520x1024, .f32⟩
  | .local _ .vmem, ⟨15, _⟩ => ⟨S4096x128, .f32⟩
  | .local _ .vmem, ⟨16, _⟩ => ⟨S4096x128, .f32⟩
  | .local _ .vmem, ⟨17, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_113 : BitVec 32 := 0#32
  let c512_i32 : BitVec 32 := 512#32
  let v218 : BitVec 32 := Scalar.addi c0_i32_113 c512_i32
  let c1_i32 : BitVec 32 := 1#32
  ⟨c0_i32_113, v218, c1_i32⟩
def k0_mult1 (k0_t1 : Fin k0_t1_loop.trips) : BitVec 32 :=
  let c0_i32_113 : BitVec 32 := 0#32
  let c1_i32 : BitVec 32 := 1#32
  let arg18 : BitVec 32 := Scf.iv c0_i32_113 c1_i32 k0_t1
  let c8_i32 : BitVec 32 := 8#32
  let v254 : BitVec 32 := Scalar.muli arg18 c8_i32
  v254
def k0_off1 (k0_t1 : Fin k0_t1_loop.trips) : Fin 2 → Nat :=
  let c0_i32_113 : BitVec 32 := 0#32
  let c1_i32 : BitVec 32 := 1#32
  let arg18 : BitVec 32 := Scf.iv c0_i32_113 c1_i32 k0_t1
  let c8_i32 : BitVec 32 := 8#32
  let v254 : BitVec 32 := Scalar.muli arg18 c8_i32
  let v255 : BitVec 32 := v254
  let v256 : Index := Scalar.indexCast v255
  let c0_143 : Index := 0#32
  ![v256.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== LruRefIdeal.lean ====
abbrev S16384x1024 : Shape := ⟨2, ![16384, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S4x256 : Shape := ⟨2, ![4, 256]⟩
abbrev S1024x1024 : Shape := ⟨2, ![1024, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8195x1024 : Shape := ⟨3, ![2, 8195, 1024]⟩
abbrev S1x1024 : Shape := ⟨2, ![1, 1024]⟩
abbrev S2x8192x4x256 : Shape := ⟨4, ![2, 8192, 4, 256]⟩
abbrev S4x256x2x8192 : Shape := ⟨4, ![4, 256, 2, 8192]⟩
abbrev S1x1x4x256 : Shape := ⟨4, ![1, 1, 4, 256]⟩
abbrev S2x1024 : Shape := ⟨2, ![2, 1024]⟩
abbrev S8192x2x1024 : Shape := ⟨3, ![8192, 2, 1024]⟩
abbrev S1x2x1024 : Shape := ⟨3, ![1, 2, 1024]⟩

abbrev nBuf : Space → Nat
  | .hbm => 178
  | .vmem => 0
  | .smem => 0
  | _ => 0

abbrev hbmTy0_0 (i : Nat) : BufTy := match i % 128 with
  | 0 => ⟨S16384x1024, .f32⟩
  | 1 => ⟨S1024, .f32⟩
  | 2 => ⟨S1024x2048, .f32⟩
  | 3 => ⟨S4x1024, .f32⟩
  | 4 => ⟨S1024, .f32⟩
  | 5 => ⟨S4x256x256, .f32⟩
  | 6 => ⟨S4x256, .f32⟩
  | 7 => ⟨S4x256x256, .f32⟩
  | 8 => ⟨S4x256, .f32⟩
  | 9 => ⟨S1024, .f32⟩
  | 10 => ⟨S1024x1024, .f32⟩
  | 11 => ⟨S2x8192x1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x8192x2048, .f32⟩
  | 29 => ⟨S2x8192x1024, .f32⟩
  | 30 => ⟨S2x8192x1024, .f32⟩
  | 31 => ⟨S_, .i32⟩
  | 32 => ⟨S_, .f32⟩
  | 33 => ⟨S2x8195x1024, .f32⟩
  | 34 => ⟨S1x1024, .f32⟩
  | 35 => ⟨S1024, .f32⟩
  | 36 => ⟨S2x8192x1024, .f32⟩
  | 37 => ⟨S1x1x1024, .f32⟩
  | 38 => ⟨S2x8192x1024, .f32⟩
  | 39 => ⟨S2x8192x1024, .f32⟩
  | 40 => ⟨S_, .f32⟩
  | 41 => ⟨S2x8192x1024, .f32⟩
  | 42 => ⟨S2x8192x1024, .f32⟩
  | 43 => ⟨S1x1024, .f32⟩
  | 44 => ⟨S1024, .f32⟩
  | 45 => ⟨S2x8192x1024, .f32⟩
  | 46 => ⟨S1x1x1024, .f32⟩
  | 47 => ⟨S2x8192x1024, .f32⟩
  | 48 => ⟨S2x8192x1024, .f32⟩
  | 49 => ⟨S2x8192x1024, .f32⟩
  | 50 => ⟨S1x1024, .f32⟩
  | 51 => ⟨S1024, .f32⟩
  | 52 => ⟨S2x8192x1024, .f32⟩
  | 53 => ⟨S1x1x1024, .f32⟩
  | 54 => ⟨S2x8192x1024, .f32⟩
  | 55 => ⟨S2x8192x1024, .f32⟩
  | 56 => ⟨S2x8192x1024, .f32⟩
  | 57 => ⟨S1x1024, .f32⟩
  | 58 => ⟨S1024, .f32⟩
  | 59 => ⟨S2x8192x1024, .f32⟩
  | 60 => ⟨S1x1x1024, .f32⟩
  | 61 => ⟨S2x8192x1024, .f32⟩
  | 62 => ⟨S2x8192x1024, .f32⟩
  | 63 => ⟨S2x8192x1024, .f32⟩
  | 64 => ⟨S1x1x1024, .f32⟩
  | 65 => ⟨S2x8192x1024, .f32⟩
  | 66 => ⟨S2x8192x1024, .f32⟩
  | 67 => ⟨S2x8192x4x256, .f32⟩
  | 68 => ⟨S4x256x2x8192, .f32⟩
  | 69 => ⟨S2x8192x4x256, .f32⟩
  | 70 => ⟨S1x1x4x256, .f32⟩
  | 71 => ⟨S2x8192x4x256, .f32⟩
  | 72 => ⟨S2x8192x4x256, .f32⟩
  | 73 => ⟨S2x8192x4x256, .f32⟩
  | 74 => ⟨S2x8192x4x256, .f32⟩
  | 75 => ⟨S_, .f32⟩
  | 76 => ⟨S2x8192x4x256, .f32⟩
  | 77 => ⟨S2x8192x4x256, .f32⟩
  | 78 => ⟨S_, .f32⟩
  | 79 => ⟨S2x8192x4x256, .f32⟩
  | 80 => ⟨S2x8192x4x256, .f32⟩
  | 81 => ⟨S2x8192x1024, .f32⟩
  | 82 => ⟨S4x256x2x8192, .f32⟩
  | 83 => ⟨S2x8192x4x256, .f32⟩
  | 84 => ⟨S1x1x4x256, .f32⟩
  | 85 => ⟨S2x8192x4x256, .f32⟩
  | 86 => ⟨S2x8192x4x256, .f32⟩
  | 87 => ⟨S2x8192x4x256, .f32⟩
  | 88 => ⟨S2x8192x4x256, .f32⟩
  | 89 => ⟨S_, .f32⟩
  | 90 => ⟨S2x8192x4x256, .f32⟩
  | 91 => ⟨S2x8192x4x256, .f32⟩
  | 92 => ⟨S_, .f32⟩
  | 93 => ⟨S2x8192x4x256, .f32⟩
  | 94 => ⟨S2x8192x4x256, .f32⟩
  | 95 => ⟨S2x8192x1024, .f32⟩
  | 96 => ⟨S_, .f32⟩
  | 97 => ⟨S2x8192x1024, .f32⟩
  | 98 => ⟨S2x8192x1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S1024, .f32⟩
  | 105 => ⟨S1024, .i1⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1x1x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S_, .f32⟩
  | 120 => ⟨S2x8192x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S2x8192x1024, .f32⟩
  | 126 => ⟨S_, .f32⟩
  | 127 => ⟨S2x1024, .f32⟩
  | _ => ⟨S16384x1024, .f32⟩

abbrev hbmTy0_1 (i : Nat) : BufTy := match i % 128 with
  | 0 => ⟨S8192x2x1024, .f32⟩
  | 1 => ⟨S8192x2x1024, .f32⟩
  | 2 => ⟨S_, .f32⟩
  | 3 => ⟨S8192x2x1024, .f32⟩
  | 4 => ⟨S_, .i32⟩
  | 5 => ⟨S8192x2x1024, .f32⟩
  | 6 => ⟨S8192x2x1024, .f32⟩
  | 7 => ⟨S_, .i32⟩
  | 8 => ⟨S2x1024, .f32⟩
  | 9 => ⟨S8192x2x1024, .f32⟩
  | 10 => ⟨S_, .i32⟩
  | 11 => ⟨S_, .i1⟩
  | 12 => ⟨S_, .i32⟩
  | 13 => ⟨S_, .i32⟩
  | 14 => ⟨S1x2x1024, .f32⟩
  | 15 => ⟨S2x1024, .f32⟩
  | 16 => ⟨S_, .i32⟩
  | 17 => ⟨S_, .i32⟩
  | 18 => ⟨S1x2x1024, .f32⟩
  | 19 => ⟨S2x1024, .f32⟩
  | 20 => ⟨S2x1024, .f32⟩
  | 21 => ⟨S2x1024, .f32⟩
  | 22 => ⟨S1x2x1024, .f32⟩
  | 23 => ⟨S_, .i32⟩
  | 24 => ⟨S_, .i32⟩
  | 25 => ⟨S8192x2x1024, .f32⟩
  | 26 => ⟨S_, .i32⟩
  | 27 => ⟨S_, .i32⟩
  | 28 => ⟨S2x8192x1024, .f32⟩
  | 29 => ⟨S2x8192x1024, .f32⟩
  | 30 => ⟨S_, .f32⟩
  | 31 => ⟨S2x8192x1024, .f32⟩
  | 32 => ⟨S2x8192x1024, .f32⟩
  | 33 => ⟨S2x8192x1024, .f32⟩
  | 34 => ⟨S_, .f32⟩
  | 35 => ⟨S2x8192x1024, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S_, .f32⟩
  | 42 => ⟨S2x8192x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_8 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_9 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_10 : Ref sig .tc := ⟨.hbm, 130, rfl⟩
abbrev main_v93 : Ref sig .tc := ⟨.hbm, 131, rfl⟩
abbrev main_c_11 : Ref sig .tc := ⟨.hbm, 132, rfl⟩
abbrev main_v94_0 : Ref sig .tc := ⟨.hbm, 133, rfl⟩
abbrev main_v94_1 : Ref sig .tc := ⟨.hbm, 134, rfl⟩
abbrev main_v94_2 : Ref sig .tc := ⟨.hbm, 135, rfl⟩
abbrev main_v94_3 : Ref sig .tc := ⟨.hbm, 136, rfl⟩
abbrev main_v94_4 : Ref sig .tc := ⟨.hbm, 137, rfl⟩
abbrev main_while0c_c_20 : Ref sig .tc := ⟨.hbm, 138, rfl⟩
abbrev main_while0c_v113 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_v0 : Ref sig .tc := ⟨.hbm, 142, rfl⟩
abbrev main_while0b_v113 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v114 : Ref sig .tc := ⟨.hbm, 147, rfl⟩
abbrev main_while0b_v115 : Ref sig .tc := ⟨.hbm, 148, rfl⟩
abbrev main_while0b_v116 : Ref sig .tc := ⟨.hbm, 149, rfl⟩
abbrev main_while0b_call4_v0 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_v117 : Ref sig .tc := ⟨.hbm, 153, rfl⟩
abbrev main_while0b_c_20 : Ref sig .tc := ⟨.hbm, 154, rfl⟩
abbrev main_while0b_v118 : Ref sig .tc := ⟨.hbm, 155, rfl⟩
abbrev main_v95 : Ref sig .tc := ⟨.hbm, 156, rfl⟩
abbrev main_v96 : Ref sig .tc := ⟨.hbm, 157, rfl⟩
abbrev main_cst_12 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_13 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_14 : Ref sig .tc := ⟨.hbm, 166, rfl⟩
abbrev main_v103 : Ref sig .tc := ⟨.hbm, 167, rfl⟩
abbrev main_v104 : Ref sig .tc := ⟨.hbm, 168, rfl⟩
abbrev main_cst_15 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩

abbrev nD : Nat := 1
abbrev τ : Topo := Topo.v7x

variable {F : FTy → Type} [FloatOps F]

abbrev main_while0_count : Scf.Loop 32 := ⟨0#32, 8192#32, 1#32⟩
-- ==== Qkv.lean ====
abbrev S16384x1024 : Shape := ⟨2, ![16384, 1024]⟩
abbrev S1024 : Shape := ⟨1, ![1024]⟩
abbrev S1024x3072 : Shape := ⟨2, ![1024, 3072]⟩
abbrev S2x8192x1024 : Shape := ⟨3, ![2, 8192, 1024]⟩
abbrev S1x1024 : Shape := ⟨2, ![1, 1024]⟩
abbrev S2x8192x3072 : Shape := ⟨3, ![2, 8192, 3072]⟩
abbrev S1x512x1024 : Shape := ⟨3, ![1, 512, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x2048 : Shape := ⟨2, ![512, 2048]⟩
abbrev S1x512x2048 : Shape := ⟨3, ![1, 512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S2x8192x1024, .f32⟩
  | .hbm, ⟨5, _⟩ => ⟨S1x1024, .f32⟩
  | .hbm, ⟨6, _⟩ => ⟨S2x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x3072, .bf16⟩
  | .local _ .vmem, ⟨5, _⟩ => ⟨S1x512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x1024 : Shape := ⟨2, ![16384, 1024]⟩
abbrev S1024 : Shape := ⟨1, ![1024]⟩
abbrev S1024x3072 : Shape := ⟨2, ![1024, 3072]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S2x8192x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x3072, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192x1024, .f32⟩
  | .hbm, ⟨26, _⟩ => ⟨S2x8192x1024, .f32⟩
  | .hbm, ⟨27, _⟩ => ⟨S2x8192x3072, .f32⟩
  | .hbm, ⟨28, _⟩ => ⟨S2x8192x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proj.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Att.lean ====
abbrev S2x8192x3072 : Shape := ⟨3, ![2, 8192, 3072]⟩
abbrev S256x256 : Shape := ⟨2, ![256, 256]⟩
abbrev S2x8192x1024 : Shape := ⟨3, ![2, 8192, 1024]⟩
abbrev S1x256x512 : Shape := ⟨3, ![1, 256, 512]⟩
abbrev S1x8192x512 : Shape := ⟨3, ![1, 8192, 512]⟩
abbrev S8x256x128 : Shape := ⟨3, ![8, 256, 128]⟩
abbrev S2x256x256 : Shape := ⟨3, ![2, 256, 256]⟩
abbrev S256x128 : Shape := ⟨2, ![256, 128]⟩
abbrev S1x256x128 : Shape := ⟨3, ![1, 256, 128]⟩
abbrev S1x256x256 : Shape := ⟨3, ![1, 256, 256]⟩
abbrev S256x1 : Shape := ⟨2, ![256, 1]⟩
abbrev S256x512 : Shape := ⟨2, ![256, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x8192x3072, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S2x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S256x256, .bf16⟩
  | .local _ .vmem, ⟨7, _⟩ => ⟨S1x256x512, .bf16⟩
  | .local _ .vmem, ⟨8, _⟩ => ⟨S1x256x512, .bf16⟩
  | .local _ .vmem, ⟨9, _⟩ => ⟨S8x256x128, .bf16⟩
  | .local _ .vmem, ⟨10, _⟩ => ⟨S8x256x128, .f32⟩
  | .local _ .vmem, ⟨11, _⟩ => ⟨S8x256x128, .f32⟩
  | .local _ .vmem, ⟨12, _⟩ => ⟨S2x256x256, .f32⟩
  | .local _ .vmem, ⟨13, _⟩ => ⟨S256x256, .bf16⟩
  | .local _ .vmem, ⟨14, _⟩ => ⟨S256x256, .f32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v58 : BitVec 32 := Scalar.muli arg2 c256_i32
  v58
def k0_off1 (i : grid0.Coords) : Fin 3 → Nat :=
  let c0_36 : Index := 0#32
  let arg2 : BitVec 32 := BitVec.ofNat 32 (i 2).val
  let c256_i32 : BitVec 32 := 256#32
  let v58 : BitVec 32 := Scalar.muli arg2 c256_i32
  let v59 : BitVec 32 := v58
  let v60 : Index := Scalar.indexCast v59
  let c0_37 : Index := 0#32
  ![0, v60.toNat, 0]
def k0_mult2 (i : grid0.Coords) : BitVec 32 :=
  let arg2 : BitVec 32 := BitVec.ofNat 32 (i 2).val
  let c256_i32 : BitVec 32 := 256#32
  let v58 : BitVec 32 := Scalar.muli arg2 c256_i32
  let v59 : BitVec 32 := v58
  let c256_i32_54 : BitVec 32 := 256#32
  let v78 : BitVec 32 := Scalar.subi v59 c256_i32_54
  let c0_i32 : BitVec 32 := 0#32
  let v79 : BitVec 32 := Scalar.maxsi v78 c0_i32
  v79
def k0_off2 (i : grid0.Coords) : Fin 3 → Nat :=
  let c0_55 : Index := 0#32
  let arg2 : BitVec 32 := BitVec.ofNat 32 (i 2).val
  let c256_i32 : BitVec 32 := 256#32
  let v58 : BitVec 32 := Scalar.muli arg2 c256_i32
  let v59 : BitVec 32 := v58
  let v81 : Index := Scalar.indexCast v59
  let c128_56 : Index := 128#32
  ![0, v81.toNat, 128]
def k0_off3 (i : grid0.Coords) : Fin 3 → Nat :=
  let c0_104 : Index := 0#32
  let arg2 : BitVec 32 := BitVec.ofNat 32 (i 2).val
  let c256_i32 : BitVec 32 := 256#32
  let v58 : BitVec 32 := Scalar.muli arg2 c256_i32
  let v59 : BitVec 32 := v58
  let v164 : Index := Scalar.indexCast v59
  let c256_105 : Index := 256#32
  ![0, v164.toNat, 256]
def k0_off4 (i : grid0.Coords) : Fin 3 → Nat :=
  let c0_162 : Index := 0#32
  let arg2 : BitVec 32 := BitVec.ofNat 32 (i 2).val
  let c256_i32 : BitVec 32 := 256#32
  let v58 : BitVec 32 := Scalar.muli arg2 c256_i32
  let v59 : BitVec 32 := v58
  let v270 : Index := Scalar.indexCast v59
  let c384_163 : Index := 384#32
  ![0, v270.toNat, 384]
def k0_off5 (i : grid0.Coords) : Fin 3 → Nat :=
  let c0_220 : Index := 0#32
  let arg2 : BitVec 32 := BitVec.ofNat 32 (i 2).val
  let c256_i32 : BitVec 32 := 256#32
  let v58 : BitVec 32 := Scalar.muli arg2 c256_i32
  let v59 : BitVec 32 := v58
  let c256_i32_54 : BitVec 32 := 256#32
  let v78 : BitVec 32 := Scalar.subi v59 c256_i32_54
  let c0_i32 : BitVec 32 := 0#32
  let v79 : BitVec 32 := Scalar.maxsi v78 c0_i32
  let v80 : BitVec 32 := v79
  let v376 : Index := Scalar.indexCast v80
  let c0_221 : Index := 0#32
  ![0, v376.toNat, 0]
@[reducible] def k0_t1_loop (i : grid0.Coords) : Scf.Loop 32 :=
  let c0_i32_285 : BitVec 32 := 0#32
  let arg2 : BitVec 32 := BitVec.ofNat 32 (i 2).val
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_287 : BitVec 32 := 1#32
  ⟨c0_i32_285, v494, c1_i32_287⟩
def k0_mult3 (i : grid0.Coords) (k0_t1 : Fin (k0_t1_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  v556
def k0_mult4 (i : grid0.Coords) (k0_t1 : Fin (k0_t1_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let c256_i32_343 : BitVec 32 := 256#32
  let v558 : BitVec 32 := Scalar.addi v557 c256_i32_343
  v558
def k0_mult5 (i : grid0.Coords) (k0_t1 : Fin (k0_t1_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let c256_i32_344 : BitVec 32 := 256#32
  let v560 : BitVec 32 := Scalar.subi v557 c256_i32_344
  let c0_i32_345 : BitVec 32 := 0#32
  let v561 : BitVec 32 := Scalar.maxsi v560 c0_i32_345
  v561
def k0_off6 (i : grid0.Coords) (k0_t1 : Fin (k0_t1_loop i).trips) : Fin 3 → Nat :=
  let c0_351 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let v567 : Index := Scalar.indexCast v557
  let c128_352 : Index := 128#32
  ![0, v567.toNat, 128]
def k0_off7 (i : grid0.Coords) (k0_t1 : Fin (k0_t1_loop i).trips) : Fin 3 → Nat :=
  let c0_376 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let c256_i32_343 : BitVec 32 := 256#32
  let v558 : BitVec 32 := Scalar.addi v557 c256_i32_343
  let v559 : BitVec 32 := v558
  let v610 : Index := Scalar.indexCast v559
  let c384_377 : Index := 384#32
  ![0, v610.toNat, 384]
def k0_off8 (i : grid0.Coords) (k0_t1 : Fin (k0_t1_loop i).trips) : Fin 3 → Nat :=
  let c0_406 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let v661 : Index := Scalar.indexCast v557
  let c0_407 : Index := 0#32
  ![0, v661.toNat, 0]
def k0_off9 (i : grid0.Coords) (k0_t1 : Fin (k0_t1_loop i).trips) : Fin 3 → Nat :=
  let c0_415 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let v671 : Index := Scalar.indexCast v557
  let c256_416 : Index := 256#32
  ![0, v671.toNat, 256]
def k0_off10 (i : grid0.Coords) (k0_t1 : Fin (k0_t1_loop i).trips) : Fin 3 → Nat :=
  let c0_469 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let v769 : Index := Scalar.indexCast v557
  let c384_470 : Index := 384#32
  ![0, v769.toNat, 384]
def k0_off11 (i : grid0.Coords) (k0_t1 : Fin (k0_t1_loop i).trips) : Fin 3 → Nat :=
  let c0_523 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let c1_i32_287 : BitVec 32 := 1#32
  let arg14 : BitVec 32 := Scf.iv c0_i32_285 c1_i32_287 k0_t1
  let v555 : BitVec 32 := Scalar.subi v554 arg14
  let c256_i32_342 : BitVec 32 := 256#32
  let v556 : BitVec 32 := Scalar.muli v555 c256_i32_342
  let v557 : BitVec 32 := v556
  let c256_i32_344 : BitVec 32 := 256#32
  let v560 : BitVec 32 := Scalar.subi v557 c256_i32_344
  let c0_i32_345 : BitVec 32 := 0#32
  let v561 : BitVec 32 := Scalar.maxsi v560 c0_i32_345
  let v562 : BitVec 32 := v561
  let v867 : Index := Scalar.indexCast v562
  let c0_524 : Index := 0#32
  ![0, v867.toNat, 0]
@[reducible] def k0_t2_loop (i : grid0.Coords) : Scf.Loop 32 :=
  let c0_i32_285 : BitVec 32 := 0#32
  let arg2 : BitVec 32 := BitVec.ofNat 32 (i 2).val
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let v491 : BitVec 32 := Scalar.addi c0_i32_285 v490
  let c1_i32_288 : BitVec 32 := 1#32
  ⟨v494, v491, c1_i32_288⟩
def k0_mult6 (i : grid0.Coords) (k0_t2 : Fin (k0_t2_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  v556
def k0_mult7 (i : grid0.Coords) (k0_t2 : Fin (k0_t2_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let c256_i32_343 : BitVec 32 := 256#32
  let v558 : BitVec 32 := Scalar.addi v557 c256_i32_343
  v558
def k0_mult8 (i : grid0.Coords) (k0_t2 : Fin (k0_t2_loop i).trips) : BitVec 32 :=
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let c256_i32_344 : BitVec 32 := 256#32
  let v560 : BitVec 32 := Scalar.subi v557 c256_i32_344
  let c0_i32_345 : BitVec 32 := 0#32
  let v561 : BitVec 32 := Scalar.maxsi v560 c0_i32_345
  v561
def k0_off12 (i : grid0.Coords) (k0_t2 : Fin (k0_t2_loop i).trips) : Fin 3 → Nat :=
  let c0_351 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let v567 : Index := Scalar.indexCast v557
  let c128_352 : Index := 128#32
  ![0, v567.toNat, 128]
def k0_off13 (i : grid0.Coords) (k0_t2 : Fin (k0_t2_loop i).trips) : Fin 3 → Nat :=
  let c0_376 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let c256_i32_343 : BitVec 32 := 256#32
  let v558 : BitVec 32 := Scalar.addi v557 c256_i32_343
  let v559 : BitVec 32 := v558
  let v610 : Index := Scalar.indexCast v559
  let c384_377 : Index := 384#32
  ![0, v610.toNat, 384]
def k0_off14 (i : grid0.Coords) (k0_t2 : Fin (k0_t2_loop i).trips) : Fin 3 → Nat :=
  let c0_406 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let v661 : Index := Scalar.indexCast v557
  let c0_407 : Index := 0#32
  ![0, v661.toNat, 0]
def k0_off15 (i : grid0.Coords) (k0_t2 : Fin (k0_t2_loop i).trips) : Fin 3 → Nat :=
  let c0_415 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let v671 : Index := Scalar.indexCast v557
  let c256_416 : Index := 256#32
  ![0, v671.toNat, 256]
def k0_off16 (i : grid0.Coords) (k0_t2 : Fin (k0_t2_loop i).trips) : Fin 3 → Nat :=
  let c0_469 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let v769 : Index := Scalar.indexCast v557
  let c384_470 : Index := 384#32
  ![0, v769.toNat, 384]
def k0_off17 (i : grid0.Coords) (k0_t2 : Fin (k0_t2_loop i).trips) : Fin 3 → Nat :=
  let c0_523 : Index := 0#32
  let arg2 : BitVec 32 := BitVec.ofNat 32 (i 2).val
  let c1_i32_341 : BitVec 32 := 1#32
  let v554 : BitVec 32 := Scalar.subi arg2 c1_i32_341
  let c0_i32_285 : BitVec 32 := 0#32
  let v490 : BitVec 32 := Scalar.subi arg2 c0_i32_285
  let c1_i32 : BitVec 32 := 1#32
  let v492 : BitVec 32 := Scalar.divsi v490 c1_i32
  let v493 : BitVec 32 := Scalar.muli v492 c1_i32
  let v494 : BitVec 32 := Scalar.addi c0_i32_285 v493
  let c1_i32_288 : BitVec 32 := 1#32
  let arg14 : BitVec 32 := Scf.iv v494 c1_i32_288 k0_t2
  let v555 : BitVec 32 := Scalar.subi v554 arg14
  let c256_i32_342 : BitVec 32 := 256#32
  let v556 : BitVec 32 := Scalar.muli v555 c256_i32_342
  let v557 : BitVec 32 := v556
  let c256_i32_344 : BitVec 32 := 256#32
  let v560 : BitVec 32 := Scalar.subi v557 c256_i32_344
  let c0_i32_345 : BitVec 32 := 0#32
  let v561 : BitVec 32 := Scalar.maxsi v560 c0_i32_345
  let v562 : BitVec 32 := v561
  let v867 : Index := Scalar.indexCast v562
  let c0_524 : Index := 0#32
  ![0, v867.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttIdeal.lean ====
variable {F : FTy → Type} [FloatOps F] [Named F]
def κ : String → Option EReal := fun
  | "mask" => some ⊥
  | _ => none
-- ==== AttRefIdeal.lean ====
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S2x16x8192x8192 : Shape := ⟨4, ![2, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x16x64x8192 : Shape := ⟨4, ![2, 16, 64, 8192]⟩
abbrev S2x8192x1024 : Shape := ⟨3, ![2, 8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x3x16x64, .bf16⟩
  | .hbm, ⟨2, _⟩ => ⟨S2x8192x1x16x64, .bf16⟩
  | .hbm, ⟨3, _⟩ => ⟨S2x8192x16x64, .bf16⟩
  | .hbm, ⟨4, _⟩ => ⟨S2x8192x16x64, .f32⟩
  | .hbm, ⟨5, _⟩ => ⟨S2x8192x1x16x64, .bf16⟩
  | .hbm, ⟨6, _⟩ => ⟨S2x8192x16x64, .bf16⟩
  | .hbm, ⟨7, _⟩ => ⟨S2x8192x16x64, .f32⟩
  | .hbm, ⟨8, _⟩ => ⟨S2x8192x1x16x64, .bf16⟩
  | .hbm, ⟨9, _⟩ => ⟨S2x8192x16x64, .bf16⟩
  | .hbm, ⟨10, _⟩ => ⟨S2x8192x16x64, .f32⟩
  | .hbm, ⟨11, _⟩ => ⟨S2x16x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S2x16x8192x8192, .f32⟩
  | .hbm, ⟨20, _⟩ => ⟨S2x16x8192x8192, .f32⟩
  | .hbm, ⟨21, _⟩ => ⟨S_, .f32⟩
  | .hbm, ⟨22, _⟩ => ⟨S2x16x8192x8192, .f32⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .i1⟩
  | .hbm, ⟨27, _⟩ => ⟨S2x16x8192x8192, .f32⟩
  | .hbm, ⟨28, _⟩ => ⟨S2x16x8192x8192, .f32⟩
  | .hbm, ⟨29, _⟩ => ⟨S2x16x8192x8192, .f32⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S_, .f32⟩
  | .hbm, ⟨38, _⟩ => ⟨S2x16x8192x8192, .i1⟩
  | .hbm, ⟨39, _⟩ => ⟨S2x16x8192x8192, .f32⟩
  | .hbm, ⟨40, _⟩ => ⟨S2x16x8192x8192, .f32⟩
  | .hbm, ⟨41, _⟩ => ⟨S_, .f32⟩
  | .hbm, ⟨42, _⟩ => ⟨S_, .f32⟩
  | .hbm, ⟨43, _⟩ => ⟨S2x16x8192x8192, .f32⟩
  | .hbm, ⟨44, _⟩ => ⟨S2x16x8192x8192, .f32⟩
  | .hbm, ⟨45, _⟩ => ⟨S2x16x8192x8192, .f32⟩
  | .hbm, ⟨46, _⟩ => ⟨S_, .f32⟩
  | .hbm, ⟨47, _⟩ => ⟨S2x16x8192x8192, .f32⟩
  | .hbm, ⟨48, _⟩ => ⟨S2x16x8192x8192, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .i1⟩
  | .hbm, ⟨52, _⟩ => ⟨S2x16x8192x8192, .f32⟩
  | .hbm, ⟨53, _⟩ => ⟨S2x16x8192x8192, .f32⟩
  | .hbm, ⟨54, _⟩ => ⟨S2x16x8192x8192, .f32⟩
  | .hbm, ⟨55, _⟩ => ⟨S2x16x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x8192x8192, .f32⟩
  | .hbm, ⟨61, _⟩ => ⟨S2x16x8192x8192, .f32⟩
  | .hbm, ⟨62, _⟩ => ⟨S2x16x8192x8192, .f32⟩
  | .hbm, ⟨63, _⟩ => ⟨S_, .f32⟩
  | .hbm, ⟨64, _⟩ => ⟨S_, .f32⟩
  | .hbm, ⟨65, _⟩ => ⟨S2x16x8192x8192, .i1⟩
  | .hbm, ⟨66, _⟩ => ⟨S2x16x8192x8192, .f32⟩
  | .hbm, ⟨67, _⟩ => ⟨S2x16x8192x8192, .f32⟩
  | .hbm, ⟨68, _⟩ => ⟨S2x16x64x8192, .f32⟩
  | .hbm, ⟨69, _⟩ => ⟨S2x8192x16x64, .f32⟩
  | .hbm, ⟨70, _⟩ => ⟨S2x8192x1024, .f32⟩
  | .hbm, ⟨71, _⟩ => ⟨S2x8192x1024, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Proof.Ffn.Math.lean ====
module

public import Idealize.ShloMosaic.Lib.Pointwise

@[expose] public section

noncomputable section

/-! The mathematics of the feed-forward half-step on ONE row, with no program in sight: the RMS-normalised row,
    the gated hidden layer, and the sum over the 2816 hidden features cut into the eleven runs of 256 that the
    kernel adds up one after the other. -/

namespace FfnMath

open Idealize.ShloMosaic

/-- Entry `j` of the row `x` divided by its root mean square (regularised by 1e-6) and scaled by `g`. -/
def nrm (x g : Fin 1024 → EReal) (j : Fin 1024) : EReal :=
  x j * Ideal.rsqrt (Ideal.div (∑ k, x k * x k) (Ideal.ofBits .f32 0x44800000#32)
    + Ideal.ofBits .f32 0x358637BD#32) * g j

/-- One entry of the product of the row `y` with the first weight. -/
def lin (y : Fin 1024 → EReal) (wi : Fin 1024 → Fin 5632 → EReal) (k : Fin 5632) : EReal :=
  ∑ d, y d * wi d k

/-- The hidden feature `k`: gate times its logistic, times the second half's entry. -/
def hid (y : Fin 1024 → EReal) (wi : Fin 1024 → Fin 5632 → EReal) (k : Fin 2816) : EReal :=
  lin y wi ⟨k.1, by omega⟩ * Ideal.logistic (lin y wi ⟨k.1, by omega⟩) * lin y wi ⟨2816 + k.1, by omega⟩

/-- The half-step at one entry: the row's entry plus half the gated layer's output. -/
def half (x g : Fin 1024 → EReal) (wi : Fin 1024 → Fin 5632 → EReal) (wo : Fin 2816 → Fin 1024 → EReal)
    (j : Fin 1024) : EReal :=
  x j + Ideal.ofBits .f32 0x3F000000#32 * ∑ k, hid (nrm x g) wi k * wo k j

/-- Run `n` of 256 consecutive terms of a sum over 2816. -/
def run (f : Fin 2816 → EReal) (n : Fin 11) : EReal := ∑ c : Fin 256, f ⟨256 * n.1 + c.1, by omega⟩

/-- The sum over 2816 terms is the eleven runs added in order. -/
theorem sum_runs (f : Fin 2816 → EReal) :
    ∑ k, f k = run f 0 + run f 1 + run f 2 + run f 3 + run f 4 + run f 5 + run f 6 + run f 7 + run f 8
      + run f 9 + run f 10 := by
  have h : ∑ k, f k = ∑ n : Fin 11, run f n := by
    rw [← (finProdFinEquiv (m := 11) (n := 256)).sum_comp, Fintype.sum_prod_type]
    refine Finset.sum_congr rfl fun n _ => Finset.sum_congr rfl fun c _ => ?_
    congr 1; ext1; simp only [finProdFinEquiv_apply_val]; omega
  rw [h]
  simp only [Fin.sum_univ_castSucc, Fin.sum_univ_zero, zero_add]
  rfl

/-- One run of the second product with its two weight columns' offsets written out. -/
theorem run_at (y : Fin 1024 → EReal) (wi : Fin 1024 → Fin 5632 → EReal) (w : Fin 2816 → EReal) (n : Fin 11)
    (a b : Nat) (ha : a = 256 * n.1) (hb : b = 2816 + 256 * n.1) :
    run (fun k => hid y wi k * w k) n
      = ∑ c : Fin 256, (lin y wi ⟨a + c.1, by omega⟩ * Ideal.logistic (lin y wi ⟨a + c.1, by omega⟩)
          * lin y wi ⟨b + c.1, by omega⟩) * w ⟨a + c.1, by omega⟩ := by
  subst ha hb
  refine Finset.sum_congr rfl fun c _ => ?_
  simp only [hid, Nat.add_assoc]

/-- One run of the gated layer's output: 256 hidden features whose gate columns start at `a` and whose second
    columns start at `b`. -/
def part (y : Fin 1024 → EReal) (wi : Fin 1024 → Fin 5632 → EReal) (w : Fin 2816 → EReal) (a b : Nat)
    (ha : a + 256 ≤ 2816) (hb : b + 256 ≤ 5632) : EReal :=
  ∑ c : Fin 256, (lin y wi ⟨a + c.1, by omega⟩ * Ideal.logistic (lin y wi ⟨a + c.1, by omega⟩)
    * lin y wi ⟨b + c.1, by omega⟩) * w ⟨a + c.1, by omega⟩

/-- The half-step at one entry as the kernel adds it up: eleven runs in order, on the normalised row `y`. -/
def halfRuns (x y : Fin 1024 → EReal) (wi : Fin 1024 → Fin 5632 → EReal) (wo : Fin 2816 → Fin 1024 → EReal)
    (j : Fin 1024) : EReal :=
  x j + Ideal.ofBits .f32 0x3F000000#32 * (part y wi (fun k => wo k j) 0 2816 (by omega) (by omega)
    + part y wi (fun k => wo k j) 256 3072 (by omega) (by omega)
    + part y wi (fun k => wo k j) 512 3328 (by omega) (by omega)
    + part y wi (fun k => wo k j) 768 3584 (by omega) (by omega)
    + part y wi (fun k => wo k j) 1024 3840 (by omega) (by omega)
    + part y wi (fun k => wo k j) 1280 4096 (by omega) (by omega)
    + part y wi (fun k => wo k j) 1536 4352 (by omega) (by omega)
    + part y wi (fun k => wo k j) 1792 4608 (by omega) (by omega)
    + part y wi (fun k => wo k j) 2048 4864 (by omega) (by omega)
    + part y wi (fun k => wo k j) 2304 5120 (by omega) (by omega)
    + part y wi (fun k => wo k j) 2560 5376 (by omega) (by omega))

theorem half_eq (x g : Fin 1024 → EReal) (wi : Fin 1024 → Fin 5632 → EReal) (wo : Fin 2816 → Fin 1024 → EReal)
    (j : Fin 1024) : half x g wi wo j = halfRuns x (nrm x g) wi wo j := by
  rw [half, sum_runs]
  rw [run_at _ _ (fun k => wo k j) 0 0 2816 rfl rfl]
  rw [run_at _ _ (fun k => wo k j) 1 256 3072 rfl rfl]
  rw [run_at _ _ (fun k => wo k j) 2 512 3328 rfl rfl]
  rw [run_at _ _ (fun k => wo k j) 3 768 3584 rfl rfl]
  rw [run_at _ _ (fun k => wo k j) 4 1024 3840 rfl rfl]
  rw [run_at _ _ (fun k => wo k j) 5 1280 4096 rfl rfl]
  rw [run_at _ _ (fun k => wo k j) 6 1536 4352 rfl rfl]
  rw [run_at _ _ (fun k => wo k j) 7 1792 4608 rfl rfl]
  rw [run_at _ _ (fun k => wo k j) 8 2048 4864 rfl rfl]
  rw [run_at _ _ (fun k => wo k j) 9 2304 5120 rfl rfl]
  rw [run_at _ _ (fun k => wo k j) 10 2560 5376 rfl rfl]
  rfl

end FfnMath

end
-- ==== Proof.Ffn.Block.lean ====
module

public import Idealize.ShloMosaic.Lib.Pointwise
public import proofs.«01_k».proof.Proof.Gen.FfnIdeal.Value
public import proofs.«01_k».proof.Proof.Ffn.Math

@[expose] public section

set_option maxRecDepth 16384

noncomputable section

/-! What the kernel's body leaves in one block of 512 rows, read at an index: the row function of `FfnMath`. -/

namespace Cert.FfnIdeal.Block

open Idealize.ShloMosaic Cert.FfnIdeal Cert.FfnIdeal.Gen FfnMath

/-- The normalised rows of a block. -/
theorem pay2_apply (v0 : Vec Ideal S512x1024 .f32) (v1 : Vec Ideal S1x1024 .f32) (r : Fin 512) (d : Fin 1024) :
    k0_pay2 v0 v1 (ix2 r d) = nrm (fun k => v0 (ix2 r k)) (fun k => v1 (ix2 0 k)) d := by
  pointwise [k0_pay2]
  rfl

/-- The block that the body stores. -/
theorem out_apply (x0 : Vec Ideal S512x1024 .f32) (x1 : Vec Ideal S1x1024 .f32)
    (x2 : Vec Ideal S1x1024x5632 .bf16) (x3 : Vec Ideal S1x2816x1024 .bf16) (r : Fin 512) (j : Fin 1024) :
    out0_4 x0 x1 x2 x3 (ix2 r j) = half (fun k => x0 (ix2 r k)) (fun k => x1 (ix2 0 k))
      (fun d k => x2 (ix3 0 d k)) (fun k j => x3 (ix3 0 k j)) j := by
  have hx : nrm (fun k => x0 (ix2 r k)) (fun k => x1 (ix2 0 k)) = fun d => k0_pay2 x0 x1 (ix2 r d) :=
    funext fun d => (pay2_apply x0 x1 r d).symm
  rw [half_eq, hx]
  unfold out0_4
  rw [View.canon_unit_zero (by decide)]
  pointwise [k0_pay1, k0_pay3, k0_pay4, k0_pay5, k0_pay6, k0_pay7, k0_pay8, k0_pay9, k0_pay10, k0_pay11, k0_pay12, k0_pay13, k0_pay14, k0_pay15]
  have h0 : View.ld x0 r0_0 = x0 := View.ld_unit_zero (by decide) _ _
  have h1 : View.ld x1 r0_1 = x1 := View.ld_unit_zero (by decide) _ _
  have h16 : k0_pay16 x0 x1 x2 x3 = k0_pay2 x0 x1 := by unfold k0_pay16; rw [h0, h1]
  rw [h16, h0, h1]
  rfl

end Cert.FfnIdeal.Block

end
-- ==== Proof.Ffn.Array.lean ====
module

public import proofs.«01_k».proof.Proof.Ffn.Block

@[expose] public section

set_option maxRecDepth 16384

noncomputable section

/-! The kernel's result array read at an index: row `512 t + r` is written by grid point `t`, from row `512 t + r` of the
    hidden state, the norm's scale and the layer's two weights. -/

namespace Cert.FfnIdeal.Block

open Idealize.ShloMosaic Idealize.ShloMosaic.TcCoe Cert.FfnIdeal Cert.FfnIdeal.Gen FfnMath

variable (m : (ℓ : Loc nD τ sig) → Buf (Elt Ideal) ℓ)

theorem V_main_v0 (c : Dev nD) (i : S4x1024x5632.Idx) : V m c main_v0 i = m ((c : Thread nD τ).loc main_arg2) i := by
  have h : (V m c main_v0 : Vec Ideal S4x1024x5632 .bf16) = truncf (F := Ideal) .bf16 (m ((c : Thread nD τ).loc main_arg2) : Vec Ideal S4x1024x5632 .f32) bitsLt_bf16_f32 := by
    simp only [V, hostOps0, List.flatten_cons, List.flatten_nil, List.append_nil, List.cons_append, List.nil_append]
    after_results_simp <;> rfl
  rw [h]; rfl

theorem V_main_v1 (c : Dev nD) (i : S4x2816x1024.Idx) : V m c main_v1 i = m ((c : Thread nD τ).loc main_arg3) i := by
  have h : (V m c main_v1 : Vec Ideal S4x2816x1024 .bf16) = truncf (F := Ideal) .bf16 (m ((c : Thread nD τ).loc main_arg3) : Vec Ideal S4x2816x1024 .f32) bitsLt_bf16_f32 := by
    simp only [V, hostOps0, List.flatten_cons, List.flatten_nil, List.append_nil, List.cons_append, List.nil_append]
    after_results_simp <;> rfl
  rw [h]; rfl

theorem V_main_v2 (c : Dev nD) (k : Fin 1024) : V m c main_v2 (ix2 0 k) = m ((c : Thread nD τ).loc main_arg1) (ix1 k) := by
  have h : V m c main_v2 = shapeCast S1x1024 (m ((c : Thread nD τ).loc main_arg1)) shapeCasts_S1024_S1x1024 := by
    simp only [V, hostOps0, List.flatten_cons, List.flatten_nil, List.append_nil, List.cons_append, List.nil_append]
    after_results_simp <;> rfl
  rw [h]; pointwise []

/-- Where each window's block lies at point `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 ∧ (cfg0.win 4).flush t = true :=
  (by decide +kernel : ∀ t : Fin grid0.N, _)

theorem emb4 (t : Fin 32) (r : Fin 512) (j : Fin 1024) :
    ((cfg0.win 4).blk t).view.emb (ix2 r j) = ix2 (⟨512 * t.val + r.val, by omega⟩ : Fin 16384) j := by
  obtain ⟨-, -, -, -, -, -, -, -, -, -, e0, e1, -⟩ := idx_facts t
  funext a; apply Fin.ext
  match a with
  | ⟨0, _⟩ => show win0_4.index t (0 : Fin 2) * 512 + 1 * r.val = 512 * t.val + r.val; omega
  | ⟨1, _⟩ => show win0_4.index t (1 : Fin 2) * 1024 + 1 * j.val = j.val; omega

theorem iblk0_apply (c : Dev nD) (t : Fin 32) (r : Fin 512) (j : Fin 1024) :
    iblk m c 0 t (ix2 r j) = m ((c : Thread nD τ).loc main_arg0) (ix2 (⟨512 * t.val + r.val, by omega⟩ : Fin 16384) j) := by
  have e : ((cfg0.win 0).blk t).view.emb (ix2 r j) = ix2 (⟨512 * t.val + r.val, by omega⟩ : Fin 16384) j := by
    obtain ⟨e0, e1, -⟩ := idx_facts t
    funext a; apply Fin.ext
    match a with
    | ⟨0, _⟩ => show win0_0.index t (0 : Fin 2) * 512 + 1 * r.val = 512 * t.val + r.val; omega
    | ⟨1, _⟩ => show win0_0.index t (1 : Fin 2) * 1024 + 1 * j.val = j.val; omega
  show V m c main_arg0 (((cfg0.win 0).blk t).view.emb (ix2 r j)) = _
  rw [e, V_main_arg0]

theorem iblk1_apply (c : Dev nD) (t : Fin 32) (j : Fin 1024) :
    iblk m c 1 t (ix2 0 j) = m ((c : Thread nD τ).loc main_arg1) (ix1 j) := by
  have e : ((cfg0.win 1).blk t).view.emb (ix2 0 j) = ix2 (0 : Fin 1) j := by
    obtain ⟨-, -, e0, e1, -⟩ := idx_facts t
    funext a; apply Fin.ext
    match a with
    | ⟨0, _⟩ => show win0_1.index t (0 : Fin 2) * 1 + 1 * 0 = 0; omega
    | ⟨1, _⟩ => show win0_1.index t (1 : Fin 2) * 1024 + 1 * j.val = j.val; omega
  show V m c main_v2 (((cfg0.win 1).blk t).view.emb (ix2 0 j)) = _
  rw [e, V_main_v2]

theorem iblk2_apply (c : Dev nD) (t : Fin 32) (d : Fin 1024) (k : Fin 5632) :
    iblk m c 2 t (ix3 0 d k) = m ((c : Thread nD τ).loc main_arg2) (ix3 0 d k) := by
  have e : ((cfg0.win 2).blk t).view.emb (ix3 0 d k) = ix3 (0 : Fin 4) d k := by
    obtain ⟨-, -, -, -, e0, e1, e2, -⟩ := idx_facts t
    funext a; apply Fin.ext
    match a with
    | ⟨0, _⟩ => show win0_2.index t (0 : Fin 3) * 1 + 1 * 0 = 0; omega
    | ⟨1, _⟩ => show win0_2.index t (1 : Fin 3) * 1024 + 1 * d.val = d.val; omega
    | ⟨2, _⟩ => show win0_2.index t (2 : Fin 3) * 5632 + 1 * k.val = k.val; omega
  show V m c main_v0 (((cfg0.win 2).blk t).view.emb (ix3 0 d k)) = _
  rw [e, V_main_v0]

theorem iblk3_apply (c : Dev nD) (t : Fin 32) (k : Fin 2816) (j : Fin 1024) :
    iblk m c 3 t (ix3 0 k j) = m ((c : Thread nD τ).loc main_arg3) (ix3 0 k j) := by
  have e : ((cfg0.win 3).blk t).view.emb (ix3 0 k j) = ix3 (0 : Fin 4) k j := by
    obtain ⟨-, -, -, -, -, -, -, e0, e1, e2, -⟩ := idx_facts t
    funext a; apply Fin.ext
    match a with
    | ⟨0, _⟩ => show win0_3.index t (0 : Fin 3) * 1 + 1 * 0 = 0; omega
    | ⟨1, _⟩ => show win0_3.index t (1 : Fin 3) * 2816 + 1 * k.val = k.val; omega
    | ⟨2, _⟩ => show win0_3.index t (2 : Fin 3) * 1024 + 1 * j.val = j.val; omega
  show V m c main_v1 (((cfg0.win 3).blk t).view.emb (ix3 0 k j)) = _
  rw [e, V_main_v1]

/-- The result array at row `512 t + r` and column `j`. -/
theorem final_blk (c : Dev nD) (t : Fin 32) (r : Fin 512) (j : Fin 1024) :
    (dats m 0 c).arrAt 4 cfg0.N (ix2 (⟨512 * t.val + r.val, by omega⟩ : Fin 16384) j)
      = half (fun k => m ((c : Thread nD τ).loc main_arg0) (ix2 (⟨512 * t.val + r.val, by omega⟩ : Fin 16384) k))
          (fun k => m ((c : Thread nD τ).loc main_arg1) (ix1 k))
          (fun d k => m ((c : Thread nD τ).loc main_arg2) (ix3 0 d k))
          (fun k j => m ((c : Thread nD τ).loc main_arg3) (ix3 0 k j)) j := by
  have b := congrFun ((Cert.FfnIdeal.Value.blocks4 m c t (idx_facts t).2.2.2.2.2.2.2.2.2.2.2.2).trans
    (Cert.FfnIdeal.Value.flushed4 m c t)) (ix2 r j)
  have b' : (dats m 0 c).arrAt 4 cfg0.N (((cfg0.win 4).blk t).view.emb (ix2 r j))
      = out0_4 (iblk m c 0 t) (iblk m c 1 t) (iblk m c 2 t) (iblk m c 3 t) (ix2 r j) := b
  rw [emb4, out_apply] at b'
  rw [b']
  simp only [iblk0_apply, iblk1_apply, iblk2_apply, iblk3_apply]

/-- The result array at any row. -/
theorem final_apply (c : Dev nD) (r : Fin 16384) (j : Fin 1024) :
    (dats m 0 c).arrAt 4 cfg0.N (ix2 r j)
      = half (fun k => m ((c : Thread nD τ).loc main_arg0) (ix2 r k))
          (fun k => m ((c : Thread nD τ).loc main_arg1) (ix1 k))
          (fun d k => m ((c : Thread nD τ).loc main_arg2) (ix3 0 d k))
          (fun k j => m ((c : Thread nD τ).loc main_arg3) (ix3 0 k j)) j := by
  have e : r = ⟨512 * (⟨r.val / 512, by omega⟩ : Fin 32).val + (⟨r.val % 512, by omega⟩ : Fin 512).val, by
      have := r.isLt; dsimp only; omega⟩ := Fin.ext (by dsimp only; omega)
  rw [e]
  exact final_blk m c _ _ j

end Cert.FfnIdeal.Block

end
-- ==== Proof.Ffn.Ref.lean ====
module

public import Idealize.ShloMosaic.Lib.Pointwise
public import proofs.«01_k».proof.Proof.Gen.FfnRefIdeal.Run
public import proofs.«01_k».proof.Proof.Gen.FfnRefIdeal.Read
public import proofs.«01_k».proof.Proof.Ffn.Math

@[expose] public section

set_option maxRecDepth 16384

noncomputable section

/-! The reference's feed-forward half-step read at an index: the row function of `FfnMath`. -/

namespace Cert.FfnRefIdeal.Block

open Idealize.ShloMosaic Cert.FfnRefIdeal Cert.FfnRefIdeal.Read FfnMath

theorem out_apply (x0 : Vec Ideal S16384x1024 .f32) (x1 : Vec Ideal S1024 .f32)
    (x2 : Vec Ideal S4x1024x5632 .f32) (x3 : Vec Ideal S4x2816x1024 .f32) (r : Fin 16384) (j : Fin 1024) :
    val_main_v25 (F := Ideal) x0 x1 x2 x3 (ix2 r j) = half (fun k => x0 (ix2 r k)) (fun k => x1 (ix1 k))
      (fun d k => x2 (ix3 0 d k)) (fun k j => x3 (ix3 0 k j)) j := by
  rw [← val_main_v25_eq]
  pointwise []
  rfl

end Cert.FfnRefIdeal.Block

end
-- ==== Proof.Ffn.Algebra.lean ====
module

public import proofs.«01_k».proof.Defs
public import proofs.«01_k».proof.Proof.Ffn.Array
public import proofs.«01_k».proof.Proof.Ffn.Ref

@[expose] public section

set_option maxRecDepth 16384

noncomputable section

/-! The kernel and the reference compute one array: both results, read at an index, are the row function of `FfnMath`. -/

namespace Cert.FfnIdeal.Block

open Idealize.ShloMosaic Idealize.ShloMosaic.TcCoe Idealize.SL.Sem

theorem algebraic : Cert.algebraic_FfnIdeal_FfnRefIdeal (hFfnIdeal := Cert.FfnIdeal.Gen.facts)
    (hFfnRefIdeal := Cert.FfnRefIdeal.Gen.facts) := by
  intro m g m' g' _ hagree
  refine ⟨fun c => (Cert.FfnIdeal.Gen.dats m 0 c).arrAt 4 Cert.FfnIdeal.cfg0.N, Cert.FfnIdeal.Value.run_blocks m g, ?_⟩
  refine (θ_run _ _ _).mono (fun r h c => ⟨(h c).1.trans ?_, (h c).2⟩) (Cert.FfnRefIdeal.Value.run (F := Ideal) m' g')
  obtain ⟨h0, h1, h2, h3⟩ := hagree c
  rw [Cert.FfnRefIdeal.Read.val_main_v25_eq]
  funext i
  idx_vars i
  refine (Cert.FfnRefIdeal.Block.out_apply _ _ _ _ _ _).trans ?_
  rw [h0, h1, h2, h3]
  exact (final_apply m c _ _).symm

end Cert.FfnIdeal.Block

end
-- ==== Proof.Last.Block.lean ====
module

public import Idealize.ShloMosaic.Lib.Pointwise
public import proofs.«01_k».proof.Proof.Gen.LastIdeal.Value
public import proofs.«01_k».proof.Proof.Ffn.Math

@[expose] public section

set_option maxRecDepth 16384

noncomputable section

/-! What the kernel's body leaves in one block of 512 rows, read at an index: the row function of `FfnMath`. -/

namespace Cert.LastIdeal.Block

open Idealize.ShloMosaic Cert.LastIdeal Cert.LastIdeal.Gen FfnMath

/-- The normalised rows of a block. -/
theorem pay2_apply (v0 : Vec Ideal S512x1024 .f32) (v1 : Vec Ideal S1x1024 .f32) (r : Fin 512) (d : Fin 1024) :
    k0_pay2 v0 v1 (ix2 r d) = nrm (fun k => v0 (ix2 r k)) (fun k => v1 (ix2 0 k)) d := by
  pointwise [k0_pay2]
  rfl

/-- The block that the body stores. -/
theorem out_apply (x0 : Vec Ideal S512x1024 .f32) (x1 : Vec Ideal S1x1024 .f32)
    (x2 : Vec Ideal S1x1024x5632 .bf16) (x3 : Vec Ideal S1x2816x1024 .bf16)
    (x4 : Vec Ideal S1x1024 .f32) (r : Fin 512) (j : Fin 1024) :
    out0_5 x0 x1 x2 x3 x4 (ix2 r j) = nrm (half (fun k => x0 (ix2 r k)) (fun k => x1 (ix2 0 k))
      (fun d k => x2 (ix3 0 d k)) (fun k j => x3 (ix3 0 k j))) (fun k => x4 (ix2 0 k)) j := by
  have hx : nrm (fun k => x0 (ix2 r k)) (fun k => x1 (ix2 0 k)) = fun d => k0_pay2 x0 x1 (ix2 r d) :=
    funext fun d => (pay2_apply x0 x1 r d).symm
  rw [funext (half_eq _ _ _ _), hx]
  unfold out0_5
  rw [View.canon_unit_zero (by decide)]
  pointwise [k0_pay1, k0_pay3, k0_pay4, k0_pay5, k0_pay6, k0_pay7, k0_pay8, k0_pay9, k0_pay10, k0_pay11, k0_pay12, k0_pay13, k0_pay14, k0_pay15]
  have h0 : View.ld x0 r0_0 = x0 := View.ld_unit_zero (by decide) _ _
  have h1 : View.ld x1 r0_1 = x1 := View.ld_unit_zero (by decide) _ _
  have h16 : k0_pay16 x0 x1 x2 x3 x4 = k0_pay2 x0 x1 := by unfold k0_pay16; rw [h0, h1]
  rw [h16, h0, h1]
  rfl

end Cert.LastIdeal.Block

end
-- ==== Proof.Last.Array.lean ====
module

public import proofs.«01_k».proof.Proof.Last.Block

@[expose] public section

set_option maxRecDepth 16384

noncomputable section

/-! The kernel's result array read at an index: row `512 t + r` is written by grid point `t`, from row `512 t + r` of the
    hidden state, the norm's scale and the layer's two weights. -/

namespace Cert.LastIdeal.Block

open Idealize.ShloMosaic Idealize.ShloMosaic.TcCoe Cert.LastIdeal Cert.LastIdeal.Gen FfnMath

variable (m : (ℓ : Loc nD τ sig) → Buf (Elt Ideal) ℓ)

theorem V_main_v0 (c : Dev nD) (i : S4x1024x5632.Idx) : V m c main_v0 i = m ((c : Thread nD τ).loc main_arg2) i := by
  have h : (V m c main_v0 : Vec Ideal S4x1024x5632 .bf16) = truncf (F := Ideal) .bf16 (m ((c : Thread nD τ).loc main_arg2) : Vec Ideal S4x1024x5632 .f32) bitsLt_bf16_f32 := by
    simp only [V, hostOps0, List.flatten_cons, List.flatten_nil, List.append_nil, List.cons_append, List.nil_append]
    after_results_simp <;> rfl
  rw [h]; rfl

theorem V_main_v1 (c : Dev nD) (i : S4x2816x1024.Idx) : V m c main_v1 i = m ((c : Thread nD τ).loc main_arg3) i := by
  have h : (V m c main_v1 : Vec Ideal S4x2816x1024 .bf16) = truncf (F := Ideal) .bf16 (m ((c : Thread nD τ).loc main_arg3) : Vec Ideal S4x2816x1024 .f32) bitsLt_bf16_f32 := by
    simp only [V, hostOps0, List.flatten_cons, List.flatten_nil, List.append_nil, List.cons_append, List.nil_append]
    after_results_simp <;> rfl
  rw [h]; rfl

theorem V_main_v2 (c : Dev nD) (k : Fin 1024) : V m c main_v2 (ix2 0 k) = m ((c : Thread nD τ).loc main_arg1) (ix1 k) := by
  have h : V m c main_v2 = shapeCast S1x1024 (m ((c : Thread nD τ).loc main_arg1)) shapeCasts_S1024_S1x1024 := by
    simp only [V, hostOps0, List.flatten_cons, List.flatten_nil, List.append_nil, List.cons_append, List.nil_append]
    after_results_simp <;> rfl
  rw [h]; pointwise []

theorem V_main_v3 (c : Dev nD) (k : Fin 1024) : V m c main_v3 (ix2 0 k) = m ((c : Thread nD τ).loc main_arg4) (ix1 k) := by
  have h : V m c main_v3 = shapeCast S1x1024 (m ((c : Thread nD τ).loc main_arg4)) shapeCasts_S1024_S1x1024 := by
    simp only [V, hostOps0, List.flatten_cons, List.flatten_nil, List.append_nil, List.cons_append, List.nil_append]
    after_results_simp <;> rfl
  rw [h]; pointwise []

/-- Where each window's block lies at point `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 3 ∧ win0_2.index t (1 : Fin 3) = 0 ∧ win0_2.index t (2 : Fin 3) = 0
    ∧ win0_3.index t (0 : Fin 3) = 3 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 ∧ (cfg0.win 5).flush t = true :=
  (by decide +kernel : ∀ t : Fin grid0.N, _)

theorem emb5 (t : Fin 32) (r : Fin 512) (j : Fin 1024) :
    ((cfg0.win 5).blk t).view.emb (ix2 r j) = ix2 (⟨512 * t.val + r.val, by omega⟩ : Fin 16384) j := by
  obtain ⟨-, -, -, -, -, -, -, -, -, -, -, -, e0, e1, -⟩ := idx_facts t
  funext a; apply Fin.ext
  match a with
  | ⟨0, _⟩ => show win0_5.index t (0 : Fin 2) * 512 + 1 * r.val = 512 * t.val + r.val; omega
  | ⟨1, _⟩ => show win0_5.index t (1 : Fin 2) * 1024 + 1 * j.val = j.val; omega

theorem iblk0_apply (c : Dev nD) (t : Fin 32) (r : Fin 512) (j : Fin 1024) :
    iblk m c 0 t (ix2 r j) = m ((c : Thread nD τ).loc main_arg0) (ix2 (⟨512 * t.val + r.val, by omega⟩ : Fin 16384) j) := by
  have e : ((cfg0.win 0).blk t).view.emb (ix2 r j) = ix2 (⟨512 * t.val + r.val, by omega⟩ : Fin 16384) j := by
    obtain ⟨e0, e1, -⟩ := idx_facts t
    funext a; apply Fin.ext
    match a with
    | ⟨0, _⟩ => show win0_0.index t (0 : Fin 2) * 512 + 1 * r.val = 512 * t.val + r.val; omega
    | ⟨1, _⟩ => show win0_0.index t (1 : Fin 2) * 1024 + 1 * j.val = j.val; omega
  show V m c main_arg0 (((cfg0.win 0).blk t).view.emb (ix2 r j)) = _
  rw [e, V_main_arg0]

theorem iblk1_apply (c : Dev nD) (t : Fin 32) (j : Fin 1024) :
    iblk m c 1 t (ix2 0 j) = m ((c : Thread nD τ).loc main_arg1) (ix1 j) := by
  have e : ((cfg0.win 1).blk t).view.emb (ix2 0 j) = ix2 (0 : Fin 1) j := by
    obtain ⟨-, -, e0, e1, -⟩ := idx_facts t
    funext a; apply Fin.ext
    match a with
    | ⟨0, _⟩ => show win0_1.index t (0 : Fin 2) * 1 + 1 * 0 = 0; omega
    | ⟨1, _⟩ => show win0_1.index t (1 : Fin 2) * 1024 + 1 * j.val = j.val; omega
  show V m c main_v2 (((cfg0.win 1).blk t).view.emb (ix2 0 j)) = _
  rw [e, V_main_v2]

theorem iblk2_apply (c : Dev nD) (t : Fin 32) (d : Fin 1024) (k : Fin 5632) :
    iblk m c 2 t (ix3 0 d k) = m ((c : Thread nD τ).loc main_arg2) (ix3 3 d k) := by
  have e : ((cfg0.win 2).blk t).view.emb (ix3 0 d k) = ix3 (3 : Fin 4) d k := by
    obtain ⟨-, -, -, -, e0, e1, e2, -⟩ := idx_facts t
    funext a; apply Fin.ext
    match a with
    | ⟨0, _⟩ => show win0_2.index t (0 : Fin 3) * 1 + 1 * 0 = 3; omega
    | ⟨1, _⟩ => show win0_2.index t (1 : Fin 3) * 1024 + 1 * d.val = d.val; omega
    | ⟨2, _⟩ => show win0_2.index t (2 : Fin 3) * 5632 + 1 * k.val = k.val; omega
  show V m c main_v0 (((cfg0.win 2).blk t).view.emb (ix3 0 d k)) = _
  rw [e, V_main_v0]

theorem iblk3_apply (c : Dev nD) (t : Fin 32) (k : Fin 2816) (j : Fin 1024) :
    iblk m c 3 t (ix3 0 k j) = m ((c : Thread nD τ).loc main_arg3) (ix3 3 k j) := by
  have e : ((cfg0.win 3).blk t).view.emb (ix3 0 k j) = ix3 (3 : Fin 4) k j := by
    obtain ⟨-, -, -, -, -, -, -, e0, e1, e2, -⟩ := idx_facts t
    funext a; apply Fin.ext
    match a with
    | ⟨0, _⟩ => show win0_3.index t (0 : Fin 3) * 1 + 1 * 0 = 3; omega
    | ⟨1, _⟩ => show win0_3.index t (1 : Fin 3) * 2816 + 1 * k.val = k.val; omega
    | ⟨2, _⟩ => show win0_3.index t (2 : Fin 3) * 1024 + 1 * j.val = j.val; omega
  show V m c main_v1 (((cfg0.win 3).blk t).view.emb (ix3 0 k j)) = _
  rw [e, V_main_v1]

theorem iblk4_apply (c : Dev nD) (t : Fin 32) (j : Fin 1024) :
    iblk m c 4 t (ix2 0 j) = m ((c : Thread nD τ).loc main_arg4) (ix1 j) := by
  have e : ((cfg0.win 4).blk t).view.emb (ix2 0 j) = ix2 (0 : Fin 1) j := by
    obtain ⟨-, -, -, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 1024 + 1 * j.val = j.val; omega
  show V m c main_v3 (((cfg0.win 4).blk t).view.emb (ix2 0 j)) = _
  rw [e, V_main_v3]

/-- The result array at row `512 t + r` and column `j`. -/
theorem final_blk (c : Dev nD) (t : Fin 32) (r : Fin 512) (j : Fin 1024) :
    (dats m 0 c).arrAt 5 cfg0.N (ix2 (⟨512 * t.val + r.val, by omega⟩ : Fin 16384) j)
      = nrm (half (fun k => m ((c : Thread nD τ).loc main_arg0) (ix2 (⟨512 * t.val + r.val, by omega⟩ : Fin 16384) k))
          (fun k => m ((c : Thread nD τ).loc main_arg1) (ix1 k))
          (fun d k => m ((c : Thread nD τ).loc main_arg2) (ix3 3 d k))
          (fun k j => m ((c : Thread nD τ).loc main_arg3) (ix3 3 k j)))
          (fun k => m ((c : Thread nD τ).loc main_arg4) (ix1 k)) j := by
  have b := congrFun ((Cert.LastIdeal.Value.blocks5 m c t (idx_facts t).2.2.2.2.2.2.2.2.2.2.2.2.2.2).trans
    (Cert.LastIdeal.Value.flushed5 m c t)) (ix2 r j)
  have b' : (dats m 0 c).arrAt 5 cfg0.N (((cfg0.win 5).blk t).view.emb (ix2 r j))
      = out0_5 (iblk m c 0 t) (iblk m c 1 t) (iblk m c 2 t) (iblk m c 3 t) (iblk m c 4 t) (ix2 r j) := b
  rw [emb5, out_apply] at b'
  rw [b']
  simp only [iblk0_apply, iblk1_apply, iblk2_apply, iblk3_apply, iblk4_apply]

/-- The result array at any row. -/
theorem final_apply (c : Dev nD) (r : Fin 16384) (j : Fin 1024) :
    (dats m 0 c).arrAt 5 cfg0.N (ix2 r j)
      = nrm (half (fun k => m ((c : Thread nD τ).loc main_arg0) (ix2 r k))
          (fun k => m ((c : Thread nD τ).loc main_arg1) (ix1 k))
          (fun d k => m ((c : Thread nD τ).loc main_arg2) (ix3 3 d k))
          (fun k j => m ((c : Thread nD τ).loc main_arg3) (ix3 3 k j)))
          (fun k => m ((c : Thread nD τ).loc main_arg4) (ix1 k)) j := by
  have e : r = ⟨512 * (⟨r.val / 512, by omega⟩ : Fin 32).val + (⟨r.val % 512, by omega⟩ : Fin 512).val, by
      have := r.isLt; dsimp only; omega⟩ := Fin.ext (by dsimp only; omega)
  rw [e]
  exact final_blk m c _ _ j

end Cert.LastIdeal.Block

end
-- ==== Proof.Last.Ref.lean ====
module

public import Idealize.ShloMosaic.Lib.Pointwise
public import proofs.«01_k».proof.Proof.Gen.LastRefIdeal.Run
public import proofs.«01_k».proof.Proof.Gen.LastRefIdeal.Read
public import proofs.«01_k».proof.Proof.Ffn.Math

@[expose] public section

set_option maxRecDepth 16384

noncomputable section

/-! The reference's feed-forward half-step read at an index: the row function of `FfnMath`. -/

namespace Cert.LastRefIdeal.Block

open Idealize.ShloMosaic Cert.LastRefIdeal Cert.LastRefIdeal.Read FfnMath

theorem out_apply (x0 : Vec Ideal S16384x1024 .f32) (x1 : Vec Ideal S1024 .f32)
    (x2 : Vec Ideal S4x1024x5632 .f32) (x3 : Vec Ideal S4x2816x1024 .f32)
    (x4 : Vec Ideal S1024 .f32) (r : Fin 16384) (j : Fin 1024) :
    val_main_v38 (F := Ideal) x0 x1 x2 x3 x4 (ix2 r j) = nrm (half (fun k => x0 (ix2 r k)) (fun k => x1 (ix1 k))
      (fun d k => x2 (ix3 3 d k)) (fun k j => x3 (ix3 3 k j))) (fun k => x4 (ix1 k)) j := by
  pointwise [val_main_v38, val_main_v37, val_main_v36, val_main_v35, val_main_v34, val_main_v33, val_main_v32, val_main_v31, val_main_cst_5, val_main_v30, val_main_v29, val_main_cst_4, val_main_v28, val_main_v27, val_main_cst_3, val_main_v26, val_main_v25, val_main_v24, val_main_v23, val_main_cst_2, val_main_v22, val_main_v21, val_main_v20, val_main_call0_v5, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

end Cert.LastRefIdeal.Block

end
-- ==== Proof.Last.Algebra.lean ====
module

public import proofs.«01_k».proof.Defs
public import proofs.«01_k».proof.Proof.Last.Array
public import proofs.«01_k».proof.Proof.Last.Ref

@[expose] public section

set_option maxRecDepth 16384

noncomputable section

/-! The kernel and the reference compute one array: both results, read at an index, are the row function of `FfnMath`. -/

namespace Cert.LastIdeal.Block

open Idealize.ShloMosaic Idealize.ShloMosaic.TcCoe Idealize.SL.Sem

theorem algebraic : Cert.algebraic_LastIdeal_LastRefIdeal (hLastIdeal := Cert.LastIdeal.Gen.facts)
    (hLastRefIdeal := Cert.LastRefIdeal.Gen.facts) := by
  intro m g m' g' _ hagree
  refine ⟨fun c => (Cert.LastIdeal.Gen.dats m 0 c).arrAt 5 Cert.LastIdeal.cfg0.N, Cert.LastIdeal.Value.run_blocks m g, ?_⟩
  refine (θ_run _ _ _).mono (fun r h c => ⟨(h c).1.trans ?_, (h c).2⟩) (Cert.LastRefIdeal.Value.run (F := Ideal) m' g')
  obtain ⟨h0, h1, h2, h3, h4⟩ := hagree c
  rw [Cert.LastRefIdeal.Read.val_main_v38_eq]
  funext i
  idx_vars i
  refine (Cert.LastRefIdeal.Block.out_apply _ _ _ _ _ _ _).trans ?_
  rw [h0, h1, h2, h3, h4]
  exact (final_apply m c _ _).symm

end Cert.LastIdeal.Block

end
-- ==== Proof.Lru.IdealBody.lean ====
module

public import proofs.«01_k».proof.Proof.Gen.LruIdeal.Frame
public import proofs.«01_k».proof.Proof.Gen.LruIdeal.Loops

@[expose] public section

set_option maxRecDepth 16384

noncomputable section

/-! One grid point of the recurrent mixer's kernel, run on whole buffers. There are two cases: the first point of a batch
    element, where the kernel clears the carried rows and the carried state, and every later point, where it does not. What
    the run stores into the result and into the four scratch buffers is found by the run, as lists of pieces. -/

namespace Cert.LruIdeal.Body

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the first point of a batch element. -/
@[irreducible] def first (c : Dev nD) (i : grid0.Coords) (hi : (Scalar.cmpi .ne (Scalar.extui (Scalar.cmpi .eq (BitVec.ofNat 32 (i 1).val) 0#32) : BitVec 32) 0#32 : BitVec 1) = 1#1) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S520x1024 .f32) (harg14 : arg14.IsWhole) (arg15 : Memref sig .tc .vmem S4096x128 .f32) (harg15 : arg15.IsWhole) (arg16 : Memref sig .tc .vmem S4096x128 .f32) (harg16 : arg16.IsWhole) (arg17 : Memref sig .tc .vmem S8x128 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (L13 : List (View.Piece (Elt F) S1x512x1024 .f32)) (L14 : List (View.Piece (Elt F) S520x1024 .f32)) (L15 : List (View.Piece (Elt F) S4096x128 .f32)) (L16 : List (View.Piece (Elt F) S4096x128 .f32)), { L17 : List (View.Piece (Elt F) S8x128 .f32) //
      ∀ (E : Set ℕ) (K : PUnit → sProp 𝕄), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} arg13.view.writes (Elt F) f13 L13) ∗ (arg14.view.loc (c : Thread nD τ) ↦[arg14.view.set]{fullShare} arg14.view.writes (Elt F) (arg14.view.junk) L14) ∗ (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} arg17.view.writes (Elt F) (arg17.view.junk) L17)) -∗ K ⟨⟩))
      ⊢ wp frame (wpE (defs₀ (F := F)) Variants.none c none) E (cc0_lru_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lru_mixer_eq_skeleton]; unfold cc0_lru_mixer_skel
    simp only [k0_part1_eq_skeleton, k0_part2_eq_skeleton, k0_part3_eq_skeleton, k0_part4_eq_skeleton, k0_part5_eq_skeleton, k0_part6_eq_skeleton, k0_part7_eq_skeleton]
    iintro ⟨H2, H3, H4, H5, H6, H7, H8, H9, H10, H11, H12, H13, H14, H15, H16, H17, Hk⟩
    sl_exec (disch := sl_exact hi)
    sl_step
    iapply Hk
    sl_close

set_option maxHeartbeats 4000000 in
/-- The run at a later point of a batch element. -/
@[irreducible] def later (c : Dev nD) (i : grid0.Coords) (hi : ¬ (Scalar.cmpi .ne (Scalar.extui (Scalar.cmpi .eq (BitVec.ofNat 32 (i 1).val) 0#32) : BitVec 32) 0#32 : BitVec 1) = 1#1) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S520x1024 .f32) (harg14 : arg14.IsWhole) (arg15 : Memref sig .tc .vmem S4096x128 .f32) (harg15 : arg15.IsWhole) (arg16 : Memref sig .tc .vmem S4096x128 .f32) (harg16 : arg16.IsWhole) (arg17 : Memref sig .tc .vmem S8x128 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (L13 : List (View.Piece (Elt F) S1x512x1024 .f32)) (L14 : List (View.Piece (Elt F) S520x1024 .f32)) (L15 : List (View.Piece (Elt F) S4096x128 .f32)) (L16 : List (View.Piece (Elt F) S4096x128 .f32)), { L17 : List (View.Piece (Elt F) S8x128 .f32) //
      ∀ (E : Set ℕ) (K : PUnit → sProp 𝕄), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} arg13.view.writes (Elt F) f13 L13) ∗ (arg14.view.loc (c : Thread nD τ) ↦[arg14.view.set]{fullShare} arg14.view.writes (Elt F) (arg14.view.junk) L14) ∗ (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17)) -∗ K ⟨⟩))
      ⊢ wp frame (wpE (defs₀ (F := F)) Variants.none c none) E (cc0_lru_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lru_mixer_eq_skeleton]; unfold cc0_lru_mixer_skel
    simp only [k0_part1_eq_skeleton, k0_part2_eq_skeleton, k0_part3_eq_skeleton, k0_part4_eq_skeleton, k0_part5_eq_skeleton, k0_part6_eq_skeleton, k0_part7_eq_skeleton]
    iintro ⟨H2, H3, H4, H5, H6, H7, H8, H9, H10, H11, H12, H13, H14, H15, H16, H17, Hk⟩
    sl_exec (disch := sl_exact hi)
    sl_step
    iapply Hk
    sl_close

end Cert.LruIdeal.Body

end
-- ==== Proof.Lru.IdealFrame.lean ====
module

public import proofs.«01_k».proof.Proof.Lru.IdealBody

@[expose] public section

set_option maxRecDepth 16384

noncomputable section

/-! The frame of the recurrent mixer's kernel: it runs to its end, it leaves every argument array as it found it and every
    semaphore counter at zero. The body is run at any contents of its buffers, so nothing is recorded of what it leaves in
    them. -/

namespace Cert.LruIdeal.Frame

open Cert.LruIdeal Cert.LruIdeal.Gen Cert.LruIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are recorded. -/
def anyContents : Fin 12 → Bool := fun _ => true

/-- The pipeline's proof data: the arrays as the kernel's region finds them, the scratch buffers at any contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- Between two points the four scratch buffers are held whole at some contents, beside the generator register. -/
theorem between_eq (c : Dev nD) : (Pipeline.ΦA (Val := Elt F) spec0 c : sProp 𝕄)
    = iprop(((∃ d, owns (c : Thread nD τ) (Memref.whole cc0_scratch0 : Memref sig .tc .vmem S520x1024 .f32) fullShare d)
        ∗ (∃ d, owns (c : Thread nD τ) (Memref.whole cc0_scratch1 : Memref sig .tc .vmem S4096x128 .f32) fullShare d)
        ∗ (∃ d, owns (c : Thread nD τ) (Memref.whole cc0_scratch2 : Memref sig .tc .vmem S4096x128 .f32) fullShare d)
        ∗ (∃ d, owns (c : Thread nD τ) (Memref.whole cc0_scratch3 : Memref sig .tc .vmem S8x128 .f32) fullShare d))
      ∗ (∃ g, prngReg c g)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 4000000 in
/-- The body at any point, by whether it is the first of its batch element. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq]
  unfold owns
  iintro ⟨⟨⟨⟨%d14, %f14, -, H14⟩, ⟨%d15, %f15, -, H15⟩, ⟨%d16, %f16, -, H16⟩, ⟨%d17, %f17, -, H17⟩⟩, Hg⟩, Ho, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩
  by_cases hi : (Scalar.cmpi .ne (Scalar.extui (Scalar.cmpi .eq (BitVec.ofNat 32 ((grid0.coords t) 1).val) 0#32) : BitVec 32) 0#32 : BitVec 1) = 1#1
  ·
    iapply ((first c (grid0.coords t) hi _ _ _ _ _ _ _ _ _ _ _ _ _ _ _ _ _ _ _ _ _ _ _ _ _ _ _ _ _ _ _ _ f2 f3 f4 f5 f6 f7 f8 f9 f10 f11 f12 f13 f14 f15 f16 f17).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H14 H15 H16 H17 Hg]
    · isplitl [H14 H15 H16 H17]
      · isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        iexists _, _; isplitr; swap; · iexact H17
        ipureintro; rfl
      iexact Hg
    isplitl [Ho]; · iexact Ho
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  ·
    iapply ((later c (grid0.coords t) hi _ _ _ _ _ _ _ _ _ _ _ _ _ _ _ _ _ _ _ _ _ _ _ _ _ _ _ _ _ _ _ _ f2 f3 f4 f5 f6 f7 f8 f9 f10 f11 f12 f13 f14 f15 f16 f17).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H14 H15 H16 H17 Hg]
    · isplitl [H14 H15 H16 H17]
      · isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        iexists _, _; isplitr; swap; · iexact H17
        ipureintro; rfl
      iexact Hg
    isplitl [Ho]; · iexact Ho
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ anyContents := fun t => by
  rw [bigSep_W0, bigSep_W0, defs₀_row]
  exact triple_restated (sound_body m c t) rfl .rfl fun _ => .rfl

/-- The only buffer written after the region is the reshaped result. -/
theorem tail_writes : ∀ ops ∈ ([hostOps1] : List (List (HloOp τ sig (Elt F)))), ∀ op ∈ ops, ∀ b : Ref sig .tc,
    Proc.devRef .tc b ∈ op.writes → b ∈ ({main_v11} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb ⊢
  by_contra h; exact StableHlo.devRef_ne_of_ne h hb

set_option backward.isDefEq.respectTransparency.types false in
set_option maxHeartbeats 800000 in
theorem run_main : θ_run defs (onTc (τ := τ) (main (F := F))) (s₀ m ρ)
    (fun r => Pipeline.RDat.FramePostR (cfgs 0) (fun c => (dats m 0 c).toRForget anyContents) {main_v11} (V m) r
      ∧ r.2.sem = fun _ => 0) :=
  Pipeline.θ_run_frame_around_T_forget (Q' := _) cfgs (dats m) (0 : Fin 1) launch0 defs₀ Variants.none anyContents {main_v11} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1.arr_in c 3 rfl)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c)⟩, h.2⟩) (run_main m ρ)

end Cert.LruIdeal.Frame

end
-- ==== Proof.Lru.Math.lean ====
module

public import Idealize.ShloMosaic.Lib.Pointwise
public import proofs.«01_k».proof.Proof.Ffn.Math

@[expose] public section

noncomputable section

/-! The mathematics of the recurrent token mixer, with no program in sight: the two branches of a normalised row, the
    causal convolution over four rows, the two gates (block-diagonal products), the decay, the gated input, the linear
    recurrence over the rows of one batch element, and the output row. -/

namespace LruMath

open Idealize.ShloMosaic FfnMath

/-- The mixer's weights, entry by entry. -/
structure Par where
  g : Fin 1024 → EReal
  wi : Fin 1024 → Fin 2048 → EReal
  cw : Fin 4 → Fin 1024 → EReal
  cb : Fin 1024 → EReal
  wa : Fin 4 → Fin 256 → Fin 256 → EReal
  ba : Fin 1024 → EReal
  wx : Fin 4 → Fin 256 → Fin 256 → EReal
  bx : Fin 1024 → EReal
  lam : Fin 1024 → EReal
  wo : Fin 1024 → Fin 1024 → EReal

/-- The two branches of a row side by side: the normalised row times the input weight. -/
def both (p : Par) (x : Fin 1024 → EReal) (k : Fin 2048) : EReal := ∑ d, nrm x p.g d * p.wi d k

/-- The recurrent branch: the second half. -/
def rnn (p : Par) (x : Fin 1024 → EReal) (j : Fin 1024) : EReal := both p x ⟨1024 + j.1, by omega⟩

/-- The tanh form of the Gaussian unit, factors in the kernel's order. -/
def gelu (z : EReal) : EReal :=
  Ideal.ofBits .f32 0x3F000000#32 * z * (1
    + Ideal.tanh (Ideal.ofBits .f32 0x3F4C422A#32 * (z + Ideal.ofBits .f32 0x3D372713#32 * (z * z * z))))

/-- The convolution at one entry: the bias first, then the four rows in order of time. -/
def conv (p : Par) (u0 u1 u2 u3 : Fin 1024 → EReal) (j : Fin 1024) : EReal :=
  p.cb j + p.cw 0 j * u0 j + p.cw 1 j * u1 j + p.cw 2 j * u2 j + p.cw 3 j * u3 j

/-- Column `j`'s block of 256 columns, and its place in the block. -/
def blk (j : Fin 1024) : Fin 4 := ⟨j.1 / 256, by omega⟩
def pos (j : Fin 1024) : Fin 256 := ⟨j.1 % 256, by omega⟩
/-- Column `c` of block `n`. -/
def col (n : Fin 4) (c : Fin 256) : Fin 1024 := ⟨256 * n.1 + c.1, by omega⟩

/-- A gate at one entry: the logistic of the row's block times the block's weight, plus the bias. -/
def gate (w : Fin 4 → Fin 256 → Fin 256 → EReal) (b v : Fin 1024 → EReal) (j : Fin 1024) : EReal :=
  Ideal.logistic (∑ c, v (col (blk j) c) * w (blk j) c (pos j) + b j)

/-- `log(1 + exp(-t))`, as the kernel writes it. -/
def softplusNeg (t : EReal) : EReal := max (0 - t) 0 + Ideal.log1p (Ideal.exp (0 - max t (-t)))

/-- The decay's logarithm at one entry of a row `v` of the convolution. -/
def logA (p : Par) (v : Fin 1024 → EReal) (j : Fin 1024) : EReal :=
  Ideal.ofBits .f32 0xC1000000#32 * gate p.wa p.ba v j * softplusNeg (p.lam j)

/-- The decay. -/
def dec (p : Par) (v : Fin 1024 → EReal) (j : Fin 1024) : EReal := Ideal.exp (logA p v j)

/-- The gated input, with the decay's complement in the kernel's form. -/
def inp (p : Par) (v : Fin 1024 → EReal) (j : Fin 1024) : EReal :=
  gate p.wx p.bx v j * v j * Ideal.sqrt ((0 - Ideal.tanh (logA p v j))
    * (dec p v j * dec p v j + 1))

/-- The output row: the row itself plus the gated states times the output weight. -/
def outRow (p : Par) (x s : Fin 1024 → EReal) (j : Fin 1024) : EReal :=
  x j + ∑ k : Fin 1024, gelu (both p x ⟨k.1, by omega⟩) * s k * p.wo k j

/-- The convolution's row `r` when the branch's rows are `U 0, U 1, …`, the first eight standing before row 0. -/
def cv (p : Par) (U : ℕ → Fin 1024 → EReal) (r : ℕ) (j : Fin 1024) : EReal :=
  conv p (U (r + 5)) (U (r + 6)) (U (r + 7)) (U (r + 8)) j

/-- `S` runs the recurrence over the rows `U` for `n` rows. -/
def Runs (p : Par) (U S : ℕ → Fin 1024 → EReal) (n : ℕ) : Prop :=
  ∀ r < n, ∀ j, S (r + 1) j = dec p (cv p U r) j * S r j + inp p (cv p U r) j

/-- The state after `n` rows, from zero. -/
def state (p : Par) (U : ℕ → Fin 1024 → EReal) : ℕ → Fin 1024 → EReal
  | 0 => fun _ => 0
  | n + 1 => fun j => dec p (cv p U n) j * state p U n j + inp p (cv p U n) j

/-- A run of the state over a segment of the rows is a run over the segment's rows. -/
theorem state_runs (p : Par) (U : ℕ → Fin 1024 → EReal) (o n : ℕ) :
    Runs p (fun q => U (o + q)) (fun r => state p U (o + r)) n := fun _ _ _ => rfl

end LruMath

end
-- ==== Proof.Lru.IdealHost.lean ====
module

public import proofs.«01_k».proof.Proof.Gen.LruIdeal.Frame
public import Idealize.ShloMosaic.Lib.Pointwise
public import proofs.«01_k».proof.Proof.Lru.Math

@[expose] public section

set_option maxRecDepth 16384

noncomputable section

/-! The arrays that the mixer's kernel reads, entry by entry, in terms of the arguments, and the blocks of them that a grid
    point is given. -/

namespace Cert.LruIdeal.Block

open Cert.LruIdeal Cert.LruIdeal.Gen
open Idealize.ShloMosaic Idealize.ShloMosaic.TcCoe FfnMath LruMath

variable (m : (ℓ : Loc nD τ sig) → Buf (Elt Ideal) ℓ)

/-- The weights among the arguments. -/
def par (c : Dev nD) : Par where
  g j := m ((c : Thread nD τ).loc main_arg1) (ix1 j)
  wi d k := m ((c : Thread nD τ).loc main_arg2) (ix2 d k)
  cw k j := m ((c : Thread nD τ).loc main_arg3) (ix2 k j)
  cb j := m ((c : Thread nD τ).loc main_arg4) (ix1 j)
  wa n a b := m ((c : Thread nD τ).loc main_arg5) (ix3 n a b)
  ba j := m ((c : Thread nD τ).loc main_arg6) (ix2 (blk j) (pos j))
  wx n a b := m ((c : Thread nD τ).loc main_arg7) (ix3 n a b)
  bx j := m ((c : Thread nD τ).loc main_arg8) (ix2 (blk j) (pos j))
  lam j := m ((c : Thread nD τ).loc main_arg9) (ix1 j)
  wo k j := m ((c : Thread nD τ).loc main_arg10) (ix2 k j)

/-- Row `l` of batch element `b` of the hidden state. -/
def xrow (c : Dev nD) (b l : ℕ) (j : Fin 1024) : EReal :=
  if h : 8192 * b + l < 16384 then m ((c : Thread nD τ).loc main_arg0) (ix2 (⟨8192 * b + l, h⟩ : Fin 16384) j) else 0

/-- The branch's rows of a batch element, eight rows of zeros before them. -/
def rows (c : Dev nD) (b q : ℕ) (j : Fin 1024) : EReal := if q < 8 then 0 else rnn (par m c) (xrow m c b (q - 8)) j

/-- The state of a batch element after `n` of its rows. -/
def st (c : Dev nD) (b n : ℕ) (j : Fin 1024) : EReal := state (par m c) (rows m c b) n j

theorem V_main_v0 (c : Dev nD) (i : S1024x2048.Idx) : V m c main_v0 i = m ((c : Thread nD τ).loc main_arg2) i := by
  have h : (V m c main_v0 : Vec Ideal S1024x2048 .bf16) = truncf (F := Ideal) .bf16 (m ((c : Thread nD τ).loc main_arg2) : Vec Ideal S1024x2048 .f32) bitsLt_bf16_f32 := by
    simp only [V, V0, hostOps0, List.flatten_cons, List.flatten_nil, List.append_nil, List.cons_append, List.nil_append]
    after_results_simp <;> rfl
  rw [h]; rfl

theorem V_main_v1 (c : Dev nD) (i : S4x256x256.Idx) : V m c main_v1 i = m ((c : Thread nD τ).loc main_arg5) i := by
  have h : (V m c main_v1 : Vec Ideal S4x256x256 .bf16) = truncf (F := Ideal) .bf16 (m ((c : Thread nD τ).loc main_arg5) : Vec Ideal S4x256x256 .f32) bitsLt_bf16_f32 := by
    simp only [V, V0, hostOps0, List.flatten_cons, List.flatten_nil, List.append_nil, List.cons_append, List.nil_append]
    after_results_simp <;> rfl
  rw [h]; rfl

theorem V_main_v2 (c : Dev nD) (i : S4x256x256.Idx) : V m c main_v2 i = m ((c : Thread nD τ).loc main_arg7) i := by
  have h : (V m c main_v2 : Vec Ideal S4x256x256 .bf16) = truncf (F := Ideal) .bf16 (m ((c : Thread nD τ).loc main_arg7) : Vec Ideal S4x256x256 .f32) bitsLt_bf16_f32 := by
    simp only [V, V0, hostOps0, List.flatten_cons, List.flatten_nil, List.append_nil, List.cons_append, List.nil_append]
    after_results_simp <;> rfl
  rw [h]; rfl

theorem V_main_v3 (c : Dev nD) (i : S1024x1024.Idx) : V m c main_v3 i = m ((c : Thread nD τ).loc main_arg10) i := by
  have h : (V m c main_v3 : Vec Ideal S1024x1024 .bf16) = truncf (F := Ideal) .bf16 (m ((c : Thread nD τ).loc main_arg10) : Vec Ideal S1024x1024 .f32) bitsLt_bf16_f32 := by
    simp only [V, V0, hostOps0, List.flatten_cons, List.flatten_nil, List.append_nil, List.cons_append, List.nil_append]
    after_results_simp <;> rfl
  rw [h]; rfl

theorem V_main_v4 (c : Dev nD) (b : Fin 2) (l : Fin 8192) (j : Fin 1024) : V m c main_v4 (ix3 b l j) = m ((c : Thread nD τ).loc main_arg0) (ix2 (⟨8192 * b.1 + l.1, by omega⟩ : Fin 16384) j) := by
  have h : V m c main_v4 = shapeCast S2x8192x1024 (m ((c : Thread nD τ).loc main_arg0)) shapeCasts_S16384x1024_S2x8192x1024 := by
    simp only [V, V0, hostOps0, List.flatten_cons, List.flatten_nil, List.append_nil, List.cons_append, List.nil_append]
    after_results_simp <;> rfl
  rw [h]
  refine shapeCast_apply _ _ _ _ ?_
  refine (Shape.rowMajor_val_two _).trans (Eq.trans ?_ (Shape.rowMajor_val_three _).symm)
  show (8192 * b.1 + l.1) * 1024 + j.1 = (b.1 * 8192 + l.1) * 1024 + j.1
  omega

theorem V_main_v5 (c : Dev nD) (j : Fin 1024) : V m c main_v5 (ix2 0 j) = m ((c : Thread nD τ).loc main_arg1) (ix1 j) := by
  have h : V m c main_v5 = shapeCast S1x1024 (m ((c : Thread nD τ).loc main_arg1)) shapeCasts_S1024_S1x1024 := by
    simp only [V, V0, hostOps0, List.flatten_cons, List.flatten_nil, List.append_nil, List.cons_append, List.nil_append]
    after_results_simp <;> rfl
  rw [h]; pointwise []

theorem V_main_v6 (c : Dev nD) (j : Fin 1024) : V m c main_v6 (ix2 0 j) = m ((c : Thread nD τ).loc main_arg4) (ix1 j) := by
  have h : V m c main_v6 = shapeCast S1x1024 (m ((c : Thread nD τ).loc main_arg4)) shapeCasts_S1024_S1x1024 := by
    simp only [V, V0, hostOps0, List.flatten_cons, List.flatten_nil, List.append_nil, List.cons_append, List.nil_append]
    after_results_simp <;> rfl
  rw [h]; pointwise []

theorem V_main_v9 (c : Dev nD) (j : Fin 1024) : V m c main_v9 (ix2 0 j) = m ((c : Thread nD τ).loc main_arg9) (ix1 j) := by
  have h : V m c main_v9 = shapeCast S1x1024 (m ((c : Thread nD τ).loc main_arg9)) shapeCasts_S1024_S1x1024 := by
    simp only [V, V0, hostOps0, List.flatten_cons, List.flatten_nil, List.append_nil, List.cons_append, List.nil_append]
    after_results_simp <;> rfl
  rw [h]; pointwise []

theorem V_main_v7 (c : Dev nD) (j : Fin 1024) : V m c main_v7 (ix2 0 j) = m ((c : Thread nD τ).loc main_arg6) (ix2 (blk j) (pos j)) := by
  have h : V m c main_v7 = shapeCast S1x1024 (m ((c : Thread nD τ).loc main_arg6)) shapeCasts_S4x256_S1x1024 := by
    simp only [V, V0, hostOps0, List.flatten_cons, List.flatten_nil, List.append_nil, List.cons_append, List.nil_append]
    after_results_simp <;> rfl
  rw [h]
  refine shapeCast_apply _ _ _ _ ?_
  refine (Shape.rowMajor_val_two _).trans (Eq.trans ?_ (Shape.rowMajor_val_two _).symm)
  show j.1 / 256 * 256 + j.1 % 256 = 0 * 1024 + j.1
  omega

theorem V_main_v8 (c : Dev nD) (j : Fin 1024) : V m c main_v8 (ix2 0 j) = m ((c : Thread nD τ).loc main_arg8) (ix2 (blk j) (pos j)) := by
  have h : V m c main_v8 = shapeCast S1x1024 (m ((c : Thread nD τ).loc main_arg8)) shapeCasts_S4x256_S1x1024 := by
    simp only [V, V0, hostOps0, List.flatten_cons, List.flatten_nil, List.append_nil, List.cons_append, List.nil_append]
    after_results_simp <;> rfl
  rw [h]
  refine shapeCast_apply _ _ _ _ ?_
  refine (Shape.rowMajor_val_two _).trans (Eq.trans ?_ (Shape.rowMajor_val_two _).symm)
  show j.1 / 256 * 256 + j.1 % 256 = 0 * 1024 + j.1
  omega

/-- Where each window's block lies at point `t`. -/
theorem idx_facts : ∀ t : Fin cfg0.N, win0_0.index t (0 : Fin 3) = t.val / 16
    ∧ win0_0.index t (1 : Fin 3) = t.val % 16
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 3) = t.val / 16
    ∧ win0_11.index t (1 : Fin 3) = t.val % 16
    ∧ win0_11.index t (2 : Fin 3) = 0
    ∧ (cfg0.win 11).flush t = true :=
  (by decide +kernel : ∀ t : Fin grid0.N, _)

theorem iblk0_apply (c : Dev nD) (t : Fin 32) (r : Fin 512) (j : Fin 1024) :
    iblk m c 0 t (ix3 0 r j) = xrow m c (t.1 / 16) (512 * (t.1 % 16) + r.1) j := by
  have e : ((cfg0.win 0).blk t).view.emb (ix3 0 r j) = (ix3 (⟨t.1 / 16, by omega⟩ : Fin 2) (⟨512 * (t.1 % 16) + r.1, by omega⟩ : Fin 8192) j) := by
    obtain ⟨e0, e1, e2, -⟩ := idx_facts t
    funext a; apply Fin.ext
    match a with
    | ⟨0, _⟩ => show win0_0.index t (0 : Fin 3) * 1 + 1 * 0 = t.1 / 16; omega
    | ⟨1, _⟩ => show win0_0.index t (1 : Fin 3) * 512 + 1 * r.1 = 512 * (t.1 % 16) + r.1; omega
    | ⟨2, _⟩ => show win0_0.index t (2 : Fin 3) * 1024 + 1 * j.1 = j.1; omega
  show V m c main_v4 (((cfg0.win 0).blk t).view.emb (ix3 0 r j)) = _
  rw [e, V_main_v4]
  unfold xrow
  rw [dif_pos (by omega)]

theorem iblk1_apply (c : Dev nD) (t : Fin 32) (j : Fin 1024) :
    iblk m c 1 t (ix2 0 j) = (par m c).g j := by
  have e : ((cfg0.win 1).blk t).view.emb (ix2 0 j) = ix2 (0 : Fin 1) j := by
    obtain ⟨-, -, -, e0, e1, -⟩ := idx_facts t
    funext a; apply Fin.ext
    match a with
    | ⟨0, _⟩ => show win0_1.index t (0 : Fin 2) * 1 + 1 * 0 = 0; omega
    | ⟨1, _⟩ => show win0_1.index t (1 : Fin 2) * 1024 + 1 * j.1 = j.1; omega
  show V m c main_v5 (((cfg0.win 1).blk t).view.emb (ix2 0 j)) = _
  rw [e, V_main_v5]; rfl

theorem iblk4_apply (c : Dev nD) (t : Fin 32) (j : Fin 1024) :
    iblk m c 4 t (ix2 0 j) = (par m c).cb j := by
  have e : ((cfg0.win 4).blk t).view.emb (ix2 0 j) = ix2 (0 : Fin 1) j := by
    obtain ⟨-, -, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 1024 + 1 * j.1 = j.1; omega
  show V m c main_v6 (((cfg0.win 4).blk t).view.emb (ix2 0 j)) = _
  rw [e, V_main_v6]; rfl

theorem iblk6_apply (c : Dev nD) (t : Fin 32) (j : Fin 1024) :
    iblk m c 6 t (ix2 0 j) = (par m c).ba j := by
  have e : ((cfg0.win 6).blk t).view.emb (ix2 0 j) = ix2 (0 : Fin 1) j := by
    obtain ⟨-, -, -, -, -, -, -, -, -, -, -, -, -, -, e0, e1, -⟩ := idx_facts t
    funext a; apply Fin.ext
    match a with
    | ⟨0, _⟩ => show win0_6.index t (0 : Fin 2) * 1 + 1 * 0 = 0; omega
    | ⟨1, _⟩ => show win0_6.index t (1 : Fin 2) * 1024 + 1 * j.1 = j.1; omega
  show V m c main_v7 (((cfg0.win 6).blk t).view.emb (ix2 0 j)) = _
  rw [e, V_main_v7]; rfl

theorem iblk8_apply (c : Dev nD) (t : Fin 32) (j : Fin 1024) :
    iblk m c 8 t (ix2 0 j) = (par m c).bx j := by
  have e : ((cfg0.win 8).blk t).view.emb (ix2 0 j) = ix2 (0 : Fin 1) j := by
    obtain ⟨-, -, -, -, -, -, -, -, -, -, -, -, -, -, -, -, -, -, -, e0, e1, -⟩ := idx_facts t
    funext a; apply Fin.ext
    match a with
    | ⟨0, _⟩ => show win0_8.index t (0 : Fin 2) * 1 + 1 * 0 = 0; omega
    | ⟨1, _⟩ => show win0_8.index t (1 : Fin 2) * 1024 + 1 * j.1 = j.1; omega
  show V m c main_v8 (((cfg0.win 8).blk t).view.emb (ix2 0 j)) = _
  rw [e, V_main_v8]; rfl

theorem iblk9_apply (c : Dev nD) (t : Fin 32) (j : Fin 1024) :
    iblk m c 9 t (ix2 0 j) = (par m c).lam j := by
  have e : ((cfg0.win 9).blk t).view.emb (ix2 0 j) = ix2 (0 : Fin 1) j := by
    obtain ⟨-, -, -, -, -, -, -, -, -, -, -, -, -, -, -, -, -, -, -, -, -, e0, e1, -⟩ := idx_facts t
    funext a; apply Fin.ext
    match a with
    | ⟨0, _⟩ => show win0_9.index t (0 : Fin 2) * 1 + 1 * 0 = 0; omega
    | ⟨1, _⟩ => show win0_9.index t (1 : Fin 2) * 1024 + 1 * j.1 = j.1; omega
  show V m c main_v9 (((cfg0.win 9).blk t).view.emb (ix2 0 j)) = _
  rw [e, V_main_v9]; rfl

theorem iblk2_apply (c : Dev nD) (t : Fin 32) (d : Fin 1024) (k : Fin 2048) :
    iblk m c 2 t (ix2 d k) = (par m c).wi d k := by
  have e : ((cfg0.win 2).blk t).view.emb (ix2 d k) = ix2 d k := by
    obtain ⟨-, -, -, -, -, e0, e1, -⟩ := idx_facts t
    funext a; apply Fin.ext
    match a with
    | ⟨0, _⟩ => show win0_2.index t (0 : Fin 2) * 1024 + 1 * d.1 = d.1; omega
    | ⟨1, _⟩ => show win0_2.index t (1 : Fin 2) * 2048 + 1 * k.1 = k.1; omega
  show V m c main_v0 (((cfg0.win 2).blk t).view.emb (ix2 d k)) = _
  rw [e, V_main_v0]; rfl

theorem iblk3_apply (c : Dev nD) (t : Fin 32) (d : Fin 4) (k : Fin 1024) :
    iblk m c 3 t (ix2 d k) = (par m c).cw d k := by
  have e : ((cfg0.win 3).blk t).view.emb (ix2 d k) = ix2 d k := by
    obtain ⟨-, -, -, -, -, -, -, e0, e1, -⟩ := idx_facts t
    funext a; apply Fin.ext
    match a with
    | ⟨0, _⟩ => show win0_3.index t (0 : Fin 2) * 4 + 1 * d.1 = d.1; omega
    | ⟨1, _⟩ => show win0_3.index t (1 : Fin 2) * 1024 + 1 * k.1 = k.1; omega
  show V m c main_arg3 (((cfg0.win 3).blk t).view.emb (ix2 d k)) = _
  rw [e, V_main_arg3]; rfl

theorem iblk10_apply (c : Dev nD) (t : Fin 32) (d : Fin 1024) (k : Fin 1024) :
    iblk m c 10 t (ix2 d k) = (par m c).wo d k := by
  have e : ((cfg0.win 10).blk t).view.emb (ix2 d k) = ix2 d k := by
    obtain ⟨-, -, -, -, -, -, -, -, -, -, -, -, -, -, -, -, -, -, -, -, -, -, -, e0, e1, -⟩ := idx_facts t
    funext a; apply Fin.ext
    match a with
    | ⟨0, _⟩ => show win0_10.index t (0 : Fin 2) * 1024 + 1 * d.1 = d.1; omega
    | ⟨1, _⟩ => show win0_10.index t (1 : Fin 2) * 1024 + 1 * k.1 = k.1; omega
  show V m c main_v3 (((cfg0.win 10).blk t).view.emb (ix2 d k)) = _
  rw [e, V_main_v3]; rfl

theorem iblk5_apply (c : Dev nD) (t : Fin 32) (n : Fin 4) (a b : Fin 256) :
    iblk m c 5 t (ix3 n a b) = (par m c).wa n a b := by
  have e : ((cfg0.win 5).blk t).view.emb (ix3 n a b) = ix3 n a b := by
    obtain ⟨-, -, -, -, -, -, -, -, -, -, -, e0, e1, e2, -⟩ := idx_facts t
    funext q; apply Fin.ext
    match q with
    | ⟨0, _⟩ => show win0_5.index t (0 : Fin 3) * 4 + 1 * n.1 = n.1; omega
    | ⟨1, _⟩ => show win0_5.index t (1 : Fin 3) * 256 + 1 * a.1 = a.1; omega
    | ⟨2, _⟩ => show win0_5.index t (2 : Fin 3) * 256 + 1 * b.1 = b.1; omega
  show V m c main_v1 (((cfg0.win 5).blk t).view.emb (ix3 n a b)) = _
  rw [e, V_main_v1]; rfl

theorem iblk7_apply (c : Dev nD) (t : Fin 32) (n : Fin 4) (a b : Fin 256) :
    iblk m c 7 t (ix3 n a b) = (par m c).wx n a b := by
  have e : ((cfg0.win 7).blk t).view.emb (ix3 n a b) = ix3 n a b := by
    obtain ⟨-, -, -, -, -, -, -, -, -, -, -, -, -, -, -, -, e0, e1, e2, -⟩ := idx_facts t
    funext q; apply Fin.ext
    match q with
    | ⟨0, _⟩ => show win0_7.index t (0 : Fin 3) * 4 + 1 * n.1 = n.1; omega
    | ⟨1, _⟩ => show win0_7.index t (1 : Fin 3) * 256 + 1 * a.1 = a.1; omega
    | ⟨2, _⟩ => show win0_7.index t (2 : Fin 3) * 256 + 1 * b.1 = b.1; omega
  show V m c main_v2 (((cfg0.win 7).blk t).view.emb (ix3 n a b)) = _
  rw [e, V_main_v2]; rfl

theorem emb11 (t : Fin 32) (r : Fin 512) (j : Fin 1024) :
    ((cfg0.win 11).blk t).view.emb (ix3 0 r j) = ix3 (⟨t.1 / 16, by omega⟩ : Fin 2) (⟨512 * (t.1 % 16) + r.1, by omega⟩ : Fin 8192) j := by
  obtain ⟨-, -, -, -, -, -, -, -, -, -, -, -, -, -, -, -, -, -, -, -, -, -, -, -, -, e0, e1, e2, -⟩ := idx_facts t
  funext a; apply Fin.ext
  match a with
  | ⟨0, _⟩ => show win0_11.index t (0 : Fin 3) * 1 + 1 * 0 = t.1 / 16; omega
  | ⟨1, _⟩ => show win0_11.index t (1 : Fin 3) * 512 + 1 * r.1 = 512 * (t.1 % 16) + r.1; omega
  | ⟨2, _⟩ => show win0_11.index t (2 : Fin 3) * 1024 + 1 * j.1 = j.1; omega

/-- A point is the first of its batch element exactly when the kernel's test says so. -/
theorem first_iff : ∀ t : Fin cfg0.N, (Scalar.cmpi .ne (Scalar.extui (Scalar.cmpi .eq (BitVec.ofNat 32 ((grid0.coords t) 1).val) 0#32) : BitVec 32) 0#32 : BitVec 1) = 1#1
    ↔ t.val % 16 = 0 :=
  (by decide +kernel : ∀ t : Fin grid0.N, _)

end Cert.LruIdeal.Block

end
-- ==== Proof.Lru.IdealPay.lean ====
module

public import Idealize.ShloMosaic.Lib.Pointwise
public import proofs.«01_k».proof.Proof.Gen.LruIdeal.Skeleton
public import proofs.«01_k».proof.Proof.Lru.Math

@[expose] public section

set_option maxRecDepth 16384

noncomputable section

/-! The vectors the kernel's body computes at a grid point, read at an index. -/

namespace Cert.LruIdeal.Block

open Idealize.ShloMosaic Cert.LruIdeal Cert.LruIdeal.Gen FfnMath LruMath

theorem pay4_apply (x : Vec Ideal S1x512x1024 .f32) (r : Fin 512) (j : Fin 1024) :
    k0_pay4 x (ix2 r j) = x (ix3 0 r j) := by
  pointwise [k0_pay4]

theorem pay5_apply (x : Vec Ideal S1x512x1024 .f32) (g : Vec Ideal S1x1024 .f32) (w : Vec Ideal S1024x2048 .bf16)
    (r : Fin 512) (k : Fin 2048) : k0_pay5 x g w (ix2 r k)
      = ∑ d, nrm (fun k => x (ix3 0 r k)) (fun k => g (ix2 0 k)) d * w (ix2 d k) := by
  pointwise [k0_pay5, k0_pay4]
  rfl

theorem pay6_apply (x : Vec Ideal S1x512x1024 .f32) (g : Vec Ideal S1x1024 .f32) (w : Vec Ideal S1024x2048 .bf16)
    (r : Fin 512) (k : Fin 1024) : k0_pay6 x g w (ix2 r k) = k0_pay5 x g w (ix2 r ⟨k.1, by omega⟩) := by
  pointwise [k0_pay6]

theorem pay7_apply (x : Vec Ideal S1x512x1024 .f32) (g : Vec Ideal S1x1024 .f32) (w : Vec Ideal S1024x2048 .bf16)
    (r : Fin 512) (k : Fin 1024) : k0_pay7 x g w (ix2 r k) = k0_pay5 x g w (ix2 r ⟨1024 + k.1, by omega⟩) := by
  pointwise [k0_pay7]

theorem pay49_apply (v : FVec Ideal S512x1024 .f32) (r : Fin 512) (k : Fin 1024) :
    k0_pay49 v (ix2 r k) = gelu (v (ix2 r k)) := by
  pointwise [k0_pay49]
  rfl

theorem pay1_apply (x s h : FVec Ideal S512x1024 .f32) (w : Vec Ideal S1024x1024 .bf16) (r : Fin 512) (j : Fin 1024) :
    k0_pay1 x s h w (ix3 0 r j) = x (ix2 r j) + ∑ k, h (ix2 r k) * s (ix2 r k) * w (ix2 k j) := by
  pointwise [k0_pay1]

theorem pay10_apply (c0 cb c1 c2 c3 : Vec Ideal S1x1024 .f32) (b0 b1 b2 b3 : Vec Ideal S512x1024 .f32) (r : Fin 512)
    (j : Fin 1024) : k0_pay10 (k0_pay8 c0 b0) (k0_pay9 cb) c1 b1 c2 b2 c3 b3 (ix2 r j)
      = cb (ix2 0 j) + c0 (ix2 0 j) * b0 (ix2 r j) + c1 (ix2 0 j) * b1 (ix2 r j) + c2 (ix2 0 j) * b2 (ix2 r j)
        + c3 (ix2 0 j) * b3 (ix2 r j) := by
  pointwise [k0_pay10, k0_pay8, k0_pay9]

theorem pay12_eq (a b : FVec Ideal S512x1024 .f32) (c1 c2 c3 : Vec Ideal S1x1024 .f32) (b1 b2 b3 : Vec Ideal S512x1024 .f32) :
    k0_pay12 a b c1 b1 c2 b2 c3 b3 = k0_pay10 a b c1 b1 c2 b2 c3 b3 := rfl

/-- One block's gate, at the columns `o + c` of the row `v`. -/
def gateBlk (v : FVec Ideal S512x1024 .bf16) (o : ℕ) (ho : o + 256 ≤ 1024) (w : Vec Ideal S1x256x256 .bf16)
    (b : Vec Ideal S1x256 .f32) (r : Fin 512) (d : Fin 256) : EReal :=
  Ideal.logistic (∑ c : Fin 256, v (ix2 r ⟨o + c.1, by omega⟩) * w (ix3 0 c d) + b (ix2 0 d))

theorem pay14_apply (a b : FVec Ideal S512x1024 .f32) (c1 c2 c3 : Vec Ideal S1x1024 .f32)
    (b1 b2 b3 : Vec Ideal S512x1024 .f32) (w : Vec Ideal S1x256x256 .bf16) (bb : Vec Ideal S1x256 .f32) (r : Fin 512)
    (d : Fin 256) : k0_pay14 a b c1 b1 c2 b2 c3 b3 w bb (ix2 r d)
      = gateBlk (k0_pay12 a b c1 b1 c2 b2 c3 b3) 0 (by omega) w bb r d := by
  pointwise [k0_pay14, k0_pay13, gateBlk]

theorem pay16_apply (a b : FVec Ideal S512x1024 .f32) (c1 c2 c3 : Vec Ideal S1x1024 .f32)
    (b1 b2 b3 : Vec Ideal S512x1024 .f32) (w : Vec Ideal S1x256x256 .bf16) (bb : Vec Ideal S1x256 .f32) (r : Fin 512)
    (d : Fin 256) : k0_pay16 (k0_pay15 a b c1 b1 c2 b2 c3 b3 w) bb (ix2 r d)
      = gateBlk (k0_pay12 a b c1 b1 c2 b2 c3 b3) 0 (by omega) w bb r d := by
  pointwise [k0_pay16, k0_pay15, k0_pay13, gateBlk]

theorem pay18_apply (v : FVec Ideal S512x1024 .bf16) (w : Vec Ideal S1x256x256 .bf16) (bb : Vec Ideal S1x256 .f32)
    (r : Fin 512) (d : Fin 256) : k0_pay18 v w bb (ix2 r d) = gateBlk v 256 (by omega) w bb r d := by
  pointwise [k0_pay18, k0_pay17, gateBlk]

theorem pay19_apply (v : FVec Ideal S512x1024 .bf16) (w : Vec Ideal S1x256x256 .bf16) (bb : Vec Ideal S1x256 .f32)
    (r : Fin 512) (d : Fin 256) : k0_pay19 v w bb (ix2 r d) = gateBlk v 256 (by omega) w bb r d := by
  pointwise [k0_pay19, k0_pay17, gateBlk]

theorem pay21_apply (v : FVec Ideal S512x1024 .bf16) (w : Vec Ideal S1x256x256 .bf16) (bb : Vec Ideal S1x256 .f32)
    (r : Fin 512) (d : Fin 256) : k0_pay21 v w bb (ix2 r d) = gateBlk v 512 (by omega) w bb r d := by
  pointwise [k0_pay21, k0_pay20, gateBlk]

/-- Four blocks of 256 columns side by side are the row that each of them is a part of. -/
theorem four (G : Fin 1024 → EReal) (f0 f1 f2 f3 : Fin 256 → EReal) (h0 : ∀ d, f0 d = G (col 0 d))
    (h1 : ∀ d, f1 d = G (col 1 d)) (h2 : ∀ d, f2 d = G (col 2 d)) (h3 : ∀ d, f3 d = G (col 3 d)) (j : Fin 1024)
    (hj : j.1 - 256 - 256 - 256 < 256) :
    (if h : j.1 < 256 then f0 ⟨j.1, h⟩ else if h : j.1 - 256 < 256 then f1 ⟨j.1 - 256, h⟩
      else if h : j.1 - 256 - 256 < 256 then f2 ⟨j.1 - 256 - 256, h⟩ else f3 ⟨j.1 - 256 - 256 - 256, hj⟩) = G j := by
  have hc : ∀ (n : Fin 4) (d : Fin 256), 256 * n.1 + d.1 = j.1 → col n d = j := fun n d h => Fin.ext h
  split_ifs with a b c
  · rw [h0, hc]; show 256 * 0 + j.1 = j.1; omega
  · rw [h1, hc]; show 256 * 1 + (j.1 - 256) = j.1; omega
  · rw [h2, hc]; show 256 * 2 + (j.1 - 256 - 256) = j.1; omega
  · rw [h3, hc]; show 256 * 3 + (j.1 - 256 - 256 - 256) = j.1; omega

theorem pay24_apply (v : FVec Ideal S512x1024 .bf16) (g0 g1 g2 : FVec Ideal S512x256 .f32) (w : Vec Ideal S1x256x256 .bf16)
    (bb : Vec Ideal S1x256 .f32) (lam : Vec Ideal S1x1024 .f32) (G : Fin 512 → Fin 1024 → EReal)
    (h0 : ∀ r d, g0 (ix2 r d) = G r (col 0 d)) (h1 : ∀ r d, g1 (ix2 r d) = G r (col 1 d))
    (h2 : ∀ r d, g2 (ix2 r d) = G r (col 2 d)) (h3 : ∀ r d, gateBlk v 768 (by omega) w bb r d = G r (col 3 d))
    (r : Fin 512) (j : Fin 1024) : k0_pay24 v g0 g1 g2 w bb lam (ix2 r j)
      = Ideal.ofBits .f32 0xC1000000#32 * G r j * softplusNeg (lam (ix2 0 j)) := by
  pointwise [k0_pay24, k0_pay23]
  exact congrArg (fun z => Ideal.ofBits .f32 0xC1000000#32 * z * softplusNeg (lam (ix2 0 j)))
    (four (G r) (fun d => g0 (ix2 r d)) (fun d => g1 (ix2 r d)) (fun d => g2 (ix2 r d))
      (fun d => gateBlk v 768 (by omega) w bb r d) (h0 r) (h1 r) (h2 r) (h3 r) j (by omega))

theorem pay25_apply (v : FVec Ideal S512x1024 .bf16) (g0 g1 g2 : FVec Ideal S512x256 .f32) (w : Vec Ideal S1x256x256 .bf16)
    (bb : Vec Ideal S1x256 .f32) (lam : Vec Ideal S1x1024 .f32) (r : Fin 512) (j : Fin 1024) :
    k0_pay25 v g0 g1 g2 w bb lam (ix2 r j) = Ideal.exp (k0_pay24 v g0 g1 g2 w bb lam (ix2 r j)) := by
  pointwise [k0_pay25]

theorem pay26_apply (xc : FVec Ideal S512x1024 .f32) (v : FVec Ideal S512x1024 .bf16) (g0 g1 : FVec Ideal S512x256 .f32)
    (w2 w3 : Vec Ideal S1x256x256 .bf16) (b2 b3 : Vec Ideal S1x256 .f32) (G : Fin 512 → Fin 1024 → EReal)
    (h0 : ∀ r d, g0 (ix2 r d) = G r (col 0 d)) (h1 : ∀ r d, g1 (ix2 r d) = G r (col 1 d))
    (h2 : ∀ r d, gateBlk v 512 (by omega) w2 b2 r d = G r (col 2 d))
    (h3 : ∀ r d, gateBlk v 768 (by omega) w3 b3 r d = G r (col 3 d))
    (r : Fin 512) (j : Fin 1024) : k0_pay26 xc v g0 g1 (k0_pay22 v w2) b2 w3 b3 (ix2 r j) = G r j * xc (ix2 r j) := by
  pointwise [k0_pay26, k0_pay23, k0_pay22, k0_pay20]
  exact congrArg (fun z => z * xc (ix2 r j))
    (four (G r) (fun d => g0 (ix2 r d)) (fun d => g1 (ix2 r d)) (fun d => gateBlk v 512 (by omega) w2 b2 r d)
      (fun d => gateBlk v 768 (by omega) w3 b3 r d) (h0 r) (h1 r) (h2 r) (h3 r) j (by omega))

theorem pay27_apply (l a x : FVec Ideal S512x1024 .f32) (r : Fin 512) (j : Fin 1024) : k0_pay27 l a x (ix2 r j)
    = x (ix2 r j) * Ideal.sqrt ((0 - Ideal.tanh (l (ix2 r j))) * (a (ix2 r j) * a (ix2 r j) + 1)) := by
  pointwise [k0_pay27]

/-- Lane `l` of the `s`-th run of 128 columns. -/
def lane (s : Fin 8) (l : Fin 128) : Fin 1024 := ⟨128 * s.1 + l.1, by omega⟩

theorem pay28_apply (v : FVec Ideal S512x1024 .f32) (t : Fin 512) (l : Fin 128) :
    k0_pay28 v (ix2 t l) = v (ix2 t (lane 0 l)) := by
  pointwise [k0_pay28]
  exact congrArg (fun z => v (ix2 t z)) (Fin.ext (by simp [lane]))

theorem pay30_apply (v : FVec Ideal S512x1024 .f32) (t : Fin 512) (l : Fin 128) :
    k0_pay30 v (ix2 t l) = v (ix2 t (lane 1 l)) := by
  pointwise [k0_pay30]
  exact congrArg (fun z => v (ix2 t z)) (Fin.ext (by simp [lane]))

theorem pay32_apply (v : FVec Ideal S512x1024 .f32) (t : Fin 512) (l : Fin 128) :
    k0_pay32 v (ix2 t l) = v (ix2 t (lane 2 l)) := by
  pointwise [k0_pay32]
  exact congrArg (fun z => v (ix2 t z)) (Fin.ext (by simp [lane]))

theorem pay34_apply (v : FVec Ideal S512x1024 .f32) (t : Fin 512) (l : Fin 128) :
    k0_pay34 v (ix2 t l) = v (ix2 t (lane 3 l)) := by
  pointwise [k0_pay34]
  exact congrArg (fun z => v (ix2 t z)) (Fin.ext (by simp [lane]))

theorem pay36_apply (v : FVec Ideal S512x1024 .f32) (t : Fin 512) (l : Fin 128) :
    k0_pay36 v (ix2 t l) = v (ix2 t (lane 4 l)) := by
  pointwise [k0_pay36]
  exact congrArg (fun z => v (ix2 t z)) (Fin.ext (by simp [lane]))

theorem pay38_apply (v : FVec Ideal S512x1024 .f32) (t : Fin 512) (l : Fin 128) :
    k0_pay38 v (ix2 t l) = v (ix2 t (lane 5 l)) := by
  pointwise [k0_pay38]
  exact congrArg (fun z => v (ix2 t z)) (Fin.ext (by simp [lane]))

theorem pay40_apply (v : FVec Ideal S512x1024 .f32) (t : Fin 512) (l : Fin 128) :
    k0_pay40 v (ix2 t l) = v (ix2 t (lane 6 l)) := by
  pointwise [k0_pay40]
  exact congrArg (fun z => v (ix2 t z)) (Fin.ext (by simp [lane]))

theorem pay42_apply (v : FVec Ideal S512x1024 .f32) (t : Fin 512) (l : Fin 128) :
    k0_pay42 v (ix2 t l) = v (ix2 t (lane 7 l)) := by
  pointwise [k0_pay42]
  exact congrArg (fun z => v (ix2 t z)) (Fin.ext (by simp [lane]))

theorem pay35_apply (v : FVec Ideal S512x1024 .f32) (t : Fin 512) (l : Fin 128) :
    k0_pay35 v (ix2 t l) = v (ix2 t (lane 3 l)) := by
  pointwise [k0_pay35]
  exact congrArg (fun z => v (ix2 t z)) (Fin.ext (by simp [lane]))

theorem pay37_apply (v : FVec Ideal S512x1024 .f32) (t : Fin 512) (l : Fin 128) :
    k0_pay37 v (ix2 t l) = v (ix2 t (lane 4 l)) := by
  pointwise [k0_pay37]
  exact congrArg (fun z => v (ix2 t z)) (Fin.ext (by simp [lane]))

theorem pay39_apply (v : FVec Ideal S512x1024 .f32) (t : Fin 512) (l : Fin 128) :
    k0_pay39 v (ix2 t l) = v (ix2 t (lane 5 l)) := by
  pointwise [k0_pay39]
  exact congrArg (fun z => v (ix2 t z)) (Fin.ext (by simp [lane]))

theorem pay41_apply (v : FVec Ideal S512x1024 .f32) (t : Fin 512) (l : Fin 128) :
    k0_pay41 v (ix2 t l) = v (ix2 t (lane 6 l)) := by
  pointwise [k0_pay41]
  exact congrArg (fun z => v (ix2 t z)) (Fin.ext (by simp [lane]))

theorem pay44_apply (v : FVec Ideal S512x1024 .f32) (t : Fin 512) (l : Fin 128) :
    k0_pay44 (k0_pay43 v) (ix2 t l) = v (ix2 t (lane 7 l)) := by
  pointwise [k0_pay44, k0_pay43]
  rfl

theorem pay29_apply (l a x : FVec Ideal S512x1024 .f32) (t : Fin 512) (k : Fin 128) :
    k0_pay29 l a x (ix2 t k) = k0_pay27 l a x (ix2 t (lane 0 k)) := by
  pointwise [k0_pay29]
  exact congrArg (fun z => k0_pay27 l a x (ix2 t z)) (Fin.ext (by simp [lane]))

theorem pay31_apply (l a x : FVec Ideal S512x1024 .f32) (t : Fin 512) (k : Fin 128) :
    k0_pay31 l a x (ix2 t k) = k0_pay27 l a x (ix2 t (lane 1 k)) := by
  pointwise [k0_pay31]
  exact congrArg (fun z => k0_pay27 l a x (ix2 t z)) (Fin.ext (by simp [lane]))

theorem pay33_apply (l a x : FVec Ideal S512x1024 .f32) (t : Fin 512) (k : Fin 128) :
    k0_pay33 l a x (ix2 t k) = k0_pay27 l a x (ix2 t (lane 2 k)) := by
  pointwise [k0_pay33]
  exact congrArg (fun z => k0_pay27 l a x (ix2 t z)) (Fin.ext (by simp [lane]))

theorem pay45_apply (h a x : Vec Ideal S8x128 .f32) (s : Fin 8) (l : Fin 128) :
    k0_pay45 h a x (ix2 s l) = a (ix2 s l) * h (ix2 s l) + x (ix2 s l) := by
  pointwise [k0_pay45]

theorem pay46_apply (h a x : Vec Ideal S8x128 .f32) (s : Fin 8) (l : Fin 128) :
    k0_pay46 h a x (ix2 s l) = a (ix2 s l) * h (ix2 s l) + x (ix2 s l) := by
  pointwise [k0_pay46, k0_pay45]

theorem pay47_apply (h : Vec Ideal S8x128 .f32) (s : Fin 8) (l : Fin 128) : k0_pay47 h (ix2 s l) = h (ix2 s l) := by
  pointwise [k0_pay47]

theorem pay2_apply (q : Fin 8) (j : Fin 1024) : (k0_pay2 : FVec Ideal S8x1024 .f32) (ix2 q j) = 0 := by
  pointwise [k0_pay2]

theorem pay3_apply (s : Fin 8) (l : Fin 128) : (k0_pay3 : FVec Ideal S8x128 .f32) (ix2 s l) = 0 := by
  pointwise [k0_pay3]

theorem pay11_apply (v : Vec Ideal S8x1024 .f32) (q : Fin 8) (j : Fin 1024) : k0_pay11 v (ix2 q j) = v (ix2 q j) := by
  pointwise [k0_pay11]

/-- Eight runs of 128 columns side by side are the row that each of them is a part of. -/
theorem pay48_apply (w0 w1 w2 w3 w4 w5 w6 w7 : Vec Ideal S512x128 .f32) (G : Fin 512 → Fin 1024 → EReal)
    (h0 : ∀ t l, w0 (ix2 t l) = G t (lane 0 l)) (h1 : ∀ t l, w1 (ix2 t l) = G t (lane 1 l))
    (h2 : ∀ t l, w2 (ix2 t l) = G t (lane 2 l)) (h3 : ∀ t l, w3 (ix2 t l) = G t (lane 3 l))
    (h4 : ∀ t l, w4 (ix2 t l) = G t (lane 4 l)) (h5 : ∀ t l, w5 (ix2 t l) = G t (lane 5 l))
    (h6 : ∀ t l, w6 (ix2 t l) = G t (lane 6 l)) (h7 : ∀ t l, w7 (ix2 t l) = G t (lane 7 l))
    (r : Fin 512) (j : Fin 1024) : k0_pay48 w0 w1 w2 w3 w4 w5 w6 w7 (ix2 r j) = G r j := by
  have hc : ∀ (s : Fin 8) (l : Fin 128), 128 * s.1 + l.1 = j.1 → lane s l = j := fun s l h => Fin.ext h
  pointwise [k0_pay48]
  split_ifs
  all_goals first
    | (rw [h0, hc]; show 128 * 0 + _ = j.1; dsimp only; omega)
    | (rw [h1, hc]; show 128 * 1 + _ = j.1; dsimp only; omega)
    | (rw [h2, hc]; show 128 * 2 + _ = j.1; dsimp only; omega)
    | (rw [h3, hc]; show 128 * 3 + _ = j.1; dsimp only; omega)
    | (rw [h4, hc]; show 128 * 4 + _ = j.1; dsimp only; omega)
    | (rw [h5, hc]; show 128 * 5 + _ = j.1; dsimp only; omega)
    | (rw [h6, hc]; show 128 * 6 + _ = j.1; dsimp only; omega)
    | (rw [h7, hc]; show 128 * 7 + _ = j.1; dsimp only; omega)

end Cert.LruIdeal.Block

end
-- ==== Proof.Lru.IdealLoop.lean ====
module

public import proofs.«01_k».proof.Proof.Gen.LruIdeal.Loops
public import Idealize.ShloMosaic.Lib.WritesUnit
public import proofs.«01_k».proof.Proof.Lru.IdealPay

@[expose] public section

set_option maxRecDepth 16384

noncomputable section

/-! The two buffers that hold the decay and the gated input with one row in eight consecutive lines of 128 lanes: what
    they read after the strided stores, and after the counted loop that turns the gated inputs into the states. -/

namespace Cert.LruIdeal.Block

open Cert.LruIdeal Cert.LruIdeal.Gen
open Idealize.ShloMosaic Idealize.ShloMosaic.TcCoe FfnMath LruMath

/-- Line `s` of row `t`. -/
def line (t : Fin 512) (s : Fin 8) : Fin 4096 := ⟨8 * t.1 + s.1, by omega⟩

/-- Every eighth line from line `c`. -/
abbrev every (c : ℕ) (inb : ∀ a, S512x128.size a = 0 ∨ (![c, 0] : Fin 2 → Nat) a + (![8, 1] : Fin 2 → Nat) a * (S512x128.size a - 1) < S4096x128.size a) :
    Rect S4096x128 := { off := ![c, 0], size := S512x128.size, stride := ![8, 1], inb := inb, stride_pos := spos_8_1 }

theorem every_emb (c : Fin 8) (inb) (t : Fin 512) (l : Fin 128) :
    (every c.1 inb).emb (ix2 t l) = (ix2 (line t c) l : S4096x128.Idx) :=
  (every c.1 inb).emb_eq_of_coords _ _ (Fin.forall_fin_two.mpr ⟨by show 8 * t.1 + c.1 = c.1 + 8 * t.1; omega, by show l.1 = 0 + 1 * l.1; omega⟩)

theorem every_not_mem (c : ℕ) (s : Fin 8) (hc : c < 8) (h : c ≠ s.1) (inb) (t : Fin 512) (l : Fin 128) :
    (ix2 (line t s) l : S4096x128.Idx) ∉ (every c inb).set := by
  intro hm
  obtain ⟨x, hx⟩ := (every c inb).exists_idx_of_mem hm
  have h0 : c + 8 * (x 0).val = 8 * t.1 + s.1 := congrArg (fun z => (z (0 : Fin 2)).val) hx
  omega

/-- Eight strided stores, one for each line of a row: line `s` of row `t` reads the `s`-th store's row `t`. -/
theorem read_eight {κ : Kind} {sp : Space} (v : View sig κ sp S4096x128 .f32) (f : v.ty.Contents (Elt Ideal)) (G : Fin 512 → Fin 1024 → EReal)
    {i0 i1 i2 i3 i4 i5 i6 i7} (w0 w1 w2 w3 w4 w5 w6 w7 : Vec Ideal S512x128 .f32)
    (h0 : ∀ t l, w0 (ix2 t l) = G t (lane 0 l))
    (h1 : ∀ t l, w1 (ix2 t l) = G t (lane 1 l))
    (h2 : ∀ t l, w2 (ix2 t l) = G t (lane 2 l))
    (h3 : ∀ t l, w3 (ix2 t l) = G t (lane 3 l))
    (h4 : ∀ t l, w4 (ix2 t l) = G t (lane 4 l))
    (h5 : ∀ t l, w5 (ix2 t l) = G t (lane 5 l))
    (h6 : ∀ t l, w6 (ix2 t l) = G t (lane 6 l))
    (h7 : ∀ t l, w7 (ix2 t l) = G t (lane 7 l))
    (t : Fin 512) (s : Fin 8) (l : Fin 128) :
    v.read (Elt Ideal) (v.writes (Elt Ideal) f [⟨every 7 i7, w7⟩, ⟨every 6 i6, w6⟩, ⟨every 5 i5, w5⟩, ⟨every 4 i4, w4⟩, ⟨every 3 i3, w3⟩, ⟨every 2 i2, w2⟩, ⟨every 1 i1, w1⟩, ⟨every 0 i0, w0⟩]) (ix2 (line t s) l) = G t (lane s l) := by
  have miss : ∀ (c : ℕ) (inb) (w : Vec Ideal S512x128 .f32) (L : List (View.Piece (Elt Ideal) S4096x128 .f32)), c < 8 → c ≠ s.1 →
      v.read (Elt Ideal) (v.writes (Elt Ideal) f (⟨every c inb, w⟩ :: L)) (ix2 (line t s) l)
        = v.read (Elt Ideal) (v.writes (Elt Ideal) f L) (ix2 (line t s) l) := fun c inb w L h8 hc =>
    View.read_writes_cons_miss v f ⟨every c inb, w⟩ L _ (every_not_mem c s h8 hc inb t l)
  have hit : ∀ (inb) (w : Vec Ideal S512x128 .f32) (L : List (View.Piece (Elt Ideal) S4096x128 .f32)),
      v.read (Elt Ideal) (v.writes (Elt Ideal) f (⟨every s.1 inb, w⟩ :: L)) (ix2 (line t s) l) = w (ix2 t l) := fun inb w L =>
    View.read_writes_cons_hit v f (every s.1 inb) w L (ix2 t l) _ (every_emb s inb t l)
  match s, miss, hit with
  | ⟨0, _⟩, miss, hit => rw [miss 7 _ _ _ (by omega) (by show 7 ≠ 0; omega), miss 6 _ _ _ (by omega) (by show 6 ≠ 0; omega), miss 5 _ _ _ (by omega) (by show 5 ≠ 0; omega), miss 4 _ _ _ (by omega) (by show 4 ≠ 0; omega), miss 3 _ _ _ (by omega) (by show 3 ≠ 0; omega), miss 2 _ _ _ (by omega) (by show 2 ≠ 0; omega), miss 1 _ _ _ (by omega) (by show 1 ≠ 0; omega)]; exact (hit i0 w0 _).trans (h0 t l)
  | ⟨1, _⟩, miss, hit => rw [miss 7 _ _ _ (by omega) (by show 7 ≠ 1; omega), miss 6 _ _ _ (by omega) (by show 6 ≠ 1; omega), miss 5 _ _ _ (by omega) (by show 5 ≠ 1; omega), miss 4 _ _ _ (by omega) (by show 4 ≠ 1; omega), miss 3 _ _ _ (by omega) (by show 3 ≠ 1; omega), miss 2 _ _ _ (by omega) (by show 2 ≠ 1; omega)]; exact (hit i1 w1 _).trans (h1 t l)
  | ⟨2, _⟩, miss, hit => rw [miss 7 _ _ _ (by omega) (by show 7 ≠ 2; omega), miss 6 _ _ _ (by omega) (by show 6 ≠ 2; omega), miss 5 _ _ _ (by omega) (by show 5 ≠ 2; omega), miss 4 _ _ _ (by omega) (by show 4 ≠ 2; omega), miss 3 _ _ _ (by omega) (by show 3 ≠ 2; omega)]; exact (hit i2 w2 _).trans (h2 t l)
  | ⟨3, _⟩, miss, hit => rw [miss 7 _ _ _ (by omega) (by show 7 ≠ 3; omega), miss 6 _ _ _ (by omega) (by show 6 ≠ 3; omega), miss 5 _ _ _ (by omega) (by show 5 ≠ 3; omega), miss 4 _ _ _ (by omega) (by show 4 ≠ 3; omega)]; exact (hit i3 w3 _).trans (h3 t l)
  | ⟨4, _⟩, miss, hit => rw [miss 7 _ _ _ (by omega) (by show 7 ≠ 4; omega), miss 6 _ _ _ (by omega) (by show 6 ≠ 4; omega), miss 5 _ _ _ (by omega) (by show 5 ≠ 4; omega)]; exact (hit i4 w4 _).trans (h4 t l)
  | ⟨5, _⟩, miss, hit => rw [miss 7 _ _ _ (by omega) (by show 7 ≠ 5; omega), miss 6 _ _ _ (by omega) (by show 6 ≠ 5; omega)]; exact (hit i5 w5 _).trans (h5 t l)
  | ⟨6, _⟩, miss, hit => rw [miss 7 _ _ _ (by omega) (by show 7 ≠ 6; omega)]; exact (hit i6 w6 _).trans (h6 t l)
  | ⟨7, _⟩, miss, hit => exact (hit i7 w7 _).trans (h7 t l)

/-- What a strided load of every eighth line reads. -/
theorem readAt_every {κ : Kind} {sp : Space} (v : View sig κ sp S4096x128 .f32) (f : v.ty.Contents (Elt Ideal)) (c : Fin 8) (inb) (t : Fin 512)
    (l : Fin 128) : v.readAt (Elt Ideal) (⟨![c.1, 0], S512x128.size, ![8, 1], inb⟩ : LoadRect S4096x128) f (ix2 t l)
      = v.read (Elt Ideal) f (ix2 (line t c) l) := by
  rw [View.readAt_apply]
  congr 1
  exact funext (Fin.forall_fin_two.mpr ⟨Fin.ext (by show c.1 + 8 * t.1 = 8 * t.1 + c.1; omega), Fin.ext (by show 0 + 1 * l.1 = l.1; omega)⟩)

/-! ## The loop -/

theorem off1_eq : ∀ k : Fin k0_t1_loop.trips, k0_off1 k = ![8 * k.1, 0] := by decide +kernel

theorem trips_eq : k0_t1_loop.trips = 512 := by decide +kernel

section

variable (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S520x1024 .f32) (harg14 : arg14.IsWhole) (arg15 : Memref sig .tc .vmem S4096x128 .f32) (harg15 : arg15.IsWhole) (arg16 : Memref sig .tc .vmem S4096x128 .f32) (harg16 : arg16.IsWhole) (arg17 : Memref sig .tc .vmem S8x128 .f32) (harg17 : arg17.IsWhole) (v23 : FVec Ideal S512x1024 .f32) (v213 : FVec Ideal S512x128 .f32) (v214 : Vec Ideal S512x128 .f32)
  (X : BufTy.Contents (Elt Ideal) arg15.view.ty) (Y : BufTy.Contents (Elt Ideal) arg16.view.ty) (init : Vec Ideal S8x128 .f32)

/-- What one trip carries on. -/
theorem trip_val (k : Fin k0_t1_loop.trips) (acc : Vec Ideal S8x128 .f32) (f : BufTy.Contents (Elt Ideal) arg16.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X k acc f
      = k0_pay45 acc (arg15.view.readAt (Elt Ideal) (Rect.unit (s := S4096x128) (k0_off1 k) S8x128.size (k0_off1_inb k)).toLoadRect X)
          (arg16.view.readAt (Elt Ideal) (Rect.unit (s := S4096x128) (k0_off1 k) S8x128.size (k0_off1_inb k)).toLoadRect f) := by
  unfold tripR_k0_t1 trip_k0_t1
  rfl

/-- What one trip stores. -/
theorem trip_stores (k : Fin k0_t1_loop.trips) (acc : Vec Ideal S8x128 .f32) (f : BufTy.Contents (Elt Ideal) arg16.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X k acc f
      = [⟨Rect.unit (s := S4096x128) (k0_off1 k) S8x128.size (k0_off1_inb k),
          k0_pay46 acc (arg15.view.readAt (Elt Ideal) (Rect.unit (s := S4096x128) (k0_off1 k) S8x128.size (k0_off1_inb k)).toLoadRect X)
          (arg16.view.readAt (Elt Ideal) (Rect.unit (s := S4096x128) (k0_off1 k) S8x128.size (k0_off1_inb k)).toLoadRect f)⟩] := by
  unfold tripL_k0_t1 trip_k0_t1
  rfl

theorem readAt_row {κ : Kind} {sp : Space} (v : View sig κ sp S4096x128 .f32) (f : v.ty.Contents (Elt Ideal)) (k : Fin k0_t1_loop.trips) (t : Fin 512)
    (ht : t.1 = k.1) (s : Fin 8) (l : Fin 128) :
    v.readAt (Elt Ideal) (Rect.unit (s := S4096x128) (k0_off1 k) S8x128.size (k0_off1_inb k)).toLoadRect f (ix2 s l)
      = v.read (Elt Ideal) f (ix2 (line t s) l) := by
  rw [View.readAt_apply]
  congr 1
  have h0 : k0_off1 k 0 = 8 * k.1 := congrFun (off1_eq k) 0
  have h1 : k0_off1 k 1 = 0 := congrFun (off1_eq k) 1
  exact funext (Fin.forall_fin_two.mpr ⟨Fin.ext (by show k0_off1 k 0 + 1 * s.1 = 8 * t.1 + s.1; omega), Fin.ext (by show k0_off1 k 1 + 1 * l.1 = l.1; omega)⟩)

/-- Before trip `k` the loop carries state `k`; the rows before `k` hold the states, the others their gated inputs. -/
theorem loop_spec (A G S : ℕ → Fin 1024 → EReal)
    (hX : ∀ (t : Fin 512) s l, arg15.view.read (Elt Ideal) X (ix2 (line t s) l) = A t.1 (lane s l))
    (hY : ∀ (t : Fin 512) s l, arg16.view.read (Elt Ideal) Y (ix2 (line t s) l) = G t.1 (lane s l))
    (hS : ∀ r < 512, ∀ j, S (r + 1) j = A r j * S r j + G r j) (h0 : ∀ s l, init (ix2 s l) = S 0 (lane s l)) :
    ∀ k ≤ 512, (∀ s l, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X Y init k).1 (ix2 s l) = S k (lane s l))
      ∧ ∀ (t : Fin 512) s l, arg16.view.read (Elt Ideal) (arg16.view.writes (Elt Ideal) Y
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X Y init k).2) (ix2 (line t s) l)
        = if t.1 < k then S (t.1 + 1) (lane s l) else G t.1 (lane s l)
  | 0, _ => ⟨h0, fun t s l => by rw [if_neg (by omega)]; exact hY t s l⟩
  | k + 1, hk => by
    obtain ⟨ih1, ih2⟩ := loop_spec A G S hX hY hS h0 k (by omega)
    have hkt : k < k0_t1_loop.trips := by rw [trips_eq]; omega
    have hst := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X Y init ⟨k, hkt⟩
    have ha : ∀ s l, arg15.view.readAt (Elt Ideal) (Rect.unit (s := S4096x128) (k0_off1 ⟨k, hkt⟩) S8x128.size (k0_off1_inb ⟨k, hkt⟩)).toLoadRect X (ix2 s l) = A k (lane s l) :=
      fun s l => (readAt_row _ _ ⟨k, hkt⟩ ⟨k, by omega⟩ rfl s l).trans (hX _ s l)
    have hg : ∀ s l, arg16.view.readAt (Elt Ideal) (Rect.unit (s := S4096x128) (k0_off1 ⟨k, hkt⟩) S8x128.size (k0_off1_inb ⟨k, hkt⟩)).toLoadRect
        (arg16.view.writes (Elt Ideal) Y (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 X Y init k).2) (ix2 s l) = G k (lane s l) :=
      fun s l => (readAt_row _ _ ⟨k, hkt⟩ ⟨k, by omega⟩ rfl s l).trans ((ih2 _ s l).trans (if_neg (by simp)))
    rw [show k + 1 = (⟨k, hkt⟩ : Fin k0_t1_loop.trips).val + 1 from rfl, hst, trip_val, trip_stores]
    refine ⟨fun s l => ?_, fun t s l => ?_⟩
    · show k0_pay45 _ _ _ (ix2 s l) = _
      rw [pay45_apply, ha, hg, hS k (by omega)]
      exact congrArg (fun z => A k (lane s l) * z + G k (lane s l)) (ih1 s l)
    · show arg16.view.read (Elt Ideal) (arg16.view.writes (Elt Ideal) Y (_ :: _)) _ = _
      by_cases ht : t.1 = k
      · refine (View.read_writes_cons_rows_of_mem (d := S4096x128.size) arg16.view Y (k0_off1_inb ⟨k, hkt⟩) _ _ (ix2 (line t s) l) (ix2 s l)
          (off1_eq ⟨k, hkt⟩) (by show 8 * t.1 + s.1 = 8 * k + s.1; omega) rfl).trans ?_
        rw [pay46_apply, ha, hg, if_pos (by show t.1 < k + 1; omega), ht, hS k (by omega)]
        exact congrArg (fun z => A k (lane s l) * z + G k (lane s l)) (ih1 s l)
      · refine (View.read_writes_cons_rows_of_not_mem (d := S4096x128.size) (W := 8) arg16.view Y (k0_off1_inb ⟨k, hkt⟩) _ _ (ix2 (line t s) l)
          (off1_eq ⟨k, hkt⟩) rfl (by show 8 * t.1 + s.1 < 8 * k ∨ 8 * k + 8 ≤ 8 * t.1 + s.1; omega)).trans ?_
        refine (ih2 t s l).trans ?_
        by_cases h : t.1 < k
        · rw [if_pos h, if_pos (by show t.1 < k + 1; omega)]
        · rw [if_neg h, if_neg (by show ¬ t.1 < k + 1; omega)]

end

end Cert.LruIdeal.Block

end
-- ==== Proof.Lru.IdealCore.lean ====
module

public import proofs.«01_k».proof.Proof.Lru.IdealLoop

@[expose] public section

set_option maxRecDepth 16384
noncomputable section

/-! The body's decay, gated input and convolution at a grid point, entry by entry. -/

namespace Cert.LruIdeal.Block

open Cert.LruIdeal Cert.LruIdeal.Gen
open Idealize.ShloMosaic Idealize.ShloMosaic.TcCoe FfnMath LruMath

/-- A load through a unit rectangle reads the place at the offsets plus the position. -/
theorem readAt_at {κ : Kind} {sp : Space} {s : Shape} {e : EltTy} (v : View sig κ sp s e) (f : v.ty.Contents (Elt Ideal))
    (off size : Fin s.rank → ℕ) (inb) (x : (Rect.unit off size inb).shape.Idx) (y : s.Idx) (h : ∀ a, (y a).val = off a + (x a).val) :
    v.readAt (Elt Ideal) (Rect.unit off size inb).toLoadRect f x = v.read (Elt Ideal) f y := by
  rw [View.readAt_apply]
  congr 1
  exact funext fun a => Fin.ext (by rw [h a]; show off a + 1 * (x a).val = _; omega)

theorem readAt_at2 {κ : Kind} {sp : Space} {n m a b : ℕ} {e : EltTy} (v : View sig κ sp ⟨2, ![n, m]⟩ e) (f : v.ty.Contents (Elt Ideal))
    (o0 o1 : ℕ) (inb) (x0 : Fin a) (x1 : Fin b) (y0 : Fin n) (y1 : Fin m) (h0 : y0.1 = o0 + x0.1) (h1 : y1.1 = o1 + x1.1) :
    v.readAt (Elt Ideal) (Rect.unit (s := ⟨2, ![n, m]⟩) ![o0, o1] ![a, b] inb).toLoadRect f (ix2 x0 x1) = v.read (Elt Ideal) f (ix2 y0 y1) :=
  readAt_at v f _ _ inb _ _ (Fin.forall_fin_two.mpr ⟨h0, h1⟩)

theorem readAt_at3 {κ : Kind} {sp : Space} {n m k a b c : ℕ} {e : EltTy} (v : View sig κ sp ⟨3, ![n, m, k]⟩ e) (f : v.ty.Contents (Elt Ideal))
    (o0 o1 o2 : ℕ) (inb) (x0 : Fin a) (x1 : Fin b) (x2 : Fin c) (y0 : Fin n) (y1 : Fin m) (y2 : Fin k) (h0 : y0.1 = o0 + x0.1) (h1 : y1.1 = o1 + x1.1)
    (h2 : y2.1 = o2 + x2.1) :
    v.readAt (Elt Ideal) (Rect.unit (s := ⟨3, ![n, m, k]⟩) ![o0, o1, o2] ![a, b, c] inb).toLoadRect f (ix3 x0 x1 x2) = v.read (Elt Ideal) f (ix3 y0 y1 y2) :=
  readAt_at v f _ _ inb _ _ (Fin.forall_fin_succ.mpr ⟨h0, Fin.forall_fin_two.mpr ⟨h1, h2⟩⟩)

section Core

variable (p : Par) (U : ℕ → Fin 1024 → EReal) {c0 c1 c2 c3 cb lam : Vec Ideal S1x1024 .f32} {b0 b1 b2 b3 : Vec Ideal S512x1024 .f32}
  {wa0 wa1 wa2 wa3 wx0 wx1 wx2 wx3 : Vec Ideal S1x256x256 .bf16} {ba0 ba1 ba2 ba3 bx0 bx1 bx2 bx3 : Vec Ideal S1x256 .f32}

/-- The convolution's block. -/
abbrev XC (c0 c1 c2 c3 cb : Vec Ideal S1x1024 .f32) (b0 b1 b2 b3 : Vec Ideal S512x1024 .f32) : FVec Ideal S512x1024 .f32 :=
  k0_pay10 (k0_pay8 c0 b0) (k0_pay9 cb) c1 b1 c2 b2 c3 b3

abbrev XB (c0 c1 c2 c3 cb : Vec Ideal S1x1024 .f32) (b0 b1 b2 b3 : Vec Ideal S512x1024 .f32) : FVec Ideal S512x1024 .bf16 :=
  k0_pay12 (k0_pay8 c0 b0) (k0_pay9 cb) c1 b1 c2 b2 c3 b3

/-- The decay's logarithm, as the body composes it. -/
abbrev LA (c0 c1 c2 c3 cb lam : Vec Ideal S1x1024 .f32) (b0 b1 b2 b3 : Vec Ideal S512x1024 .f32)
    (wa0 wa1 wa2 wa3 : Vec Ideal S1x256x256 .bf16) (ba0 ba1 ba2 ba3 : Vec Ideal S1x256 .f32) : FVec Ideal S512x1024 .f32 :=
  k0_pay24 (XB c0 c1 c2 c3 cb b0 b1 b2 b3) (k0_pay14 (k0_pay8 c0 b0) (k0_pay9 cb) c1 b1 c2 b2 c3 b3 wa0 ba0)
    (k0_pay18 (XB c0 c1 c2 c3 cb b0 b1 b2 b3) wa1 ba1) (k0_pay21 (XB c0 c1 c2 c3 cb b0 b1 b2 b3) wa2 ba2) wa3 ba3 lam

abbrev AA (c0 c1 c2 c3 cb lam : Vec Ideal S1x1024 .f32) (b0 b1 b2 b3 : Vec Ideal S512x1024 .f32)
    (wa0 wa1 wa2 wa3 : Vec Ideal S1x256x256 .bf16) (ba0 ba1 ba2 ba3 : Vec Ideal S1x256 .f32) : FVec Ideal S512x1024 .f32 :=
  k0_pay25 (XB c0 c1 c2 c3 cb b0 b1 b2 b3) (k0_pay14 (k0_pay8 c0 b0) (k0_pay9 cb) c1 b1 c2 b2 c3 b3 wa0 ba0)
    (k0_pay18 (XB c0 c1 c2 c3 cb b0 b1 b2 b3) wa1 ba1) (k0_pay21 (XB c0 c1 c2 c3 cb b0 b1 b2 b3) wa2 ba2) wa3 ba3 lam

abbrev IX (c0 c1 c2 c3 cb : Vec Ideal S1x1024 .f32) (b0 b1 b2 b3 : Vec Ideal S512x1024 .f32)
    (wx0 wx1 wx2 wx3 : Vec Ideal S1x256x256 .bf16) (bx0 bx1 bx2 bx3 : Vec Ideal S1x256 .f32) : FVec Ideal S512x1024 .f32 :=
  k0_pay26 (XC c0 c1 c2 c3 cb b0 b1 b2 b3) (XB c0 c1 c2 c3 cb b0 b1 b2 b3)
    (k0_pay16 (k0_pay15 (k0_pay8 c0 b0) (k0_pay9 cb) c1 b1 c2 b2 c3 b3 wx0) bx0) (k0_pay19 (XB c0 c1 c2 c3 cb b0 b1 b2 b3) wx1 bx1)
    (k0_pay22 (XB c0 c1 c2 c3 cb b0 b1 b2 b3) wx2) bx2 wx3 bx3

/-- The convolution's parameters and rows, entry by entry. -/
structure ConvIn (p : Par) (U : ℕ → Fin 1024 → EReal) (c0 c1 c2 c3 cb : Vec Ideal S1x1024 .f32) (b0 b1 b2 b3 : Vec Ideal S512x1024 .f32) : Prop where
  c0 : ∀ j, c0 (ix2 0 j) = p.cw 0 j
  c1 : ∀ j, c1 (ix2 0 j) = p.cw 1 j
  c2 : ∀ j, c2 (ix2 0 j) = p.cw 2 j
  c3 : ∀ j, c3 (ix2 0 j) = p.cw 3 j
  cb : ∀ j, cb (ix2 0 j) = p.cb j
  b0 : ∀ (r : Fin 512) j, b0 (ix2 r j) = U (r.1 + 5) j
  b1 : ∀ (r : Fin 512) j, b1 (ix2 r j) = U (r.1 + 6) j
  b2 : ∀ (r : Fin 512) j, b2 (ix2 r j) = U (r.1 + 7) j
  b3 : ∀ (r : Fin 512) j, b3 (ix2 r j) = U (r.1 + 8) j

/-- One gate's four blocks of weights and biases, entry by entry. -/
structure GateIn (w : Fin 4 → Fin 256 → Fin 256 → EReal) (b : Fin 1024 → EReal) (w0 w1 w2 w3 : Vec Ideal S1x256x256 .bf16)
    (b0 b1 b2 b3 : Vec Ideal S1x256 .f32) : Prop where
  w0 : ∀ c d, w0 (ix3 0 c d) = w 0 c d
  w1 : ∀ c d, w1 (ix3 0 c d) = w 1 c d
  w2 : ∀ c d, w2 (ix3 0 c d) = w 2 c d
  w3 : ∀ c d, w3 (ix3 0 c d) = w 3 c d
  b0 : ∀ d, b0 (ix2 0 d) = b (col 0 d)
  b1 : ∀ d, b1 (ix2 0 d) = b (col 1 d)
  b2 : ∀ d, b2 (ix2 0 d) = b (col 2 d)
  b3 : ∀ d, b3 (ix2 0 d) = b (col 3 d)

theorem XC_apply (h : ConvIn p U c0 c1 c2 c3 cb b0 b1 b2 b3) (r : Fin 512) (j : Fin 1024) :
    XC c0 c1 c2 c3 cb b0 b1 b2 b3 (ix2 r j) = cv p U r.1 j := by
  refine (pay10_apply _ _ _ _ _ _ _ _ _ r j).trans ?_
  rw [h.c0, h.c1, h.c2, h.c3, h.cb, h.b0, h.b1, h.b2, h.b3]
  rfl

theorem gateBlk_eq (v : FVec Ideal S512x1024 .bf16) (y : Fin 512 → Fin 1024 → EReal) (hv : ∀ r j, v (ix2 r j) = y r j) (n : Fin 4) (o : ℕ) (ho : o + 256 ≤ 1024)
    (hn : o = 256 * n.1) (w : Fin 4 → Fin 256 → Fin 256 → EReal) (b : Fin 1024 → EReal) (W : Vec Ideal S1x256x256 .bf16) (B : Vec Ideal S1x256 .f32)
    (hw : ∀ c d, W (ix3 0 c d) = w n c d) (hb : ∀ d, B (ix2 0 d) = b (col n d)) (r : Fin 512) (d : Fin 256) :
    gateBlk v o ho W B r d = gate w b (y r) (col n d) := by
  subst hn
  have h1 : blk (col n d) = n := Fin.ext (by show (256 * n.1 + d.1) / 256 = n.1; omega)
  have h2 : pos (col n d) = d := Fin.ext (by show (256 * n.1 + d.1) % 256 = d.1; omega)
  unfold gateBlk gate
  rw [h1, h2, hb]
  simp only [hv, hw]
  rfl

theorem LA_apply (h : ConvIn p U c0 c1 c2 c3 cb b0 b1 b2 b3) (hg : GateIn p.wa p.ba wa0 wa1 wa2 wa3 ba0 ba1 ba2 ba3)
    (hl : ∀ j, lam (ix2 0 j) = p.lam j) (r : Fin 512) (j : Fin 1024) :
    LA c0 c1 c2 c3 cb lam b0 b1 b2 b3 wa0 wa1 wa2 wa3 ba0 ba1 ba2 ba3 (ix2 r j) = logA p (cv p U r.1) j := by
  have hv : ∀ (r : Fin 512) j, XB c0 c1 c2 c3 cb b0 b1 b2 b3 (ix2 r j) = cv p U r.1 j := XC_apply p U h
  refine (pay24_apply _ _ _ _ _ _ _ (fun r j => gate p.wa p.ba (cv p U r.1) j)
    (fun r d => (pay14_apply _ _ _ _ _ _ _ _ _ _ r d).trans (gateBlk_eq _ _ hv 0 0 _ rfl _ _ _ _ hg.w0 hg.b0 r d))
    (fun r d => (pay18_apply _ _ _ r d).trans (gateBlk_eq _ _ hv 1 256 _ rfl _ _ _ _ hg.w1 hg.b1 r d))
    (fun r d => (pay21_apply _ _ _ r d).trans (gateBlk_eq _ _ hv 2 512 _ rfl _ _ _ _ hg.w2 hg.b2 r d))
    (fun r d => gateBlk_eq _ _ hv 3 768 _ rfl _ _ _ _ hg.w3 hg.b3 r d) r j).trans ?_
  rw [hl]
  rfl

theorem AA_apply (h : ConvIn p U c0 c1 c2 c3 cb b0 b1 b2 b3) (hg : GateIn p.wa p.ba wa0 wa1 wa2 wa3 ba0 ba1 ba2 ba3)
    (hl : ∀ j, lam (ix2 0 j) = p.lam j) (r : Fin 512) (j : Fin 1024) :
    AA c0 c1 c2 c3 cb lam b0 b1 b2 b3 wa0 wa1 wa2 wa3 ba0 ba1 ba2 ba3 (ix2 r j) = dec p (cv p U r.1) j :=
  (pay25_apply _ _ _ _ _ _ _ r j).trans (congrArg Ideal.exp (LA_apply p U h hg hl r j))

theorem IX_apply (h : ConvIn p U c0 c1 c2 c3 cb b0 b1 b2 b3) (hg : GateIn p.wx p.bx wx0 wx1 wx2 wx3 bx0 bx1 bx2 bx3)
    (r : Fin 512) (j : Fin 1024) :
    IX c0 c1 c2 c3 cb b0 b1 b2 b3 wx0 wx1 wx2 wx3 bx0 bx1 bx2 bx3 (ix2 r j) = gate p.wx p.bx (cv p U r.1) j * cv p U r.1 j := by
  have hv : ∀ (r : Fin 512) j, XB c0 c1 c2 c3 cb b0 b1 b2 b3 (ix2 r j) = cv p U r.1 j := XC_apply p U h
  refine (pay26_apply _ _ _ _ _ _ _ _ (fun r j => gate p.wx p.bx (cv p U r.1) j)
    (fun r d => (pay16_apply _ _ _ _ _ _ _ _ _ _ r d).trans (gateBlk_eq _ _ hv 0 0 _ rfl _ _ _ _ hg.w0 hg.b0 r d))
    (fun r d => (pay19_apply _ _ _ r d).trans (gateBlk_eq _ _ hv 1 256 _ rfl _ _ _ _ hg.w1 hg.b1 r d))
    (fun r d => gateBlk_eq _ _ hv 2 512 _ rfl _ _ _ _ hg.w2 hg.b2 r d)
    (fun r d => gateBlk_eq _ _ hv 3 768 _ rfl _ _ _ _ hg.w3 hg.b3 r d) r j).trans ?_
  exact congrArg (fun z => _ * z) (XC_apply p U h r j)

theorem GX_apply (h : ConvIn p U c0 c1 c2 c3 cb b0 b1 b2 b3) (ha : GateIn p.wa p.ba wa0 wa1 wa2 wa3 ba0 ba1 ba2 ba3)
    (hl : ∀ j, lam (ix2 0 j) = p.lam j) (hx : GateIn p.wx p.bx wx0 wx1 wx2 wx3 bx0 bx1 bx2 bx3) (r : Fin 512) (j : Fin 1024) :
    k0_pay27 (LA c0 c1 c2 c3 cb lam b0 b1 b2 b3 wa0 wa1 wa2 wa3 ba0 ba1 ba2 ba3) (AA c0 c1 c2 c3 cb lam b0 b1 b2 b3 wa0 wa1 wa2 wa3 ba0 ba1 ba2 ba3)
      (IX c0 c1 c2 c3 cb b0 b1 b2 b3 wx0 wx1 wx2 wx3 bx0 bx1 bx2 bx3) (ix2 r j) = inp p (cv p U r.1) j := by
  rw [pay27_apply, LA_apply p U h ha hl, AA_apply p U h ha hl, IX_apply p U h hx]
  rfl

end Core

end Cert.LruIdeal.Block

end
-- ==== Proof.Lru.IdealPoint.lean ====
module

public import proofs.«01_k».proof.Proof.Lru.IdealBody
public import proofs.«01_k».proof.Proof.Lru.IdealLoop
public import proofs.«01_k».proof.Proof.Lru.IdealCore

@[expose] public section

set_option maxRecDepth 16384
noncomputable section

/-! What one grid point of the mixer's kernel leaves: the result's block, the eight carried rows of the branch and the
    carried state, entry by entry, at the first point of a batch element and at a later one. -/

namespace Cert.LruIdeal.Block

open Cert.LruIdeal Cert.LruIdeal.Gen
open Idealize.ShloMosaic Idealize.ShloMosaic.TcCoe FfnMath LruMath

/-- The first scratch buffer after its eight stores. -/
abbrev APieces (arg15 : Memref sig .tc .vmem S4096x128 .f32) (f15 : BufTy.Contents (Elt Ideal) arg15.view.ty) (AA : FVec Ideal S512x1024 .f32) :
    BufTy.Contents (Elt Ideal) arg15.view.ty := arg15.view.writes (Elt Ideal) f15 [⟨every 7 inb_S4096x128_S512x128_7_0_s_8_1, k0_pay42 AA⟩, ⟨every 6 inb_S4096x128_S512x128_6_0_s_8_1, k0_pay40 AA⟩, ⟨every 5 inb_S4096x128_S512x128_5_0_s_8_1, k0_pay38 AA⟩, ⟨every 4 inb_S4096x128_S512x128_4_0_s_8_1, k0_pay36 AA⟩, ⟨every 3 inb_S4096x128_S512x128_3_0_s_8_1, k0_pay34 AA⟩, ⟨every 2 inb_S4096x128_S512x128_2_0_s_8_1, k0_pay32 AA⟩, ⟨every 1 inb_S4096x128_S512x128_1_0_s_8_1, k0_pay30 AA⟩, ⟨every 0 inb_S4096x128_S512x128_0_0_s_8_1, k0_pay28 AA⟩]

/-- The second scratch buffer's eight stores. -/
abbrev GPieces (LA AA IX : FVec Ideal S512x1024 .f32) : List (View.Piece (Elt Ideal) S4096x128 .f32) :=
  [⟨every 7 inb_S4096x128_S512x128_7_0_s_8_1, k0_pay44 (k0_pay43 (k0_pay27 LA AA IX))⟩, ⟨every 6 inb_S4096x128_S512x128_6_0_s_8_1, k0_pay41 (k0_pay27 LA AA IX)⟩, ⟨every 5 inb_S4096x128_S512x128_5_0_s_8_1, k0_pay39 (k0_pay27 LA AA IX)⟩, ⟨every 4 inb_S4096x128_S512x128_4_0_s_8_1, k0_pay37 (k0_pay27 LA AA IX)⟩, ⟨every 3 inb_S4096x128_S512x128_3_0_s_8_1, k0_pay35 (k0_pay27 LA AA IX)⟩, ⟨every 2 inb_S4096x128_S512x128_2_0_s_8_1, k0_pay33 LA AA IX⟩, ⟨every 1 inb_S4096x128_S512x128_1_0_s_8_1, k0_pay31 LA AA IX⟩, ⟨every 0 inb_S4096x128_S512x128_0_0_s_8_1, k0_pay29 LA AA IX⟩]

section States

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S520x1024 .f32) (harg14 : arg14.IsWhole) (arg15 : Memref sig .tc .vmem S4096x128 .f32) (harg15 : arg15.IsWhole) (arg16 : Memref sig .tc .vmem S4096x128 .f32) (harg16 : arg16.IsWhole) (arg17 : Memref sig .tc .vmem S8x128 .f32) (harg17 : arg17.IsWhole) (v23 : FVec Ideal S512x1024 .f32) (v213 : FVec Ideal S512x128 .f32) (v214 : Vec Ideal S512x128 .f32)
  (f15 : BufTy.Contents (Elt Ideal) arg15.view.ty) (f16 : BufTy.Contents (Elt Ideal) arg16.view.ty) (init : Vec Ideal S8x128 .f32)
  (LA AA IX : FVec Ideal S512x1024 .f32)

/-- After the counted loop: the carried state, and the states of the 512 rows side by side. -/
theorem states (A G S : ℕ → Fin 1024 → EReal) (hA : ∀ (r : Fin 512) j, AA (ix2 r j) = A r.1 j)
    (hG : ∀ (r : Fin 512) j, k0_pay27 LA AA IX (ix2 r j) = G r.1 j)
    (hS : ∀ r < 512, ∀ j, S (r + 1) j = A r j * S r j + G r j) (h0 : ∀ s l, init (ix2 s l) = S 0 (lane s l)) :
    (∀ s l, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 (APieces arg15 f15 AA) (arg16.view.writes (Elt Ideal) f16 (GPieces LA AA IX)) init k0_t1_loop.trips).1 (ix2 s l) = S 512 (lane s l))
      ∧ ∀ (c' : Fin 8) (inb) (t : Fin 512) (l : Fin 128), arg16.view.readAt (Elt Ideal) (⟨![c'.1, 0], S512x128.size, ![8, 1], inb⟩ : LoadRect S4096x128)
          (arg16.view.writes (Elt Ideal) f16 ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 (APieces arg15 f15 AA) (arg16.view.writes (Elt Ideal) f16 (GPieces LA AA IX)) init k0_t1_loop.trips).2 ++ GPieces LA AA IX)) (ix2 t l) = S (t.1 + 1) (lane c' l) := by
  have hX := read_eight arg15.view f15 (fun t j => A t.1 j) (i0 := inb_S4096x128_S512x128_0_0_s_8_1) (i1 := inb_S4096x128_S512x128_1_0_s_8_1) (i2 := inb_S4096x128_S512x128_2_0_s_8_1) (i3 := inb_S4096x128_S512x128_3_0_s_8_1) (i4 := inb_S4096x128_S512x128_4_0_s_8_1) (i5 := inb_S4096x128_S512x128_5_0_s_8_1) (i6 := inb_S4096x128_S512x128_6_0_s_8_1) (i7 := inb_S4096x128_S512x128_7_0_s_8_1) _ _ _ _ _ _ _ _
    (fun t l => (pay28_apply _ t l).trans (hA _ _)) (fun t l => (pay30_apply _ t l).trans (hA _ _)) (fun t l => (pay32_apply _ t l).trans (hA _ _)) (fun t l => (pay34_apply _ t l).trans (hA _ _)) (fun t l => (pay36_apply _ t l).trans (hA _ _)) (fun t l => (pay38_apply _ t l).trans (hA _ _)) (fun t l => (pay40_apply _ t l).trans (hA _ _)) (fun t l => (pay42_apply _ t l).trans (hA _ _))
  have hY := read_eight arg16.view f16 (fun t j => G t.1 j) (i0 := inb_S4096x128_S512x128_0_0_s_8_1) (i1 := inb_S4096x128_S512x128_1_0_s_8_1) (i2 := inb_S4096x128_S512x128_2_0_s_8_1) (i3 := inb_S4096x128_S512x128_3_0_s_8_1) (i4 := inb_S4096x128_S512x128_4_0_s_8_1) (i5 := inb_S4096x128_S512x128_5_0_s_8_1) (i6 := inb_S4096x128_S512x128_6_0_s_8_1) (i7 := inb_S4096x128_S512x128_7_0_s_8_1) _ _ _ _ _ _ _ _
    (fun t l => (pay29_apply _ _ _ t l).trans (hG _ _)) (fun t l => (pay31_apply _ _ _ t l).trans (hG _ _)) (fun t l => (pay33_apply _ _ _ t l).trans (hG _ _))
    (fun t l => (pay35_apply _ t l).trans (hG _ _)) (fun t l => (pay37_apply _ t l).trans (hG _ _)) (fun t l => (pay39_apply _ t l).trans (hG _ _)) (fun t l => (pay41_apply _ t l).trans (hG _ _)) (fun t l => (pay44_apply _ t l).trans (hG _ _))
  obtain ⟨h1, h2⟩ := loop_spec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v213 v214 (APieces arg15 f15 AA) (arg16.view.writes (Elt Ideal) f16 (GPieces LA AA IX)) init
    A G S hX hY hS h0 512 le_rfl
  rw [trips_eq]
  refine ⟨h1, fun c' inb t l => ?_⟩
  rw [readAt_every, View.writes_append]
  exact (h2 t c' l).trans (if_pos t.2)

end States

/-- What the eleven input blocks of a point read. -/
structure Reads (p : Par) (x : Fin 512 → Fin 1024 → EReal) (arg2 : Memref sig .tc .vmem S1x512x1024 .f32) (arg3 : Memref sig .tc .vmem S1x1024 .f32) (arg4 : Memref sig .tc .vmem S1024x2048 .bf16) (arg5 : Memref sig .tc .vmem S4x1024 .f32) (arg6 : Memref sig .tc .vmem S1x1024 .f32) (arg7 : Memref sig .tc .vmem S4x256x256 .bf16) (arg8 : Memref sig .tc .vmem S1x1024 .f32) (arg9 : Memref sig .tc .vmem S4x256x256 .bf16) (arg10 : Memref sig .tc .vmem S1x1024 .f32) (arg11 : Memref sig .tc .vmem S1x1024 .f32) (arg12 : Memref sig .tc .vmem S1024x1024 .bf16)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) : Prop where
  h2 : ∀ (r : Fin 512) (j : Fin 1024), arg2.view.read (Elt Ideal) f2 (ix3 (0 : Fin 1) r j) = x r j
  h3 : ∀ j : Fin 1024, arg3.view.read (Elt Ideal) f3 (ix2 (0 : Fin 1) j) = p.g j
  h4 : ∀ (d : Fin 1024) (k : Fin 2048), arg4.view.read (Elt Ideal) f4 (ix2 d k) = p.wi d k
  h5 : ∀ (k : Fin 4) (j : Fin 1024), arg5.view.read (Elt Ideal) f5 (ix2 k j) = p.cw k j
  h6 : ∀ j : Fin 1024, arg6.view.read (Elt Ideal) f6 (ix2 (0 : Fin 1) j) = p.cb j
  h7 : ∀ (n : Fin 4) (c d : Fin 256), arg7.view.read (Elt Ideal) f7 (ix3 n c d) = p.wa n c d
  h8 : ∀ j : Fin 1024, arg8.view.read (Elt Ideal) f8 (ix2 (0 : Fin 1) j) = p.ba j
  h9 : ∀ (n : Fin 4) (c d : Fin 256), arg9.view.read (Elt Ideal) f9 (ix3 n c d) = p.wx n c d
  h10 : ∀ j : Fin 1024, arg10.view.read (Elt Ideal) f10 (ix2 (0 : Fin 1) j) = p.bx j
  h11 : ∀ j : Fin 1024, arg11.view.read (Elt Ideal) f11 (ix2 (0 : Fin 1) j) = p.lam j
  h12 : ∀ k j : Fin 1024, arg12.view.read (Elt Ideal) f12 (ix2 k j) = p.wo k j

section Point

variable {p : Par} {x : Fin 512 → Fin 1024 → EReal} {arg2 : Memref sig .tc .vmem S1x512x1024 .f32} {arg3 : Memref sig .tc .vmem S1x1024 .f32} {arg4 : Memref sig .tc .vmem S1024x2048 .bf16} {arg5 : Memref sig .tc .vmem S4x1024 .f32} {arg6 : Memref sig .tc .vmem S1x1024 .f32} {arg7 : Memref sig .tc .vmem S4x256x256 .bf16} {arg8 : Memref sig .tc .vmem S1x1024 .f32} {arg9 : Memref sig .tc .vmem S4x256x256 .bf16} {arg10 : Memref sig .tc .vmem S1x1024 .f32} {arg11 : Memref sig .tc .vmem S1x1024 .f32} {arg12 : Memref sig .tc .vmem S1024x1024 .bf16}
  {f2 : BufTy.Contents (Elt Ideal) arg2.view.ty} {f3 : BufTy.Contents (Elt Ideal) arg3.view.ty} {f4 : BufTy.Contents (Elt Ideal) arg4.view.ty} {f5 : BufTy.Contents (Elt Ideal) arg5.view.ty} {f6 : BufTy.Contents (Elt Ideal) arg6.view.ty} {f7 : BufTy.Contents (Elt Ideal) arg7.view.ty} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} (h : Reads p x arg2 arg3 arg4 arg5 arg6 arg7 arg8 arg9 arg10 arg11 arg12 f2 f3 f4 f5 f6 f7 f8 f9 f10 f11 f12)

include h

theorem both_row (r : Fin 512) (k : Fin 2048) : k0_pay5 (arg2.view.readAt (Elt Ideal) (Rect.unit (s := S1x512x1024) ![0, 0, 0] S1x512x1024.size inb_S1x512x1024_S1x512x1024_0_0_0).toLoadRect f2) (arg3.view.readAt (Elt Ideal) (Rect.unit (s := S1x1024) ![0, 0] S1x1024.size inb_S1x1024_S1x1024_0_0).toLoadRect f3) (arg4.view.readAt (Elt Ideal) (Rect.unit (s := S1024x2048) ![0, 0] S1024x2048.size inb_S1024x2048_S1024x2048_0_0).toLoadRect f4) (ix2 r k) = both p (x r) k := by
  have e2 : ∀ (r : Fin 512) (d : Fin 1024), (arg2.view.readAt (Elt Ideal) (Rect.unit (s := S1x512x1024) ![0, 0, 0] S1x512x1024.size inb_S1x512x1024_S1x512x1024_0_0_0).toLoadRect f2) (ix3 0 r d) = x r d := fun r d =>
    (readAt_at3 arg2.view f2 0 0 0 _ 0 r d 0 r d rfl (by omega) (by omega)).trans (h.h2 r d)
  have e3 : ∀ d : Fin 1024, (arg3.view.readAt (Elt Ideal) (Rect.unit (s := S1x1024) ![0, 0] S1x1024.size inb_S1x1024_S1x1024_0_0).toLoadRect f3) (ix2 0 d) = p.g d := fun d =>
    (readAt_at2 arg3.view f3 0 0 _ 0 d 0 d rfl (by omega)).trans (h.h3 d)
  have e4 : ∀ (d : Fin 1024) (k : Fin 2048), (arg4.view.readAt (Elt Ideal) (Rect.unit (s := S1024x2048) ![0, 0] S1024x2048.size inb_S1024x2048_S1024x2048_0_0).toLoadRect f4) (ix2 d k) = p.wi d k := fun d k =>
    (readAt_at2 arg4.view f4 0 0 _ d k d k (by omega) (by omega)).trans (h.h4 d k)
  refine (pay5_apply _ _ _ r k).trans ?_
  simp only [e2, e3, e4]
  rfl

theorem rnn_row (r : Fin 512) (j : Fin 1024) : k0_pay7 (arg2.view.readAt (Elt Ideal) (Rect.unit (s := S1x512x1024) ![0, 0, 0] S1x512x1024.size inb_S1x512x1024_S1x512x1024_0_0_0).toLoadRect f2) (arg3.view.readAt (Elt Ideal) (Rect.unit (s := S1x1024) ![0, 0] S1x1024.size inb_S1x1024_S1x1024_0_0).toLoadRect f3) (arg4.view.readAt (Elt Ideal) (Rect.unit (s := S1024x2048) ![0, 0] S1024x2048.size inb_S1024x2048_S1024x2048_0_0).toLoadRect f4) (ix2 r j) = rnn p (x r) j :=
  (pay7_apply _ _ _ r j).trans (both_row h r _)

theorem gelu_row (r : Fin 512) (j : Fin 1024) : k0_pay49 (k0_pay6 (arg2.view.readAt (Elt Ideal) (Rect.unit (s := S1x512x1024) ![0, 0, 0] S1x512x1024.size inb_S1x512x1024_S1x512x1024_0_0_0).toLoadRect f2) (arg3.view.readAt (Elt Ideal) (Rect.unit (s := S1x1024) ![0, 0] S1x1024.size inb_S1x1024_S1x1024_0_0).toLoadRect f3) (arg4.view.readAt (Elt Ideal) (Rect.unit (s := S1024x2048) ![0, 0] S1024x2048.size inb_S1024x2048_S1024x2048_0_0).toLoadRect f4)) (ix2 r j) = gelu (both p (x r) ⟨j.1, by omega⟩) :=
  (pay49_apply _ r j).trans (congrArg gelu ((pay6_apply _ _ _ r j).trans (both_row h r _)))

theorem conv_in (U : ℕ → Fin 1024 → EReal) {b0 b1 b2 b3 : Vec Ideal S512x1024 .f32}
    (h0 : ∀ (r : Fin 512) j, b0 (ix2 r j) = U (r.1 + 5) j) (h1 : ∀ (r : Fin 512) j, b1 (ix2 r j) = U (r.1 + 6) j)
    (h2 : ∀ (r : Fin 512) j, b2 (ix2 r j) = U (r.1 + 7) j) (h3 : ∀ (r : Fin 512) j, b3 (ix2 r j) = U (r.1 + 8) j) :
    ConvIn p U (arg5.view.readAt (Elt Ideal) (Rect.unit (s := S4x1024) ![0, 0] S1x1024.size inb_S4x1024_S1x1024_0_0).toLoadRect f5) (arg5.view.readAt (Elt Ideal) (Rect.unit (s := S4x1024) ![1, 0] S1x1024.size inb_S4x1024_S1x1024_1_0).toLoadRect f5) (arg5.view.readAt (Elt Ideal) (Rect.unit (s := S4x1024) ![2, 0] S1x1024.size inb_S4x1024_S1x1024_2_0).toLoadRect f5) (arg5.view.readAt (Elt Ideal) (Rect.unit (s := S4x1024) ![3, 0] S1x1024.size inb_S4x1024_S1x1024_3_0).toLoadRect f5) (arg6.view.readAt (Elt Ideal) (Rect.unit (s := S1x1024) ![0, 0] S1x1024.size inb_S1x1024_S1x1024_0_0).toLoadRect f6) b0 b1 b2 b3 where
  c0 j := (readAt_at2 arg5.view f5 0 0 _ 0 j 0 j rfl (by omega)).trans (h.h5 0 j)
  c1 j := (readAt_at2 arg5.view f5 1 0 _ 0 j 1 j rfl (by omega)).trans (h.h5 1 j)
  c2 j := (readAt_at2 arg5.view f5 2 0 _ 0 j 2 j rfl (by omega)).trans (h.h5 2 j)
  c3 j := (readAt_at2 arg5.view f5 3 0 _ 0 j 3 j rfl (by omega)).trans (h.h5 3 j)
  cb j := (readAt_at2 arg6.view f6 0 0 _ 0 j 0 j rfl (by omega)).trans (h.h6 j)
  b0 := h0
  b1 := h1
  b2 := h2
  b3 := h3

theorem gate_a : GateIn p.wa p.ba (arg7.view.readAt (Elt Ideal) (Rect.unit (s := S4x256x256) ![0, 0, 0] S1x256x256.size inb_S4x256x256_S1x256x256_0_0_0).toLoadRect f7) (arg7.view.readAt (Elt Ideal) (Rect.unit (s := S4x256x256) ![1, 0, 0] S1x256x256.size inb_S4x256x256_S1x256x256_1_0_0).toLoadRect f7) (arg7.view.readAt (Elt Ideal) (Rect.unit (s := S4x256x256) ![2, 0, 0] S1x256x256.size inb_S4x256x256_S1x256x256_2_0_0).toLoadRect f7) (arg7.view.readAt (Elt Ideal) (Rect.unit (s := S4x256x256) ![3, 0, 0] S1x256x256.size inb_S4x256x256_S1x256x256_3_0_0).toLoadRect f7) (arg8.view.readAt (Elt Ideal) (Rect.unit (s := S1x1024) ![0, 0] S1x256.size inb_S1x1024_S1x256_0_0).toLoadRect f8) (arg8.view.readAt (Elt Ideal) (Rect.unit (s := S1x1024) ![0, 256] S1x256.size inb_S1x1024_S1x256_0_256).toLoadRect f8) (arg8.view.readAt (Elt Ideal) (Rect.unit (s := S1x1024) ![0, 512] S1x256.size inb_S1x1024_S1x256_0_512).toLoadRect f8) (arg8.view.readAt (Elt Ideal) (Rect.unit (s := S1x1024) ![0, 768] S1x256.size inb_S1x1024_S1x256_0_768).toLoadRect f8) where
  w0 c d := (readAt_at3 arg7.view f7 0 0 0 _ 0 c d 0 c d rfl (by omega) (by omega)).trans (h.h7 0 c d)
  w1 c d := (readAt_at3 arg7.view f7 1 0 0 _ 0 c d 1 c d rfl (by omega) (by omega)).trans (h.h7 1 c d)
  w2 c d := (readAt_at3 arg7.view f7 2 0 0 _ 0 c d 2 c d rfl (by omega) (by omega)).trans (h.h7 2 c d)
  w3 c d := (readAt_at3 arg7.view f7 3 0 0 _ 0 c d 3 c d rfl (by omega) (by omega)).trans (h.h7 3 c d)
  b0 d := (readAt_at2 arg8.view f8 0 0 _ 0 d 0 (col 0 d) rfl rfl).trans (h.h8 _)
  b1 d := (readAt_at2 arg8.view f8 0 256 _ 0 d 0 (col 1 d) rfl rfl).trans (h.h8 _)
  b2 d := (readAt_at2 arg8.view f8 0 512 _ 0 d 0 (col 2 d) rfl rfl).trans (h.h8 _)
  b3 d := (readAt_at2 arg8.view f8 0 768 _ 0 d 0 (col 3 d) rfl rfl).trans (h.h8 _)

theorem gate_x : GateIn p.wx p.bx (arg9.view.readAt (Elt Ideal) (Rect.unit (s := S4x256x256) ![0, 0, 0] S1x256x256.size inb_S4x256x256_S1x256x256_0_0_0).toLoadRect f9) (arg9.view.readAt (Elt Ideal) (Rect.unit (s := S4x256x256) ![1, 0, 0] S1x256x256.size inb_S4x256x256_S1x256x256_1_0_0).toLoadRect f9) (arg9.view.readAt (Elt Ideal) (Rect.unit (s := S4x256x256) ![2, 0, 0] S1x256x256.size inb_S4x256x256_S1x256x256_2_0_0).toLoadRect f9) (arg9.view.readAt (Elt Ideal) (Rect.unit (s := S4x256x256) ![3, 0, 0] S1x256x256.size inb_S4x256x256_S1x256x256_3_0_0).toLoadRect f9) (arg10.view.readAt (Elt Ideal) (Rect.unit (s := S1x1024) ![0, 0] S1x256.size inb_S1x1024_S1x256_0_0).toLoadRect f10) (arg10.view.readAt (Elt Ideal) (Rect.unit (s := S1x1024) ![0, 256] S1x256.size inb_S1x1024_S1x256_0_256).toLoadRect f10) (arg10.view.readAt (Elt Ideal) (Rect.unit (s := S1x1024) ![0, 512] S1x256.size inb_S1x1024_S1x256_0_512).toLoadRect f10) (arg10.view.readAt (Elt Ideal) (Rect.unit (s := S1x1024) ![0, 768] S1x256.size inb_S1x1024_S1x256_0_768).toLoadRect f10) where
  w0 c d := (readAt_at3 arg9.view f9 0 0 0 _ 0 c d 0 c d rfl (by omega) (by omega)).trans (h.h9 0 c d)
  w1 c d := (readAt_at3 arg9.view f9 1 0 0 _ 0 c d 1 c d rfl (by omega) (by omega)).trans (h.h9 1 c d)
  w2 c d := (readAt_at3 arg9.view f9 2 0 0 _ 0 c d 2 c d rfl (by omega) (by omega)).trans (h.h9 2 c d)
  w3 c d := (readAt_at3 arg9.view f9 3 0 0 _ 0 c d 3 c d rfl (by omega) (by omega)).trans (h.h9 3 c d)
  b0 d := (readAt_at2 arg10.view f10 0 0 _ 0 d 0 (col 0 d) rfl rfl).trans (h.h10 _)
  b1 d := (readAt_at2 arg10.view f10 0 256 _ 0 d 0 (col 1 d) rfl rfl).trans (h.h10 _)
  b2 d := (readAt_at2 arg10.view f10 0 512 _ 0 d 0 (col 2 d) rfl rfl).trans (h.h10 _)
  b3 d := (readAt_at2 arg10.view f10 0 768 _ 0 d 0 (col 3 d) rfl rfl).trans (h.h10 _)

theorem lam_in (j : Fin 1024) : (arg11.view.readAt (Elt Ideal) (Rect.unit (s := S1x1024) ![0, 0] S1x1024.size inb_S1x1024_S1x1024_0_0).toLoadRect f11) (ix2 0 j) = p.lam j :=
  (readAt_at2 arg11.view f11 0 0 _ 0 j 0 j rfl (by omega)).trans (h.h11 j)

theorem wo_in (k j : Fin 1024) : (arg12.view.readAt (Elt Ideal) (Rect.unit (s := S1024x1024) ![0, 0] S1024x1024.size inb_S1024x1024_S1024x1024_0_0).toLoadRect f12) (ix2 k j) = p.wo k j :=
  (readAt_at2 arg12.view f12 0 0 _ k j k j (by omega) (by omega)).trans (h.h12 k j)

theorem x_in (r : Fin 512) (j : Fin 1024) : k0_pay4 (arg2.view.readAt (Elt Ideal) (Rect.unit (s := S1x512x1024) ![0, 0, 0] S1x512x1024.size inb_S1x512x1024_S1x512x1024_0_0_0).toLoadRect f2) (ix2 r j) = x r j :=
  (pay4_apply _ r j).trans ((readAt_at3 arg2.view f2 0 0 0 _ 0 r j 0 r j rfl (by omega) (by omega)).trans (h.h2 r j))

/-- The block that the point stores, its states given. -/
theorem out_row (sq : FVec Ideal S512x1024 .f32) (S : ℕ → Fin 1024 → EReal) (hs : ∀ (r : Fin 512) j, sq (ix2 r j) = S (r.1 + 1) j) (r : Fin 512) (j : Fin 1024) :
    k0_pay1 (k0_pay4 (arg2.view.readAt (Elt Ideal) (Rect.unit (s := S1x512x1024) ![0, 0, 0] S1x512x1024.size inb_S1x512x1024_S1x512x1024_0_0_0).toLoadRect f2)) sq (k0_pay49 (k0_pay6 (arg2.view.readAt (Elt Ideal) (Rect.unit (s := S1x512x1024) ![0, 0, 0] S1x512x1024.size inb_S1x512x1024_S1x512x1024_0_0_0).toLoadRect f2) (arg3.view.readAt (Elt Ideal) (Rect.unit (s := S1x1024) ![0, 0] S1x1024.size inb_S1x1024_S1x1024_0_0).toLoadRect f3) (arg4.view.readAt (Elt Ideal) (Rect.unit (s := S1024x2048) ![0, 0] S1024x2048.size inb_S1024x2048_S1024x2048_0_0).toLoadRect f4))) (arg12.view.readAt (Elt Ideal) (Rect.unit (s := S1024x1024) ![0, 0] S1024x1024.size inb_S1024x1024_S1024x1024_0_0).toLoadRect f12) (ix3 0 r j) = outRow p (x r) (S (r.1 + 1)) j := by
  refine (pay1_apply _ _ _ _ r j).trans ?_
  rw [x_in h]
  simp only [gelu_row h, wo_in h, hs]
  rfl

end Point

section Branch

variable (v : View sig .tc .vmem S520x1024 .f32) (f : v.ty.Contents (Elt Ideal)) (L : List (View.Piece (Elt Ideal) S520x1024 .f32))

theorem br_hi (w : Vec Ideal S512x1024 .f32) (q : Fin 520) (hq : 8 ≤ q.1) (j : Fin 1024) :
    v.read (Elt Ideal) (v.writes (Elt Ideal) f (⟨Rect.unit (s := S520x1024) ![8, 0] S512x1024.size inb_S520x1024_S512x1024_8_0, w⟩ :: L)) (ix2 q j)
      = w (ix2 (⟨q.1 - 8, by omega⟩ : Fin 512) j) :=
  View.read_writes_cons_hit v f (Rect.unit (s := S520x1024) ![8, 0] S512x1024.size inb_S520x1024_S512x1024_8_0) w L (ix2 (⟨q.1 - 8, by omega⟩ : Fin 512) j) _
    ((Rect.unit (s := S520x1024) ![8, 0] S512x1024.size inb_S520x1024_S512x1024_8_0).emb_eq_of_coords _ _
      (Fin.forall_fin_two.mpr ⟨by show q.1 = 8 + 1 * (q.1 - 8); omega, by show j.1 = 0 + 1 * j.1; omega⟩))

theorem br_lo (w : Vec Ideal S512x1024 .f32) (q : Fin 520) (hq : q.1 < 8) (j : Fin 1024) :
    v.read (Elt Ideal) (v.writes (Elt Ideal) f (⟨Rect.unit (s := S520x1024) ![8, 0] S512x1024.size inb_S520x1024_S512x1024_8_0, w⟩ :: L)) (ix2 q j)
      = v.read (Elt Ideal) (v.writes (Elt Ideal) f L) (ix2 q j) := by
  refine View.read_writes_cons_miss v f ⟨Rect.unit (s := S520x1024) ![8, 0] S512x1024.size inb_S520x1024_S512x1024_8_0, w⟩ L _ (fun hm => ?_)
  obtain ⟨y, hy⟩ := (Rect.unit (s := S520x1024) ![8, 0] S512x1024.size inb_S520x1024_S512x1024_8_0).exists_idx_of_mem hm
  have h0 : 8 + 1 * (y 0).val = q.1 := congrArg (fun z => (z (0 : Fin 2)).val) hy
  omega

theorem br_top (w : Vec Ideal S8x1024 .f32) (q : Fin 8) (j : Fin 1024) :
    v.read (Elt Ideal) (v.writes (Elt Ideal) f (⟨Rect.unit (s := S520x1024) ![0, 0] S8x1024.size inb_S520x1024_S8x1024_0_0, w⟩ :: L))
      (ix2 (⟨q.1, by omega⟩ : Fin 520) j) = w (ix2 q j) :=
  View.read_writes_cons_hit v f (Rect.unit (s := S520x1024) ![0, 0] S8x1024.size inb_S520x1024_S8x1024_0_0) w L (ix2 q j) _
    ((Rect.unit (s := S520x1024) ![0, 0] S8x1024.size inb_S520x1024_S8x1024_0_0).emb_eq_of_coords _ _
      (Fin.forall_fin_two.mpr ⟨by show q.1 = 0 + 1 * q.1; omega, by show j.1 = 0 + 1 * j.1; omega⟩))

end Branch

theorem st_top (v : View sig .tc .vmem S8x128 .f32) (f : v.ty.Contents (Elt Ideal)) (L : List (View.Piece (Elt Ideal) S8x128 .f32)) (w : Vec Ideal S8x128 .f32)
    (s : Fin 8) (l : Fin 128) :
    v.read (Elt Ideal) (v.writes (Elt Ideal) f (⟨Rect.unit (s := S8x128) ![0, 0] S8x128.size inb_S8x128_S8x128_0_0, w⟩ :: L)) (ix2 s l) = w (ix2 s l) :=
  View.read_writes_cons_hit v f (Rect.unit (s := S8x128) ![0, 0] S8x128.size inb_S8x128_S8x128_0_0) w L (ix2 s l) _
    ((Rect.unit (s := S8x128) ![0, 0] S8x128.size inb_S8x128_S8x128_0_0).emb_eq_of_coords _ _
      (Fin.forall_fin_two.mpr ⟨by show s.1 = 0 + 1 * s.1; omega, by show l.1 = 0 + 1 * l.1; omega⟩))

theorem out_top (v : View sig .tc .vmem S1x512x1024 .f32) (f : v.ty.Contents (Elt Ideal)) (L : List (View.Piece (Elt Ideal) S1x512x1024 .f32)) (w : Vec Ideal S1x512x1024 .f32)
    (r : Fin 512) (j : Fin 1024) :
    v.read (Elt Ideal) (v.writes (Elt Ideal) f (⟨Rect.unit (s := S1x512x1024) ![0, 0, 0] S1x512x1024.size inb_S1x512x1024_S1x512x1024_0_0_0, w⟩ :: L)) (ix3 0 r j) = w (ix3 0 r j) :=
  View.read_writes_cons_hit v f (Rect.unit (s := S1x512x1024) ![0, 0, 0] S1x512x1024.size inb_S1x512x1024_S1x512x1024_0_0_0) w L (ix3 0 r j) _
    ((Rect.unit (s := S1x512x1024) ![0, 0, 0] S1x512x1024.size inb_S1x512x1024_S1x512x1024_0_0_0).emb_eq_of_coords _ _
      (Fin.forall_fin_succ.mpr ⟨by show 0 = 0 + 1 * 0; omega, Fin.forall_fin_two.mpr ⟨by show r.1 = 0 + 1 * r.1; omega, by show j.1 = 0 + 1 * j.1; omega⟩⟩))

section Cases

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S520x1024 .f32) (harg14 : arg14.IsWhole) (arg15 : Memref sig .tc .vmem S4096x128 .f32) (harg15 : arg15.IsWhole) (arg16 : Memref sig .tc .vmem S4096x128 .f32) (harg16 : arg16.IsWhole) (arg17 : Memref sig .tc .vmem S8x128 .f32) (harg17 : arg17.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (p : Par) (x : Fin 512 → Fin 1024 → EReal) (U S : ℕ → Fin 1024 → EReal)

set_option maxHeartbeats 1600000 in
/-- A later point of a batch element. -/
theorem later_spec (hi : ¬ (Scalar.cmpi .ne (Scalar.extui (Scalar.cmpi .eq (BitVec.ofNat 32 (i 1).val) 0#32) : BitVec 32) 0#32 : BitVec 1) = 1#1) (h : Reads p x arg2 arg3 arg4 arg5 arg6 arg7 arg8 arg9 arg10 arg11 arg12 f2 f3 f4 f5 f6 f7 f8 f9 f10 f11 f12)
    (h14 : ∀ (q : Fin 8) j, arg14.view.read (Elt Ideal) f14 (ix2 (⟨q.1, by omega⟩ : Fin 520) j) = U q.1 j) (h17 : ∀ s l, arg17.view.read (Elt Ideal) f17 (ix2 s l) = S 0 (lane s l))
    (hU : ∀ (r : Fin 512) j, U (r.1 + 8) j = rnn p (x r) j) (hS : Runs p U S 512) :
    (∀ (r : Fin 512) j, arg13.view.read (Elt Ideal) (arg13.view.writes (Elt Ideal) f13 (Body.later (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).1) (ix3 0 r j) = outRow p (x r) (S (r.1 + 1)) j)
      ∧ (∀ (q : Fin 8) j, arg14.view.read (Elt Ideal) (arg14.view.writes (Elt Ideal) arg14.view.junk (Body.later (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.1) (ix2 (⟨q.1, by omega⟩ : Fin 520) j) = U (512 + q.1) j)
      ∧ ∀ s l, arg17.view.read (Elt Ideal) (arg17.view.writes (Elt Ideal) f17 (Body.later (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.2.2.2.1) (ix2 s l) = S 512 (lane s l) := by
  have hhi : ∀ (f : BufTy.Contents (Elt Ideal) arg14.view.ty) (q : Fin 520) (hq : 8 ≤ q.1) (j : Fin 1024),
      arg14.view.read (Elt Ideal) (arg14.view.writes (Elt Ideal) f (Body.later.sl.H14_1 (F := Ideal) arg2 arg3 arg4 f2 f3 f4)) (ix2 q j) = U q.1 j := fun f q hq j => by
    refine (br_hi arg14.view f _ _ q hq j).trans ((rnn_row h _ j).trans ((hU _ j).symm.trans ?_))
    show U (q.1 - 8 + 8) j = U q.1 j
    rw [Nat.sub_add_cancel hq]
  have hbr : ∀ (q : Fin 520) (j : Fin 1024), arg14.view.read (Elt Ideal) (arg14.view.writes (Elt Ideal) f14 (Body.later.sl.H14_1 (F := Ideal) arg2 arg3 arg4 f2 f3 f4)) (ix2 q j) = U q.1 j := fun q j => by
    by_cases hq : 8 ≤ q.1
    · exact hhi _ q hq j
    · refine (br_lo arg14.view _ _ _ q (by omega) j).trans ?_
      exact h14 ⟨q.1, by omega⟩ j
  have hb : ∀ (o : ℕ) (ho : o + 512 ≤ 520) (inb) (r : Fin 512) (j : Fin 1024),
      arg14.view.readAt (Elt Ideal) (Rect.unit (s := S520x1024) ![o, 0] S512x1024.size inb).toLoadRect (arg14.view.writes (Elt Ideal) f14 (Body.later.sl.H14_1 (F := Ideal) arg2 arg3 arg4 f2 f3 f4)) (ix2 r j) = U (r.1 + o) j := fun o ho inb r j =>
    (readAt_at2 arg14.view _ o 0 inb r j ⟨r.1 + o, by omega⟩ j (by show r.1 + o = o + r.1; omega) (by omega)).trans (hbr _ j)
  have hb8 : ∀ (r : Fin 512) (j : Fin 1024), (Body.later.sl.v47 (F := Ideal) arg2 arg3 arg4 arg14 f2 f3 f4) (ix2 r j) = U (r.1 + 8) j := fun r j =>
    (readAt_at2 arg14.view _ 8 0 _ r j ⟨r.1 + 8, by omega⟩ j (by show r.1 + 8 = 8 + r.1; omega) (by omega)).trans (hhi _ _ (by show 8 ≤ r.1 + 8; omega) j)
  have hc := conv_in h U (hb 5 (by omega) inb_S520x1024_S512x1024_5_0) (hb 6 (by omega) inb_S520x1024_S512x1024_6_0) (hb 7 (by omega) inb_S520x1024_S512x1024_7_0) hb8
  have hA : ∀ (r : Fin 512) j, (Body.later.sl.r_14 (F := Ideal) arg2 arg3 arg4 arg5 arg6 arg7 arg8 arg11 arg14 f2 f3 f4 f5 f6 f7 f8 f11 f14) (ix2 r j) = dec p (cv p U r.1) j := AA_apply p U hc (gate_a h) (lam_in h)
  have hG : ∀ (r : Fin 512) j, k0_pay27 (Body.later.sl.r_13 (F := Ideal) arg2 arg3 arg4 arg5 arg6 arg7 arg8 arg11 arg14 f2 f3 f4 f5 f6 f7 f8 f11 f14) (Body.later.sl.r_14 (F := Ideal) arg2 arg3 arg4 arg5 arg6 arg7 arg8 arg11 arg14 f2 f3 f4 f5 f6 f7 f8 f11 f14) (Body.later.sl.r_15 (F := Ideal) arg2 arg3 arg4 arg5 arg6 arg9 arg10 arg14 f2 f3 f4 f5 f6 f9 f10 f14) (ix2 r j) = inp p (cv p U r.1) j :=
    GX_apply p U hc (gate_a h) (lam_in h) (gate_x h)
  have h0 : ∀ s l, (arg17.view.readAt (Elt Ideal) (Rect.unit (s := S8x128) ![0, 0] S8x128.size inb_S8x128_S8x128_0_0).toLoadRect f17) (ix2 s l) = S 0 (lane s l) := fun s l =>
    (readAt_at2 arg17.view _ 0 0 _ s l s l (by omega) (by omega)).trans (h17 s l)
  obtain ⟨s1, s2⟩ := states c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Body.later.sl.r_1 (F := Ideal) arg2 arg3 arg4 f2 f3 f4) (Body.later.sl.r_17 (F := Ideal) arg2 arg3 arg4 arg5 arg6 arg7 arg8 arg9 arg10 arg11 arg14 f2 f3 f4 f5 f6 f7 f8 f9 f10 f11 f14) (Body.later.sl.r_18 (F := Ideal) arg2 arg3 arg4 arg5 arg6 arg7 arg8 arg9 arg10 arg11 arg14 arg16 f2 f3 f4 f5 f6 f7 f8 f9 f10 f11 f14 f16) f15 f16 _ _ _ _ _ _ S hA hG hS h0
  have hq : ∀ (r : Fin 512) j, (Body.later.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f14 f15 f16 f17) (ix2 r j) = S (r.1 + 1) j := fun r j =>
    pay48_apply _ _ _ _ _ _ _ _ (fun r j => S (r.1 + 1) j)
      (s2 0 inb_S4096x128_S512x128_0_0_s_8_1) (s2 1 inb_S4096x128_S512x128_1_0_s_8_1) (s2 2 inb_S4096x128_S512x128_2_0_s_8_1) (s2 3 inb_S4096x128_S512x128_3_0_s_8_1) (s2 4 inb_S4096x128_S512x128_4_0_s_8_1) (s2 5 inb_S4096x128_S512x128_5_0_s_8_1) (s2 6 inb_S4096x128_S512x128_6_0_s_8_1) (s2 7 inb_S4096x128_S512x128_7_0_s_8_1) r j
  unfold Body.later
  refine ⟨fun r j => ?_, fun q j => ?_, fun s l => ?_⟩
  · exact (out_top arg13.view f13 _ _ r j).trans (out_row h _ S hq r j)
  · refine (br_top arg14.view _ _ _ q j).trans ((pay11_apply _ q j).trans ?_)
    refine (readAt_at2 arg14.view _ 512 0 _ q j ⟨512 + q.1, by omega⟩ j rfl (by omega)).trans (hhi _ _ (by show 8 ≤ 512 + q.1; omega) j)
  · exact (st_top arg17.view _ _ _ s l).trans ((pay47_apply _ s l).trans (s1 s l))

set_option maxHeartbeats 1600000 in
/-- The first point of a batch element. -/
theorem first_spec (hi : (Scalar.cmpi .ne (Scalar.extui (Scalar.cmpi .eq (BitVec.ofNat 32 (i 1).val) 0#32) : BitVec 32) 0#32 : BitVec 1) = 1#1) (h : Reads p x arg2 arg3 arg4 arg5 arg6 arg7 arg8 arg9 arg10 arg11 arg12 f2 f3 f4 f5 f6 f7 f8 f9 f10 f11 f12)
    (h14 : ∀ q < 8, ∀ j, U q j = 0) (h17 : ∀ j, S 0 j = 0)
    (hU : ∀ (r : Fin 512) j, U (r.1 + 8) j = rnn p (x r) j) (hS : Runs p U S 512) :
    (∀ (r : Fin 512) j, arg13.view.read (Elt Ideal) (arg13.view.writes (Elt Ideal) f13 (Body.first (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).1) (ix3 0 r j) = outRow p (x r) (S (r.1 + 1)) j)
      ∧ (∀ (q : Fin 8) j, arg14.view.read (Elt Ideal) (arg14.view.writes (Elt Ideal) arg14.view.junk (Body.first (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.1) (ix2 (⟨q.1, by omega⟩ : Fin 520) j) = U (512 + q.1) j)
      ∧ ∀ s l, arg17.view.read (Elt Ideal) (arg17.view.writes (Elt Ideal) arg17.view.junk (Body.first (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.2.2.2.1) (ix2 s l) = S 512 (lane s l) := by
  have hhi : ∀ (f : BufTy.Contents (Elt Ideal) arg14.view.ty) (q : Fin 520) (hq : 8 ≤ q.1) (j : Fin 1024),
      arg14.view.read (Elt Ideal) (arg14.view.writes (Elt Ideal) f (Body.first.sl.H14_2 (F := Ideal) arg2 arg3 arg4 f2 f3 f4)) (ix2 q j) = U q.1 j := fun f q hq j => by
    refine (br_hi arg14.view f _ _ q hq j).trans ((rnn_row h _ j).trans ((hU _ j).symm.trans ?_))
    show U (q.1 - 8 + 8) j = U q.1 j
    rw [Nat.sub_add_cancel hq]
  have hbr : ∀ (q : Fin 520) (j : Fin 1024), arg14.view.read (Elt Ideal) (arg14.view.writes (Elt Ideal) arg14.view.junk (Body.first.sl.H14_2 (F := Ideal) arg2 arg3 arg4 f2 f3 f4)) (ix2 q j) = U q.1 j := fun q j => by
    by_cases hq : 8 ≤ q.1
    · exact hhi _ q hq j
    · refine (br_lo arg14.view _ _ _ q (by omega) j).trans ?_
      exact (br_top arg14.view _ _ _ ⟨q.1, by omega⟩ j).trans ((pay2_apply _ j).trans (h14 q.1 (by omega) j).symm)
  have hb : ∀ (o : ℕ) (ho : o + 512 ≤ 520) (inb) (r : Fin 512) (j : Fin 1024),
      arg14.view.readAt (Elt Ideal) (Rect.unit (s := S520x1024) ![o, 0] S512x1024.size inb).toLoadRect (arg14.view.writes (Elt Ideal) arg14.view.junk (Body.first.sl.H14_2 (F := Ideal) arg2 arg3 arg4 f2 f3 f4)) (ix2 r j) = U (r.1 + o) j := fun o ho inb r j =>
    (readAt_at2 arg14.view _ o 0 inb r j ⟨r.1 + o, by omega⟩ j (by show r.1 + o = o + r.1; omega) (by omega)).trans (hbr _ j)
  have hb8 : ∀ (r : Fin 512) (j : Fin 1024), (Body.first.sl.v47 (F := Ideal) arg2 arg3 arg4 arg14 f2 f3 f4) (ix2 r j) = U (r.1 + 8) j := fun r j =>
    (readAt_at2 arg14.view _ 8 0 _ r j ⟨r.1 + 8, by omega⟩ j (by show r.1 + 8 = 8 + r.1; omega) (by omega)).trans (hhi _ _ (by show 8 ≤ r.1 + 8; omega) j)
  have hc := conv_in h U (hb 5 (by omega) inb_S520x1024_S512x1024_5_0) (hb 6 (by omega) inb_S520x1024_S512x1024_6_0) (hb 7 (by omega) inb_S520x1024_S512x1024_7_0) hb8
  have hA : ∀ (r : Fin 512) j, (Body.first.sl.r_14 (F := Ideal) arg2 arg3 arg4 arg5 arg6 arg7 arg8 arg11 arg14 f2 f3 f4 f5 f6 f7 f8 f11) (ix2 r j) = dec p (cv p U r.1) j := AA_apply p U hc (gate_a h) (lam_in h)
  have hG : ∀ (r : Fin 512) j, k0_pay27 (Body.first.sl.r_13 (F := Ideal) arg2 arg3 arg4 arg5 arg6 arg7 arg8 arg11 arg14 f2 f3 f4 f5 f6 f7 f8 f11) (Body.first.sl.r_14 (F := Ideal) arg2 arg3 arg4 arg5 arg6 arg7 arg8 arg11 arg14 f2 f3 f4 f5 f6 f7 f8 f11) (Body.first.sl.r_15 (F := Ideal) arg2 arg3 arg4 arg5 arg6 arg9 arg10 arg14 f2 f3 f4 f5 f6 f9 f10) (ix2 r j) = inp p (cv p U r.1) j :=
    GX_apply p U hc (gate_a h) (lam_in h) (gate_x h)
  have h0 : ∀ s l, (Body.first.sl.v217 (F := Ideal) arg17) (ix2 s l) = S 0 (lane s l) := fun s l =>
    (readAt_at2 arg17.view _ 0 0 _ s l s l (by omega) (by omega)).trans ((st_top arg17.view _ _ _ s l).trans ((pay3_apply s l).trans (h17 _).symm))
  obtain ⟨s1, s2⟩ := states c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Body.first.sl.r_1 (F := Ideal) arg2 arg3 arg4 f2 f3 f4) (Body.first.sl.r_17 (F := Ideal) arg2 arg3 arg4 arg5 arg6 arg7 arg8 arg9 arg10 arg11 arg14 f2 f3 f4 f5 f6 f7 f8 f9 f10 f11) (Body.first.sl.r_18 (F := Ideal) arg2 arg3 arg4 arg5 arg6 arg7 arg8 arg9 arg10 arg11 arg14 arg16 f2 f3 f4 f5 f6 f7 f8 f9 f10 f11 f16) f15 f16 _ _ _ _ _ _ S hA hG hS h0
  have hq : ∀ (r : Fin 512) j, (Body.first.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f15 f16) (ix2 r j) = S (r.1 + 1) j := fun r j =>
    pay48_apply _ _ _ _ _ _ _ _ (fun r j => S (r.1 + 1) j)
      (s2 0 inb_S4096x128_S512x128_0_0_s_8_1) (s2 1 inb_S4096x128_S512x128_1_0_s_8_1) (s2 2 inb_S4096x128_S512x128_2_0_s_8_1) (s2 3 inb_S4096x128_S512x128_3_0_s_8_1) (s2 4 inb_S4096x128_S512x128_4_0_s_8_1) (s2 5 inb_S4096x128_S512x128_5_0_s_8_1) (s2 6 inb_S4096x128_S512x128_6_0_s_8_1) (s2 7 inb_S4096x128_S512x128_7_0_s_8_1) r j
  unfold Body.first
  refine ⟨fun r j => ?_, fun q j => ?_, fun s l => ?_⟩
  · exact (out_top arg13.view f13 _ _ r j).trans (out_row h _ S hq r j)
  · refine (br_top arg14.view _ _ _ q j).trans ((pay11_apply _ q j).trans ?_)
    refine (readAt_at2 arg14.view _ 512 0 _ q j ⟨512 + q.1, by omega⟩ j rfl (by omega)).trans (hhi _ _ (by show 8 ≤ 512 + q.1; omega) j)
  · exact (st_top arg17.view _ _ _ s l).trans ((pay47_apply _ s l).trans (s1 s l))

end Cases

end Cert.LruIdeal.Block

end
-- ==== Proof.Lru.IdealRun.lean ====
module

public import proofs.«01_k».proof.Proof.Lru.IdealHost
public import proofs.«01_k».proof.Proof.Lru.IdealPoint
public import proofs.«01_k».proof.Proof.Lru.IdealFrame

@[expose] public section

set_option maxRecDepth 16384

noncomputable section

/-! The mixer's kernel run at the extended reals with its results named: after grid point `t` the result's block is
    `outAt`, and between two points of one batch element the scratch buffers hold the branch's last eight rows and the
    recurrence's state. -/

namespace Cert.LruIdeal.Block

open Cert.LruIdeal Cert.LruIdeal.Gen
open Idealize.ShloMosaic Idealize.ShloMosaic.TcCoe Idealize.ShloMosaic.Tactic FfnMath LruMath
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of the result that point `t` writes. -/
def outAt (c : Dev nD) (t : Fin cfg0.N) : Vec Ideal S1x512x1024 .f32 := fun y =>
  outRow (par m c) (xrow m c (t.val / 16) (512 * (t.val % 16) + (y 1).val)) (st m c (t.val / 16) (512 * (t.val % 16) + ((y 1).val + 1))) (y 2)

/-- What the first scratch buffer's first eight rows hold before point `n`, unless the point begins a batch element. -/
def KeptRows (c : Dev nD) (n : ℕ) (d : Vec Ideal S520x1024 .f32) : Prop :=
  n % 16 ≠ 0 → ∀ (q : Fin 8) j, d (ix2 (⟨q.1, by omega⟩ : Fin 520) j) = rows m c (n / 16) (512 * (n % 16) + q.1) j

/-- What the last scratch buffer holds before point `n`, unless the point begins a batch element. -/
def KeptState (c : Dev nD) (n : ℕ) (d : Vec Ideal S8x128 .f32) : Prop :=
  n % 16 ≠ 0 → ∀ s l, d (ix2 s l) = st m c (n / 16) (512 * (n % 16)) (lane s l)

/-- The scratch buffers and the generator register before point `n`. -/
def between (c : Dev nD) (n : ℕ) : sProp 𝕄 :=
  iprop(((∃ d, ⌜KeptRows m c n d⌝ ∗ owns (c : Thread nD τ) (Memref.whole cc0_scratch0 : Memref sig .tc .vmem S520x1024 .f32) fullShare d)
        ∗ (∃ d, owns (c : Thread nD τ) (Memref.whole cc0_scratch1 : Memref sig .tc .vmem S4096x128 .f32) fullShare d)
        ∗ (∃ d, owns (c : Thread nD τ) (Memref.whole cc0_scratch2 : Memref sig .tc .vmem S4096x128 .f32) fullShare d)
        ∗ (∃ d, ⌜KeptState m c n d⌝ ∗ owns (c : Thread nD τ) (Memref.whole cc0_scratch3 : Memref sig .tc .vmem S8x128 .f32) fullShare d))
      ∗ (∃ g, prngReg c g))

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := between m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The rows of the hidden state that point `t` reads. -/
def xAt (c : Dev nD) (t : Fin cfg0.N) (r : Fin 512) : Fin 1024 → EReal := xrow m c (t.val / 16) (512 * (t.val % 16) + r.1)

/-- Point `t`'s input buffers hold the hidden state's rows and the weights. -/
theorem reads_at (c : Dev nD) (t : Fin cfg0.N) {f2 : BufTy.Contents (Elt Ideal) (st0_0 t).view.ty} {f3 : BufTy.Contents (Elt Ideal) (st0_1 t).view.ty} {f4 : BufTy.Contents (Elt Ideal) (st0_2 t).view.ty} {f5 : BufTy.Contents (Elt Ideal) (st0_3 t).view.ty} {f6 : BufTy.Contents (Elt Ideal) (st0_4 t).view.ty} {f7 : BufTy.Contents (Elt Ideal) (st0_5 t).view.ty} {f8 : BufTy.Contents (Elt Ideal) (st0_6 t).view.ty} {f9 : BufTy.Contents (Elt Ideal) (st0_7 t).view.ty} {f10 : BufTy.Contents (Elt Ideal) (st0_8 t).view.ty} {f11 : BufTy.Contents (Elt Ideal) (st0_9 t).view.ty} {f12 : BufTy.Contents (Elt Ideal) (st0_10 t).view.ty}
    (e2 : (st0_0 t).view.read (Elt Ideal) f2 = iblk m c 0 t)
    (e3 : (st0_1 t).view.read (Elt Ideal) f3 = iblk m c 1 t)
    (e4 : (st0_2 t).view.read (Elt Ideal) f4 = iblk m c 2 t)
    (e5 : (st0_3 t).view.read (Elt Ideal) f5 = iblk m c 3 t)
    (e6 : (st0_4 t).view.read (Elt Ideal) f6 = iblk m c 4 t)
    (e7 : (st0_5 t).view.read (Elt Ideal) f7 = iblk m c 5 t)
    (e8 : (st0_6 t).view.read (Elt Ideal) f8 = iblk m c 6 t)
    (e9 : (st0_7 t).view.read (Elt Ideal) f9 = iblk m c 7 t)
    (e10 : (st0_8 t).view.read (Elt Ideal) f10 = iblk m c 8 t)
    (e11 : (st0_9 t).view.read (Elt Ideal) f11 = iblk m c 9 t)
    (e12 : (st0_10 t).view.read (Elt Ideal) f12 = iblk m c 10 t) :
    Reads (par m c) (xAt m c t) (st0_0 t) (st0_1 t) (st0_2 t) (st0_3 t) (st0_4 t) (st0_5 t) (st0_6 t) (st0_7 t) (st0_8 t) (st0_9 t) (st0_10 t) f2 f3 f4 f5 f6 f7 f8 f9 f10 f11 f12 where
  h2 r j := (congrFun e2 _).trans (iblk0_apply m c t r j)
  h3 j := (congrFun e3 _).trans (iblk1_apply m c t j)
  h4 d k := (congrFun e4 _).trans (iblk2_apply m c t d k)
  h5 k j := (congrFun e5 _).trans (iblk3_apply m c t k j)
  h6 j := (congrFun e6 _).trans (iblk4_apply m c t j)
  h7 n a b := (congrFun e7 _).trans (iblk5_apply m c t n a b)
  h8 j := (congrFun e8 _).trans (iblk6_apply m c t j)
  h9 n a b := (congrFun e9 _).trans (iblk7_apply m c t n a b)
  h10 j := (congrFun e10 _).trans (iblk8_apply m c t j)
  h11 j := (congrFun e11 _).trans (iblk9_apply m c t j)
  h12 k j := (congrFun e12 _).trans (iblk10_apply m c t k j)

theorem rows_at (c : Dev nD) (t : Fin cfg0.N) (r : Fin 512) (j : Fin 1024) :
    rows m c (t.val / 16) (512 * (t.val % 16) + (r.1 + 8)) j = rnn (par m c) (xAt m c t r) j := by
  unfold rows xAt
  rw [if_neg (by omega), show 512 * (t.val % 16) + (r.1 + 8) - 8 = 512 * (t.val % 16) + r.1 by omega]

theorem runs_at (c : Dev nD) (t : Fin cfg0.N) :
    Runs (par m c) (fun q => rows m c (t.val / 16) (512 * (t.val % 16) + q)) (fun r => st m c (t.val / 16) (512 * (t.val % 16) + r)) 512 :=
  state_runs (par m c) (rows m c (t.val / 16)) (512 * (t.val % 16)) 512

theorem keptRows_succ (c : Dev nD) (t : Fin cfg0.N) {d : Vec Ideal S520x1024 .f32}
    (h : ∀ (q : Fin 8) j, d (ix2 (⟨q.1, by omega⟩ : Fin 520) j) = rows m c (t.val / 16) (512 * (t.val % 16) + (512 + q.1)) j) :
    KeptRows m c (t.val + 1) d := fun hn q j => by
  rw [h q j, show (t.val + 1) / 16 = t.val / 16 by omega, show 512 * ((t.val + 1) % 16) + q.1 = 512 * (t.val % 16) + (512 + q.1) by omega]

theorem keptState_succ (c : Dev nD) (t : Fin cfg0.N) {d : Vec Ideal S8x128 .f32}
    (h : ∀ s l, d (ix2 s l) = st m c (t.val / 16) (512 * (t.val % 16) + 512) (lane s l)) : KeptState m c (t.val + 1) d := fun hn s l => by
  rw [h s l, show (t.val + 1) / 16 = t.val / 16 by omega, show 512 * ((t.val + 1) % 16) = 512 * (t.val % 16) + 512 by omega]

theorem block_ext {f g : Vec Ideal S1x512x1024 .f32} (h : ∀ (r : Fin 512) (j : Fin 1024), f (ix3 (0 : Fin 1) r j) = g (ix3 (0 : Fin 1) r j)) : f = g := by
  funext y
  have e : y = ix3 (0 : Fin 1) (y 1) (y 2) := by
    funext a; apply Fin.ext
    match a with
    | ⟨0, _⟩ => have := (y 0).isLt; show (y 0).val = 0; change (y 0).val < 1 at this; omega
    | ⟨1, _⟩ => rfl
    | ⟨2, _⟩ => rfl
  rw [e]; exact h _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = between m c (t.val + 1) from rfl,
    show (dats m 0 c).owesAt () t.succ = (dats m 0 c).owesAt () t.castSucc from rfl,
    show (dats m 0 c).Φ t.castSucc = between m c t.val from rfl, after0_0, after0_1, after0_2, after0_3, after0_4, after0_5, after0_6, after0_7, after0_8, after0_9, after0_10, after0_11]
  unfold between
  unfold owns
  iintro ⟨⟨⟨⟨%d14, %k14, %f14, %e14, H14⟩, ⟨%d15, %f15, -, H15⟩, ⟨%d16, %f16, -, H16⟩, ⟨%d17, %k17, %f17, %e17, H17⟩⟩, Hg⟩, Ho, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, -, H13⟩⟩
  by_cases hi : (Scalar.cmpi .ne (Scalar.extui (Scalar.cmpi .eq (BitVec.ofNat 32 ((grid0.coords t) 1).val) 0#32) : BitVec 32) 0#32 : BitVec 1) = 1#1
  ·
    have hr := reads_at m c t e2 e3 e4 e5 e6 e7 e8 e9 e10 e11 e12
    have h0 : t.val % 16 = 0 := (first_iff t).mp hi
    have hs := fun a2 a3 a4 a5 a6 a7 a8 a9 a10 a11 a12 a13 a14 a15 a16 a17 => first_spec c (grid0.coords t) (st0_0 t) a2 (st0_1 t) a3 (st0_2 t) a4 (st0_3 t) a5 (st0_4 t) a6 (st0_5 t) a7 (st0_6 t) a8 (st0_7 t) a9 (st0_8 t) a10 (st0_9 t) a11 (st0_10 t) a12 (st0_11 t) a13 (Memref.whole cc0_scratch0) a14 (Memref.whole cc0_scratch1) a15 (Memref.whole cc0_scratch2) a16 (Memref.whole cc0_scratch3) a17 f2 f3 f4 f5 f6 f7 f8 f9 f10 f11 f12 f13 f14 f15 f16 f17 (par m c) (xAt m c t) (fun q => rows m c (t.val / 16) (512 * (t.val % 16) + q)) (fun r => st m c (t.val / 16) (512 * (t.val % 16) + r)) hi hr
      (fun q hq j => by
        show rows m c (t.val / 16) (512 * (t.val % 16) + q) j = 0
        unfold rows; rw [if_pos (by omega)]) (fun j => by
        show st m c (t.val / 16) (512 * (t.val % 16) + 0) j = 0
        rw [show 512 * (t.val % 16) + 0 = 0 by omega]; rfl) (rows_at m c t) (runs_at m c t)
    iapply ((Body.first c (grid0.coords t) hi _ _ _ _ _ _ _ _ _ _ _ _ _ _ _ _ _ _ _ _ _ _ _ _ _ _ _ _ _ _ _ _ f2 f3 f4 f5 f6 f7 f8 f9 f10 f11 f12 f13 f14 f15 f16 f17).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H14 H15 H16 H17 Hg]
    · isplitl [H14 H15 H16 H17]
      · isplitl [H14]
        · iexists _; isplitr; swap
          · iexists _; isplitr; swap
            · iexact H14
            ipureintro; rfl
          ipureintro; exact keptRows_succ m c t (hs _ _ _ _ _ _ _ _ _ _ _ _ _ _ _ _).2.1
        isplitl [H15]
        · iexists _, _; isplitr; swap; · iexact H15
          ipureintro; rfl
        isplitl [H16]
        · iexists _, _; isplitr; swap; · iexact H16
          ipureintro; rfl
        iexists _; isplitr; swap
        · iexists _; isplitr; swap
          · iexact H17
          ipureintro; rfl
        ipureintro; exact keptState_succ m c t (hs _ _ _ _ _ _ _ _ _ _ _ _ _ _ _ _).2.2
      iexact Hg
    isplitl [Ho]; · iexact Ho
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact e10
    isplitl [H11]
    · iexists _; isplitr; swap; · iexact H11
      ipureintro; exact e11
    isplitl [H12]
    · iexists _; isplitr; swap; · iexact H12
      ipureintro; exact e12
    iexists _; isplitr; swap; · iexact H13
    ipureintro; exact block_ext fun r j => (hs _ _ _ _ _ _ _ _ _ _ _ _ _ _ _ _).1 r j
  ·
    have hr := reads_at m c t e2 e3 e4 e5 e6 e7 e8 e9 e10 e11 e12
    have h0 : t.val % 16 ≠ 0 := fun h => hi ((first_iff t).mpr h)
    have hs := fun a2 a3 a4 a5 a6 a7 a8 a9 a10 a11 a12 a13 a14 a15 a16 a17 => later_spec c (grid0.coords t) (st0_0 t) a2 (st0_1 t) a3 (st0_2 t) a4 (st0_3 t) a5 (st0_4 t) a6 (st0_5 t) a7 (st0_6 t) a8 (st0_7 t) a9 (st0_8 t) a10 (st0_9 t) a11 (st0_10 t) a12 (st0_11 t) a13 (Memref.whole cc0_scratch0) a14 (Memref.whole cc0_scratch1) a15 (Memref.whole cc0_scratch2) a16 (Memref.whole cc0_scratch3) a17 f2 f3 f4 f5 f6 f7 f8 f9 f10 f11 f12 f13 f14 f15 f16 f17 (par m c) (xAt m c t) (fun q => rows m c (t.val / 16) (512 * (t.val % 16) + q)) (fun r => st m c (t.val / 16) (512 * (t.val % 16) + r)) hi hr
      (fun q j => (congrFun e14 _).trans (k14 h0 q j)) (fun s l => (congrFun e17 _).trans (k17 h0 s l)) (rows_at m c t) (runs_at m c t)
    iapply ((Body.later c (grid0.coords t) hi _ _ _ _ _ _ _ _ _ _ _ _ _ _ _ _ _ _ _ _ _ _ _ _ _ _ _ _ _ _ _ _ f2 f3 f4 f5 f6 f7 f8 f9 f10 f11 f12 f13 f14 f15 f16 f17).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H14 H15 H16 H17 Hg]
    · isplitl [H14 H15 H16 H17]
      · isplitl [H14]
        · iexists _; isplitr; swap
          · iexists _; isplitr; swap
            · iexact H14
            ipureintro; rfl
          ipureintro; exact keptRows_succ m c t (hs _ _ _ _ _ _ _ _ _ _ _ _ _ _ _ _).2.1
        isplitl [H15]
        · iexists _, _; isplitr; swap; · iexact H15
          ipureintro; rfl
        isplitl [H16]
        · iexists _, _; isplitr; swap; · iexact H16
          ipureintro; rfl
        iexists _; isplitr; swap
        · iexists _; isplitr; swap
          · iexact H17
          ipureintro; rfl
        ipureintro; exact keptState_succ m c t (hs _ _ _ _ _ _ _ _ _ _ _ _ _ _ _ _).2.2
      iexact Hg
    isplitl [Ho]; · iexact Ho
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact e10
    isplitl [H11]
    · iexists _; isplitr; swap; · iexact H11
      ipureintro; exact e11
    isplitl [H12]
    · iexists _; isplitr; swap; · iexact H12
      ipureintro; exact e12
    iexists _; isplitr; swap; · iexact H13
    ipureintro; exact block_ext fun r j => (hs _ _ _ _ _ _ _ _ _ _ _ _ _ _ _ _).1 r j

theorem body_obligation (c : Dev nD) :
    BodyObligation (dats m 0 c) (defs₀ (F := Ideal)) Variants.none () Set.univ := fun t => by
  rw [bigSep_W0, bigSep_W0, Frame.defs₀_row]
  exact triple_restated (sound_body m c t) rfl .rfl fun _ => .rfl

/-- The region's scratch buffers are what is held before the first point, -/
theorem between_start (c : Dev nD) : (Pipeline.ΦA (Val := Elt Ideal) spec0 c : sProp 𝕄) ⊢ between m c 0 := by
  rw [Frame.between_eq]; unfold between
  iintro ⟨⟨⟨%d14, H14⟩, H15, H16, ⟨%d17, H17⟩⟩, Hg⟩
  isplitl [H14 H15 H16 H17]
  · isplitl [H14]
    · iexists d14; isplitr; swap; · iexact H14
      ipureintro; exact fun h => absurd rfl h
    isplitl [H15]; · iexact H15
    isplitl [H16]; · iexact H16
    iexists d17; isplitr; swap; · iexact H17
    ipureintro; exact fun h => absurd rfl h
  iexact Hg

/-- and they are given back after the last. -/
theorem between_end (c : Dev nD) (n : ℕ) : between m c n ⊢ (Pipeline.ΦA (Val := Elt Ideal) spec0 c : sProp 𝕄) := by
  rw [Frame.between_eq]; unfold between
  iintro ⟨⟨⟨%d14, -, H14⟩, H15, H16, ⟨%d17, -, H17⟩⟩, Hg⟩
  isplitl [H14 H15 H16 H17]
  · isplitl [H14]; · iexists d14; iexact H14
    isplitl [H15]; · iexact H15
    isplitl [H16]; · iexact H16
    iexists d17; iexact H17
  iexact Hg

set_option backward.isDefEq.respectTransparency.types false in
set_option maxHeartbeats 800000 in
theorem run_main : θ_run defs (onTc (τ := τ) (main (F := Ideal))) (s₀ m ρ)
    (fun r => Pipeline.FramePost cfgs (dats m) 0 (Pipeline.afterTail₀ cfgs (dats m) 0 (V0 m) [hostOps1]) r
      ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => between_start m c) (hout := fun c => between_end m c _)

end Cert.LruIdeal.Block

end
-- ==== Proof.Lru.IdealArray.lean ====
module

public import proofs.«01_k».proof.Proof.Lru.IdealRun
public import Idealize.ShloMosaic.Lib.Pipeline.Value

@[expose] public section

set_option maxRecDepth 16384

noncomputable section

/-! The mixer's result read at an index: row `R` is the row's hidden state with the branch added, at the state that the
    recurrence has reached after that row. -/

namespace Cert.LruIdeal.Block

open Cert.LruIdeal Cert.LruIdeal.Gen
open Idealize.ShloMosaic Idealize.ShloMosaic.TcCoe FfnMath LruMath
open Idealize.SL.Sem
open Idealize.ShloMosaic.Pipeline (Dat)

variable (m : (ℓ : Loc nD τ sig) → Buf (Elt Ideal) ℓ) (ρ : Dev nD → PrngReg)

theorem idx_inj : ∀ t t' : Fin cfg0.N, win0_11.index t = win0_11.index t' → t = t' :=
  (by decide +kernel : ∀ t t' : Fin grid0.N, win0_11.index t = win0_11.index t' → t = t')

theorem flush11 : ∀ t : Fin cfg0.N, (cfg0.win 11).flush t = true :=
  (by decide +kernel : ∀ t : Fin grid0.N, _)

/-- Block `t` of the final array is what point `t` wrote. -/
theorem block_eq (c : Dev nD) (t : Fin cfg0.N) :
    ((cfg0.win 11).blk t).view.read (Elt Ideal) ((dats m 0 c).arrAt 11 cfg0.N) = (cfg0.win 11).cut (grid0.coords t) (outAt m c t) := by
  refine ((dats m 0 c).read_blk_arrAt_eq_flushed 11 (fun t t' _ _ hne => (cfg0.win 11).disjoint_blk fun h => hne (idx_inj t t' h))
    cfg0.N t t.isLt (flush11 t)).trans ?_
  show (cfg0.win 11).cut (grid0.coords t) ((dats m 0 c).after 11 t) = _
  rw [after0_11]

theorem arr_blk (c : Dev nD) (t : Fin 32) (r : Fin 512) (j : Fin 1024) :
    (dats m 0 c).arrAt 11 cfg0.N (ix3 (⟨t.1 / 16, by omega⟩ : Fin 2) (⟨512 * (t.1 % 16) + r.1, by omega⟩ : Fin 8192) j)
      = outRow (par m c) (xrow m c (t.1 / 16) (512 * (t.1 % 16) + r.1)) (st m c (t.1 / 16) (512 * (t.1 % 16) + r.1 + 1)) j := by
  have b := congrFun (block_eq m c t) (ix3 0 r j)
  have b' : (dats m 0 c).arrAt 11 cfg0.N (((cfg0.win 11).blk t).view.emb (ix3 0 r j)) = outAt m c t (ix3 0 r j) := b
  rw [emb11] at b'
  exact b'

/-- The result array. -/
def result (c : Dev nD) : Vec Ideal S16384x1024 .f32 :=
  shapeCast S16384x1024 ((dats m 0 c).arrAt 11 cfg0.N : Vec Ideal S2x8192x1024 .f32) shapeCasts_S2x8192x1024_S16384x1024

theorem result_apply (c : Dev nD) (b : Fin 2) (l : Fin 8192) (j : Fin 1024) :
    result m c (ix2 (⟨8192 * b.1 + l.1, by omega⟩ : Fin 16384) j)
      = outRow (par m c) (xrow m c b.1 l.1) (st m c b.1 (l.1 + 1)) j := by
  have e := arr_blk m c (⟨16 * b.1 + l.1 / 512, by omega⟩ : Fin 32) (⟨l.1 % 512, by omega⟩ : Fin 512) j
  have e0 : (16 * b.1 + l.1 / 512) / 16 = b.1 := by omega
  have e1 : 512 * ((16 * b.1 + l.1 / 512) % 16) + l.1 % 512 = l.1 := by omega
  simp only [e0, e1] at e
  refine Eq.trans ?_ e
  unfold result
  refine shapeCast_apply _ _ _ _ ?_
  refine (Shape.rowMajor_val_three _).trans (Eq.trans ?_ (Shape.rowMajor_val_two _).symm)
  show (b.1 * 8192 + l.1) * 1024 + j.1 = (8192 * b.1 + l.1) * 1024 + j.1
  omega

theorem tail_result (c : Dev nD) : Pipeline.afterTail₀ cfgs (dats m) 0 (V0 m) [hostOps1] c main_v11 = result m c := by
  have h := Pipeline.withArrays_arr spec0 (by decide : Function.Injective (Pipeline.arrRef spec0)) c (V0 m c)
    (fun w => (dats m 0 c).arrAt w cfg0.N) 11
  have h' : Pipeline.withArrays spec0 c (V0 m c) (fun w => (dats m 0 c).arrAt w cfg0.N) (Proc.devRef .tc main_v10)
    = (dats m 0 c).arrAt 11 cfg0.N := h
  unfold Pipeline.afterTail₀ result
  rw [← h']
  simp only [hostOps1, List.flatten_cons, List.flatten_nil, List.append_nil]
  after_results_simp <;> rfl

/-- The run with its result named and its arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1 c).2 main_v11 (Pipeline.mem_restRefs_of main_v11 (by decide) (by decide))).trans (tail_result m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 3).trans (((dats m 0 c).arrAt_in 3 rfl _).trans ((A_eq m c 3).trans (V_main_arg3 m c))),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c)⟩) (run_main m ρ)

end Cert.LruIdeal.Block

end
-- ==== Proof.Lru.RefMath.lean ====
module

public import proofs.«01_k».proof.Proof.Lru.Math

@[expose] public section

noncomputable section

/-! Where the reference writes a step of the recurrent mixer differently from the kernel, the two agree at every extended
    real: the Gaussian unit's factors, the gate's logistic, the softplus, the convolution's order and the square root of
    the decay's complement. -/

namespace LruMath

open Idealize.ShloMosaic FfnMath

theorem two_bits : Ideal.ofBits .f32 1073741824#32 = ((2 : ℝ) : EReal) := by
  simp [Ideal.ofBits, Ideal.ieee, -EReal.coe_mul]; norm_num

/-- One minus the squared decay is `-tanh` times one plus the squared decay, at the finite points. -/
theorem complement_real (x : ℝ) :
    -(Real.exp (2 * x) - 1) = (0 - Real.tanh x) * (Real.exp x * Real.exp x + 1) := by
  have e : Real.exp (2 * x) = Real.exp x * Real.exp x := by rw [← Real.exp_add]; ring_nf
  have h0 : Real.exp x ≠ 0 := (Real.exp_pos x).ne'
  have h1 : Real.exp x * Real.exp x + 1 ≠ 0 := by positivity
  rw [e, Real.tanh_eq_sinh_div_cosh, Real.sinh_eq, Real.cosh_eq, Real.exp_neg]
  have h2 : Real.exp x + (Real.exp x)⁻¹ ≠ 0 := by positivity
  field_simp
  ring

/-- The complement of the squared decay, in the reference's form and in the kernel's. -/
theorem complement (x : EReal) :
    -(Ideal.exp (Ideal.ofBits .f32 1073741824#32 * x) - 1)
      = (0 - Ideal.tanh x) * (Ideal.exp x * Ideal.exp x + 1) := by
  rw [two_bits]
  induction x with
  | bot =>
    rw [EReal.coe_mul_bot_of_pos (by norm_num)]
    show -((0 : EReal) - 1) = (0 - -1) * (0 * 0 + 1)
    simp
  | top =>
    rw [EReal.coe_mul_top_of_pos (by norm_num)]
    show -((⊤ : EReal) - 1) = (0 - 1) * (⊤ * ⊤ + 1)
    have a : (⊤ : EReal) - 1 = ⊤ := rfl
    have b : (⊤ : EReal) * ⊤ + 1 = ⊤ := rfl
    have d : (0 : EReal) - 1 = ((-1 : ℝ) : EReal) := by simp
    rw [a, b, d, EReal.coe_mul_top_of_neg (by norm_num), EReal.neg_top]
  | coe r =>
    show -((Real.exp (2 * r) : ℝ) - 1 : EReal) = (0 - (Real.tanh r : ℝ)) * ((Real.exp r : ℝ) * (Real.exp r : ℝ) + 1)
    have h := congrArg (fun y : ℝ => (y : EReal)) (complement_real r)
    simpa only [EReal.coe_neg, EReal.coe_sub, EReal.coe_mul, EReal.coe_add, EReal.coe_one, EReal.coe_zero] using h

/-- The Gaussian unit with its half standing after the value. -/
theorem gelu_half_last (z : EReal) :
    z * (Ideal.ofBits .f32 0x3F000000#32 * (1
      + Ideal.tanh (Ideal.ofBits .f32 0x3F4C422A#32 * (z + Ideal.ofBits .f32 0x3D372713#32 * (z * z * z))))) = gelu z := by
  unfold gelu
  rw [← mul_assoc, mul_comm z]

/-- The gate with the weight written first and the logistic spelled out. -/
theorem gate_spelled (w : Fin 4 → Fin 256 → Fin 256 → EReal) (b v : Fin 1024 → EReal) (j : Fin 1024) :
    Ideal.div 1 (1 + Ideal.exp (-(∑ c : Fin 256, w (blk j) c (pos j) * v ⟨j.1 / 256 * 256 + c.1, by omega⟩ + b j)))
      = gate w b v j := by
  unfold gate Ideal.logistic
  refine congrArg (fun s => Ideal.div 1 (1 + Ideal.exp (-(s + b j)))) (Finset.sum_congr rfl fun c _ => ?_)
  rw [mul_comm]
  exact congrArg (fun k => v k * w (blk j) c (pos j)) (Fin.ext (by simp only [col, blk]; omega))

/-- The softplus of `-t`. -/
theorem softplus_of_neg (t : EReal) :
    max (-t) 0 + Ideal.log1p (Ideal.exp (-(max (-t) (- -t)))) = softplusNeg t := by
  unfold softplusNeg
  rw [zero_sub, neg_neg, max_comm (-t) t, zero_sub]

/-- The convolution with the bias added last. -/
theorem conv_bias_last (p : Par) (u0 u1 u2 u3 : Fin 1024 → EReal) (j : Fin 1024) :
    p.cw 0 j * u0 j + p.cw 1 j * u1 j + p.cw 2 j * u2 j + p.cw 3 j * u3 j + p.cb j = conv p u0 u1 u2 u3 j := by
  unfold conv
  rw [add_comm _ (p.cb j), ← add_assoc, ← add_assoc, ← add_assoc]

/-- The gated input, with the complement in the reference's form. -/
theorem inp_spelled (p : Par) (v : Fin 1024 → EReal) (j : Fin 1024) :
    gate p.wx p.bx v j * v j * Ideal.sqrt (-(Ideal.exp (Ideal.ofBits .f32 1073741824#32 * logA p v j) - 1))
      = inp p v j := by
  unfold inp dec
  rw [complement]

end LruMath

end
-- ==== Proof.Lru.Ref.lean ====
module

public import proofs.«01_k».proof.Proof.Gen.LruRefIdeal.Run
public import Idealize.ShloMosaic.Lib.Pointwise
public import proofs.«01_k».proof.Proof.Lru.RefMath

@[expose] public section

set_option maxRecDepth 16384

noncomputable section

/-! The reference of the recurrent mixer up to its loop, stage by stage and entry by entry: the normalised row times the
    input weight, the padded branch, the convolution, the gates, the softplus, the decay and the gated input, and after the
    loop the output row. Every stage is read over arbitrary contents of the buffers before it. -/

namespace Cert.LruRefIdeal.Read

open Cert.LruRefIdeal Cert.LruRefIdeal.Gen Cert.LruRefIdeal.Value
open Idealize.ShloMosaic Idealize.ShloMosaic.TcCoe Idealize.ShloMosaic.StableHlo FfnMath LruMath

variable (V : Valuation τ sig (Elt Ideal))

/-- An entry of an array of extended reals. -/
abbrev ev {S : Shape} (v : Vec Ideal S .f32) (i : S.Idx) : EReal := v i

/-- The weights among the arguments. -/
def pr : Par where
  g j := (V (Proc.devRef .tc main_arg1) : Vec Ideal S1024 .f32) (ix1 j)
  wi d k := (V (Proc.devRef .tc main_arg2) : Vec Ideal S1024x2048 .f32) (ix2 d k)
  cw k j := (V (Proc.devRef .tc main_arg3) : Vec Ideal S4x1024 .f32) (ix2 k j)
  cb j := (V (Proc.devRef .tc main_arg4) : Vec Ideal S1024 .f32) (ix1 j)
  wa n a b := (V (Proc.devRef .tc main_arg5) : Vec Ideal S4x256x256 .f32) (ix3 n a b)
  ba j := (V (Proc.devRef .tc main_arg6) : Vec Ideal S4x256 .f32) (ix2 (blk j) (pos j))
  wx n a b := (V (Proc.devRef .tc main_arg7) : Vec Ideal S4x256x256 .f32) (ix3 n a b)
  bx j := (V (Proc.devRef .tc main_arg8) : Vec Ideal S4x256 .f32) (ix2 (blk j) (pos j))
  lam j := (V (Proc.devRef .tc main_arg9) : Vec Ideal S1024 .f32) (ix1 j)
  wo k j := (V (Proc.devRef .tc main_arg10) : Vec Ideal S1024x1024 .f32) (ix2 k j)

/-- Row `l` of batch element `b` of the hidden state. -/
def xr (b l : ℕ) (j : Fin 1024) : EReal :=
  if h : 8192 * b + l < 16384 then
    (V (Proc.devRef .tc main_arg0) : Vec Ideal S16384x1024 .f32) (ix2 (⟨8192 * b + l, h⟩ : Fin 16384) j) else 0

theorem xr_at (b : Fin 2) (l : Fin 8192) (h : b.1 * 8192 + l.1 < 16384) (j : Fin 1024) :
    (V (Proc.devRef .tc main_arg0) : Vec Ideal S16384x1024 .f32) (ix2 (⟨b.1 * 8192 + l.1, h⟩ : Fin 16384) j) = xr V b.1 l.1 j := by
  have h' : 8192 * b.1 + l.1 < 16384 := by omega
  unfold xr
  rw [dif_pos h']
  exact congrArg (fun i : Fin 16384 => (V (Proc.devRef .tc main_arg0) : Vec Ideal S16384x1024 .f32) (ix2 i j)) (Fin.ext (by show b.1 * 8192 + l.1 = 8192 * b.1 + l.1; omega))

theorem s0_v0 (b : Fin 2) (l : Fin 8192) (j : Fin 1024) :
    @Eq EReal ((after hostOps0 V (Proc.devRef .tc main_v0) : Vec Ideal S2x8192x1024 .f32) (ix3 b l j)) (xr V b.1 l.1 j) := by
  after_results_simp
  pointwise []
  exact xr_at V b l _ j

theorem s0_v15 (b : Fin 2) (l : Fin 8192) (j : Fin 1024) :
    @Eq EReal ((after hostOps0 V (Proc.devRef .tc main_v15) : Vec Ideal S2x8192x1024 .f32) (ix3 b l j))
      (both (pr V) (xr V b.1 l.1) ⟨j.1, by omega⟩) := by
  after_results_simp
  pointwise []
  simp only [xr_at]
  rfl

theorem s0_v16 (b : Fin 2) (l : Fin 8192) (j : Fin 1024) :
    @Eq EReal ((after hostOps0 V (Proc.devRef .tc main_v16) : Vec Ideal S2x8192x1024 .f32) (ix3 b l j))
      (rnn (pr V) (xr V b.1 l.1) j) := by
  after_results_simp
  pointwise []
  simp only [xr_at]
  rfl

theorem s0_c : (after hostOps0 V (Proc.devRef .tc main_c) : Vec Ideal S_ .i32) = constantI S_ 32 0#32 := by
  after_results_simp

theorem sitofp_zero : @Eq EReal (FloatOps.sitofp (F := Ideal) .f32 0#32) 0 := by
  show (((0#32 : BitVec 32).toInt : ℝ) : EReal) = 0
  simp

theorem s1_v17 (hc : (V (Proc.devRef .tc main_c) : Vec Ideal S_ .i32) = constantI S_ 32 0#32)
    (b : Fin 2) (q : Fin 8195) (j : Fin 1024) :
    @Eq EReal ((after hostOps0_1 V (Proc.devRef .tc main_v17) : Vec Ideal S2x8195x1024 .f32) (ix3 b q j))
      (if h : 3 ≤ q.1 then ev (S := S2x8192x1024) (V (Proc.devRef .tc main_v16)) (ix3 b (⟨q.1 - 3, by omega⟩ : Fin 8192) j)
        else 0) := by
  after_results_simp
  dsimp only [TRef.of, TRef.ofBuf, TRef.toBuf, cast_eq]
  rw [hc]
  pointwise []
  by_cases h : 3 ≤ q.1
  · rw [dif_pos ⟨h, by omega⟩, dif_pos h]
  · rw [dif_neg (fun h' => h h'.1), dif_neg h]
    exact sitofp_zero

theorem s2_v49 (b : Fin 2) (l : Fin 8192) (j : Fin 1024) :
    @Eq EReal ((after (hostOps0_2.take 33) V (Proc.devRef .tc main_v49) : Vec Ideal S2x8192x1024 .f32) (ix3 b l j))
      (conv (pr V)
        (fun j => ev (S := S2x8195x1024) (V (Proc.devRef .tc main_v17)) (ix3 b (⟨l.1, by omega⟩ : Fin 8195) j))
        (fun j => ev (S := S2x8195x1024) (V (Proc.devRef .tc main_v17)) (ix3 b (⟨1 + l.1, by omega⟩ : Fin 8195) j))
        (fun j => ev (S := S2x8195x1024) (V (Proc.devRef .tc main_v17)) (ix3 b (⟨2 + l.1, by omega⟩ : Fin 8195) j))
        (fun j => ev (S := S2x8195x1024) (V (Proc.devRef .tc main_v17)) (ix3 b (⟨3 + l.1, by omega⟩ : Fin 8195) j)) j) := by
  simp only [hostOps0_2, List.take_succ_cons, List.take_zero]
  after_results_simp
  pointwise []
  refine Eq.trans ?_ (conv_bias_last (pr V) _ _ _ _ j)
  rfl

theorem s2_keep : (after (hostOps0_2.drop 33) V (Proc.devRef .tc main_v49) : Vec Ideal S2x8192x1024 .f32)
    = V (Proc.devRef .tc main_v49) := by
  simp only [hostOps0_2, List.drop_succ_cons, List.drop_zero]
  after_results_simp

theorem s2_v74 (b : Fin 2) (l : Fin 8192) (j : Fin 1024) :
    @Eq EReal ((after (hostOps0_2.drop 33) V (Proc.devRef .tc main_v74) : Vec Ideal S2x8192x1024 .f32) (ix3 b l j))
      (gate (pr V).wx (pr V).bx (fun j => ev (S := S2x8192x1024) (V (Proc.devRef .tc main_v49)) (ix3 b l j)) j) := by
  simp only [hostOps0_2, List.drop_succ_cons, List.drop_zero]
  after_results_simp
  pointwise []
  refine Eq.trans ?_ (gate_spelled (pr V).wx (pr V).bx _ j)
  rfl

theorem s2_v76 (b : Fin 2) (l : Fin 8192) (j : Fin 1024) :
    @Eq EReal ((after (hostOps0_2.drop 33) V (Proc.devRef .tc main_v76) : Vec Ideal S2x8192x1024 .f32) (ix3 b l j))
      (Ideal.ofBits .f32 0xC1000000#32
        * gate (pr V).wa (pr V).ba (fun j => ev (S := S2x8192x1024) (V (Proc.devRef .tc main_v49)) (ix3 b l j)) j) := by
  simp only [hostOps0_2, List.drop_succ_cons, List.drop_zero]
  after_results_simp
  pointwise []
  refine Eq.trans ?_ (congrArg (fun s => Ideal.ofBits .f32 0xC1000000#32 * s) (gate_spelled (pr V).wa (pr V).ba _ j))
  rfl

theorem s2_v77 (j : Fin 1024) :
    @Eq EReal ((after (hostOps0_2.drop 33) V (Proc.devRef .tc main_v77) : Vec Ideal S1024 .f32) (ix1 j)) (-(pr V).lam j) := by
  simp only [hostOps0_2, List.drop_succ_cons, List.drop_zero]
  after_results_simp
  pointwise []
  rfl

theorem s3_v78 (j : Fin 1024) (t : EReal)
    (h : @Eq EReal (ev (S := S1024) (V (Proc.devRef .tc main_v77)) (ix1 j)) (-t)) :
    @Eq EReal ((after hostOps0_3 V (Proc.devRef .tc main_v78) : Vec Ideal S1024 .f32) (ix1 j)) (softplusNeg t) := by
  after_results_simp
  dsimp only [TRef.of, TRef.ofBuf, TRef.toBuf, cast_eq]
  pointwise []
  refine (if_neg (not_not.mpr rfl)).trans (Eq.trans ?_ (softplus_of_neg t))
  rw [← h]
  rfl

theorem s4_v94_0 (b : Fin 2) (l : Fin 8192) (j : Fin 1024) :
    @Eq EReal ((after hostOps0_4 V (Proc.devRef .tc main_v94_0) : Vec Ideal S8192x2x1024 .f32) (ix3 l b j))
      (Ideal.exp (ev (S := S2x8192x1024) (V (Proc.devRef .tc main_v76)) (ix3 b l j) * ev (S := S1024) (V (Proc.devRef .tc main_v78)) (ix1 j))) := by
  after_results_simp
  dsimp only [id]
  pointwise []

theorem s4_v94_1 (b : Fin 2) (l : Fin 8192) (j : Fin 1024) :
    @Eq EReal ((after hostOps0_4 V (Proc.devRef .tc main_v94_1) : Vec Ideal S8192x2x1024 .f32) (ix3 l b j))
      (ev (S := S2x8192x1024) (V (Proc.devRef .tc main_v74)) (ix3 b l j) * ev (S := S2x8192x1024) (V (Proc.devRef .tc main_v49)) (ix3 b l j)
        * Ideal.sqrt (-(Ideal.exp (Ideal.ofBits .f32 1073741824#32
          * (ev (S := S2x8192x1024) (V (Proc.devRef .tc main_v76)) (ix3 b l j) * ev (S := S1024) (V (Proc.devRef .tc main_v78)) (ix1 j))) - 1))) := by
  after_results_simp
  dsimp only [id]
  pointwise []

theorem s4_v94_3 (b : Fin 2) (j : Fin 1024) :
    @Eq EReal ((after hostOps0_4 V (Proc.devRef .tc main_v94_3) : Vec Ideal S2x1024 .f32) (ix2 b j)) 0 := by
  after_results_simp
  dsimp only [id]
  pointwise []

theorem s5_v112 (b : Fin 2) (l : Fin 8192) (j : Fin 1024) :
    @Eq EReal ((after hostOps0_5 V (Proc.devRef .tc main_v112) : Vec Ideal S16384x1024 .f32) (ix2 (⟨8192 * b.1 + l.1, by omega⟩ : Fin 16384) j))
      (ev (S := S2x8192x1024) (V (Proc.devRef .tc main_v0)) (ix3 b l j)
        + ∑ k : Fin 1024, gelu (ev (S := S2x8192x1024) (V (Proc.devRef .tc main_v15)) (ix3 b l k))
          * ev (S := S8192x2x1024) (V (Proc.devRef .tc main_v94_4)) (ix3 l b k)
          * ev (S := S1024x1024) (V (Proc.devRef .tc main_arg10)) (ix2 k j)) := by
  after_results_simp
  pointwise []
  simp only [← gelu_half_last]

end Cert.LruRefIdeal.Read

end
-- ==== Proof.Lru.RefLoop.lean ====
module

public import proofs.«01_k».proof.Proof.Gen.LruRefIdeal.Run
public import Idealize.ShloMosaic.Lib.Pointwise
public import proofs.«01_k».proof.Proof.Lru.Ref

@[expose] public section

set_option maxRecDepth 16384

noncomputable section

/-! The reference's loop: its entry (the decays, the gated inputs, a zero state), one trip, and by induction the state
    after any number of trips and the rows written so far. -/

namespace Cert.LruRefIdeal.Read

open Cert.LruRefIdeal Cert.LruRefIdeal.Gen Cert.LruRefIdeal.Value
open Idealize.ShloMosaic Idealize.ShloMosaic.TcCoe Idealize.ShloMosaic.StableHlo FfnMath LruMath

variable (V : Valuation τ sig (Elt Ideal))

/-! ### One trip -/

/-- The slice of a stack of rows at a start inside it. -/
theorem slice_at (x : Vec Ideal S8192x2x1024 .f32) (start : Fin 3 → Int) (k : Fin 8192) (h0 : start 0 = (k.1 : Int))
    (h1 : start 1 = 0) (h2 : start 2 = 0) (h : S8192x2x1024.Slices (fun _ => 0) S1x2x1024) (b : Fin 2) (j : Fin 1024) :
    ev (S := S1x2x1024) (Host.dynamicSlice S1x2x1024 x start h) (ix3 (0 : Fin 1) b j) = ev (S := S8192x2x1024) x (ix3 k b j) := by
  have c0 : Host.clampedStart S8192x2x1024 S1x2x1024 rfl start 0 = k.1 :=
    Host.clampedStart_of_le (s := S8192x2x1024) (t := S1x2x1024) rfl start 0 k.1 h0 (by show k.1 + 1 ≤ 8192; omega)
  have c1 : Host.clampedStart S8192x2x1024 S1x2x1024 rfl start 1 = 0 :=
    Host.clampedStart_of_le (s := S8192x2x1024) (t := S1x2x1024) rfl start 1 0 h1 (by show 0 + 2 ≤ 2; omega)
  have c2 : Host.clampedStart S8192x2x1024 S1x2x1024 rfl start 2 = 0 :=
    Host.clampedStart_of_le (s := S8192x2x1024) (t := S1x2x1024) rfl start 2 0 h2 (by show 0 + 1024 ≤ 1024; omega)
  unfold ev
  refine (Host.dynamicSlice_apply x start h _).trans (congrArg x (funext fun a => ?_))
  fin_cases a
  · exact Fin.ext (by show Host.clampedStart S8192x2x1024 S1x2x1024 rfl start 0 + 0 = k.1; omega)
  · exact Fin.ext (by show Host.clampedStart S8192x2x1024 S1x2x1024 rfl start 1 + b.1 = b.1; omega)
  · exact Fin.ext (by show Host.clampedStart S8192x2x1024 S1x2x1024 rfl start 2 + j.1 = j.1; omega)

/-- A stack of rows with one row replaced, read at any row. -/
theorem update_at (x : Vec Ideal S8192x2x1024 .f32) (u : Vec Ideal S1x2x1024 .f32) (start : Fin 3 → Int) (k : Fin 8192)
    (h0 : start 0 = (k.1 : Int)) (h1 : start 1 = 0) (h2 : start 2 = 0) (h : S8192x2x1024.Slices (fun _ => 0) S1x2x1024)
    (q : Fin 8192) (b : Fin 2) (j : Fin 1024) :
    ev (S := S8192x2x1024) (Host.dynamicUpdateSlice x u start h) (ix3 q b j)
      = if q.1 = k.1 then ev (S := S1x2x1024) u (ix3 (0 : Fin 1) b j) else ev (S := S8192x2x1024) x (ix3 q b j) := by
  have c0 : Host.clampedStart S8192x2x1024 S1x2x1024 rfl start 0 = k.1 :=
    Host.clampedStart_of_le (s := S8192x2x1024) (t := S1x2x1024) rfl start 0 k.1 h0 (by show k.1 + 1 ≤ 8192; omega)
  have c1 : Host.clampedStart S8192x2x1024 S1x2x1024 rfl start 1 = 0 :=
    Host.clampedStart_of_le (s := S8192x2x1024) (t := S1x2x1024) rfl start 1 0 h1 (by show 0 + 2 ≤ 2; omega)
  have c2 : Host.clampedStart S8192x2x1024 S1x2x1024 rfl start 2 = 0 :=
    Host.clampedStart_of_le (s := S8192x2x1024) (t := S1x2x1024) rfl start 2 0 h2 (by show 0 + 1024 ≤ 1024; omega)
  unfold ev
  refine (Host.dynamicUpdateSlice_apply x u start h _).trans ?_
  by_cases hq : q.1 = k.1
  · rw [if_pos hq, dif_pos]
    · refine congrArg u (funext fun a => ?_)
      fin_cases a
      · exact Fin.ext (by show q.1 - Host.clampedStart S8192x2x1024 S1x2x1024 rfl start 0 = 0; omega)
      · exact Fin.ext (by show b.1 - Host.clampedStart S8192x2x1024 S1x2x1024 rfl start 1 = b.1; omega)
      · exact Fin.ext (by show j.1 - Host.clampedStart S8192x2x1024 S1x2x1024 rfl start 2 = j.1; omega)
    · intro a
      fin_cases a
      · show Host.clampedStart S8192x2x1024 S1x2x1024 rfl start 0 ≤ q.1 ∧ q.1 < Host.clampedStart S8192x2x1024 S1x2x1024 rfl start 0 + 1
        omega
      · show Host.clampedStart S8192x2x1024 S1x2x1024 rfl start 1 ≤ b.1 ∧ b.1 < Host.clampedStart S8192x2x1024 S1x2x1024 rfl start 1 + 2
        omega
      · show Host.clampedStart S8192x2x1024 S1x2x1024 rfl start 2 ≤ j.1 ∧ j.1 < Host.clampedStart S8192x2x1024 S1x2x1024 rfl start 2 + 1024
        omega
  · rw [if_neg hq, dif_neg]
    intro hall
    have hh : Host.clampedStart S8192x2x1024 S1x2x1024 rfl start 0 ≤ q.1 ∧ q.1 < Host.clampedStart S8192x2x1024 S1x2x1024 rfl start 0 + 1 := hall 0
    omega

/-- The counter at trip `k`, as an integer. -/
theorem counter_int (k : ℕ) (hk : k < 8192) : (Scf.iv 0#32 1#32 k : BitVec 32).toInt = (k : Int) := by
  rw [Scf.iv_eq_ofInt]
  have e : (0#32 : BitVec 32).toInt + (k : Int) * (1#32 : BitVec 32).toInt = (k : Int) := by
    have a : (0#32 : BitVec 32).toInt = 0 := by decide
    have b : (1#32 : BitVec 32).toInt = 1 := by decide
    rw [a, b]; omega
  rw [e, BitVec.toInt_ofInt_eq_self (by omega) (by norm_num) (by norm_num; omega)]

/-- The state one trip later. -/
theorem trip_state (k : Fin 8192) (hc : (V (Proc.devRef .tc main_v94_2) : Vec Ideal S_ .i32) = fun _ => Scf.iv 0#32 1#32 k.1)
    (b : Fin 2) (j : Fin 1024) :
    ev (S := S2x1024) (res_main_while0b_v116 V) (ix2 b j)
      = ev (S := S8192x2x1024) (V (Proc.devRef .tc main_v94_0)) (ix3 k b j) * ev (S := S2x1024) (V (Proc.devRef .tc main_v94_3)) (ix2 b j)
        + ev (S := S8192x2x1024) (V (Proc.devRef .tc main_v94_1)) (ix3 k b j) := by
  have cast : ∀ x : Vec Ideal S1x2x1024 .f32, ev (S := S2x1024) (shapeCast S2x1024 x shapeCasts_S1x2x1024_S2x1024) (ix2 b j)
      = ev (S := S1x2x1024) x (ix3 (0 : Fin 1) b j) := by
    intro x
    unfold ev
    refine shapeCast_apply _ _ _ _ ?_
    refine (Shape.rowMajor_val_three _).trans (Eq.trans ?_ (Shape.rowMajor_val_two _).symm)
    show (0 * 2 + b.1) * 1024 + j.1 = b.1 * 1024 + j.1
    omega
  unfold res_main_while0b_v116
  refine Eq.trans (congrArg₂ (fun s t : EReal => s * ev (S := S2x1024) (V (Proc.devRef .tc main_v94_3)) (ix2 b j) + t) (cast _) (cast _)) ?_
  refine congrArg₂ (fun s t : EReal => s * ev (S := S2x1024) (V (Proc.devRef .tc main_v94_3)) (ix2 b j) + t)
    (slice_at _ _ k ?_ rfl rfl _ b j) (slice_at _ _ k ?_ rfl rfl _ b j)
  all_goals exact (congrArg (fun v : Vec Ideal S_ .i32 => (v (Shape.Idx.first h_S_) : BitVec 32).toInt) hc).trans (counter_int k.1 k.2)

/-- The rows written, one trip later. -/
theorem trip_rows (k : Fin 8192) (hc : (V (Proc.devRef .tc main_v94_2) : Vec Ideal S_ .i32) = fun _ => Scf.iv 0#32 1#32 k.1)
    (q : Fin 8192) (b : Fin 2) (j : Fin 1024) :
    ev (S := S8192x2x1024) (step_main_v94_4 V) (ix3 q b j)
      = if q.1 = k.1 then ev (S := S2x1024) (res_main_while0b_v116 V) (ix2 b j)
        else ev (S := S8192x2x1024) (V (Proc.devRef .tc main_v94_4)) (ix3 q b j) := by
  unfold step_main_v94_4
  refine (update_at _ _ _ k ?_ rfl rfl _ q b j).trans ?_
  · exact (congrArg (fun v : Vec Ideal S_ .i32 => (v (Shape.Idx.first h_S_) : BitVec 32).toInt) hc).trans (counter_int k.1 k.2)
  · refine congrArg (fun s : EReal => if q.1 = k.1 then s else ev (S := S8192x2x1024) (V (Proc.devRef .tc main_v94_4)) (ix3 q b j)) ?_
    unfold ev
    pointwise []

/-! ### All trips -/

/-- What the loop carries after `k` trips: the decays and the inputs as they were, the counter, the state, and the states
    of the rows already passed. -/
theorem trips (W : Valuation τ sig (Elt Ideal)) (A B : Fin 2 → ℕ → Fin 1024 → EReal) (S : Fin 2 → ℕ → Fin 1024 → EReal)
    (hA : ∀ (l : Fin 8192) (b : Fin 2) (j : Fin 1024), ev (S := S8192x2x1024) (W (Proc.devRef .tc main_v94_0)) (ix3 l b j) = A b l.1 j)
    (hB : ∀ (l : Fin 8192) (b : Fin 2) (j : Fin 1024), ev (S := S8192x2x1024) (W (Proc.devRef .tc main_v94_1)) (ix3 l b j) = B b l.1 j)
    (hc : (W (Proc.devRef .tc main_v94_2) : Vec Ideal S_ .i32) = fun _ => Scf.iv 0#32 1#32 0)
    (h0 : ∀ (b : Fin 2) (j : Fin 1024), ev (S := S2x1024) (W (Proc.devRef .tc main_v94_3)) (ix2 b j) = S b 0 j)
    (hS : ∀ b n j, S b (n + 1) j = A b n j * S b n j + B b n j) : ∀ k ≤ 8192,
    (STEP^[k] W (Proc.devRef .tc main_v94_0)) = W (Proc.devRef .tc main_v94_0)
    ∧ (STEP^[k] W (Proc.devRef .tc main_v94_1)) = W (Proc.devRef .tc main_v94_1)
    ∧ (STEP^[k] W (Proc.devRef .tc main_v94_2) : Vec Ideal S_ .i32) = (fun _ => Scf.iv 0#32 1#32 k)
    ∧ (∀ (b : Fin 2) (j : Fin 1024), ev (S := S2x1024) (STEP^[k] W (Proc.devRef .tc main_v94_3)) (ix2 b j) = S b k j)
    ∧ (∀ (q : Fin 8192) (b : Fin 2) (j : Fin 1024), q.1 < k →
        ev (S := S8192x2x1024) (STEP^[k] W (Proc.devRef .tc main_v94_4)) (ix3 q b j) = S b (q.1 + 1) j) := by
  intro k
  induction k with
  | zero => exact fun _ => ⟨rfl, rfl, hc, h0, fun q _ _ h => absurd h (Nat.not_lt_zero _)⟩
  | succ k ih =>
    intro hk
    obtain ⟨i0, i1, i2, i3, i4⟩ := ih (by omega)
    rw [Function.iterate_succ_apply' STEP k W]
    set X := STEP^[k] W with hX
    have hstate : ∀ (b : Fin 2) (j : Fin 1024), ev (S := S2x1024) (res_main_while0b_v116 X) (ix2 b j) = S b (k + 1) j := by
      intro b j
      rw [trip_state X ⟨k, by omega⟩ i2 b j, i0, i1, i3, hA, hB]
      exact (hS b k j).symm
    refine ⟨(STEP_main_v94_0 X).trans i0, (STEP_main_v94_1 X).trans i1, ?_, ?_, ?_⟩
    · refine (STEP_main_v94_2 X).trans ?_
      unfold step_main_v94_2
      rw [Scf.iv_succ]
      exact congrArg (fun v : Vec Ideal S_ .i32 => (addi v (constantI S_ 32 1#32) : Vec Ideal S_ .i32)) i2
    · intro b j
      refine Eq.trans ?_ (hstate b j)
      rw [STEP_main_v94_3]
      rfl
    · intro q b j hq
      rw [STEP_main_v94_4]
      refine (trip_rows X ⟨k, by omega⟩ i2 q b j).trans ?_
      by_cases e : q.1 = k
      · rw [if_pos e, hstate, e]
      · rw [if_neg e]
        exact i4 q b j (by omega)

end Cert.LruRefIdeal.Read

end
-- ==== Proof.Lru.RefRun.lean ====
module

public import proofs.«01_k».proof.Proof.Gen.LruRefIdeal.Run
public import Idealize.ShloMosaic.Lib.Pointwise
public import proofs.«01_k».proof.Proof.Lru.RefLoop

@[expose] public section

set_option maxRecDepth 16384

noncomputable section

/-! The reference's run: the stages before the loop put together, the arguments and the first stage's arrays carried past
    every later stage, and the output array at the end. -/

namespace Cert.LruRefIdeal.Read

open Cert.LruRefIdeal Cert.LruRefIdeal.Gen Cert.LruRefIdeal.Value
open Idealize.ShloMosaic Idealize.ShloMosaic.TcCoe Idealize.ShloMosaic.StableHlo Idealize.SL.Sem FfnMath LruMath

variable (V : Valuation τ sig (Elt Ideal))

/-! ### What is only carried -/

/-- The arguments. -/
abbrev argRefs : List (Ref sig .tc) :=
  [main_arg0, main_arg1, main_arg2, main_arg3, main_arg4, main_arg5, main_arg6, main_arg7, main_arg8, main_arg9, main_arg10]

/-- Two contents agree on a list of buffers. -/
def Same (L : List (Ref sig .tc)) (V V' : Valuation τ sig (Elt Ideal)) : Prop :=
  ∀ r ∈ L, V (Proc.devRef .tc r) = V' (Proc.devRef .tc r)

theorem Same.rfl' (L : List (Ref sig .tc)) (V : Valuation τ sig (Elt Ideal)) : Same L V V := fun _ _ => rfl

/-- A list of operations that writes none of the buffers leaves them. -/
theorem Same.after {L W : List (Ref sig .tc)} {V V' : Valuation τ sig (Elt Ideal)} (h : Same L V V')
    (ops : List (HloOp τ sig (Elt Ideal)))
    (hW : ops.Forall fun op => op.writes ⊆ (W.map (Proc.devRef (τ := τ) .tc)).toFinset) (hL : ∀ r ∈ L, r ∉ W) :
    Same L (StableHlo.after ops V) V' :=
  fun r hr => (after_of_writes_sub ops V hW (hL r hr)).trans (h r hr)

theorem pr_same {V V' : Valuation τ sig (Elt Ideal)} (h : Same argRefs V V') : pr V = pr V' := by
  unfold pr
  rw [h main_arg1 (by decide +kernel), h main_arg2 (by decide +kernel), h main_arg3 (by decide +kernel),
    h main_arg4 (by decide +kernel), h main_arg5 (by decide +kernel), h main_arg6 (by decide +kernel),
    h main_arg7 (by decide +kernel), h main_arg8 (by decide +kernel), h main_arg9 (by decide +kernel),
    h main_arg10 (by decide +kernel)]

theorem forall_take (n : ℕ) :
    ((hostOps0_2 : List (HloOp τ sig (Elt Ideal))).take n).Forall
      fun op => op.writes ⊆ (hostOps0_2_W.map (Proc.devRef (τ := τ) .tc)).toFinset :=
  List.forall_iff_forall_mem.mpr fun op hop => List.forall_iff_forall_mem.mp hostOps0_2_writes op (List.mem_of_mem_take hop)

theorem forall_drop (n : ℕ) :
    ((hostOps0_2 : List (HloOp τ sig (Elt Ideal))).drop n).Forall
      fun op => op.writes ⊆ (hostOps0_2_W.map (Proc.devRef (τ := τ) .tc)).toFinset :=
  List.forall_iff_forall_mem.mpr fun op hop => List.forall_iff_forall_mem.mp hostOps0_2_writes op (List.mem_of_mem_drop hop)

/-! ### The stages before the loop, put together -/

abbrev E0 : Valuation τ sig (Elt Ideal) := after hostOps0 V
abbrev E1 : Valuation τ sig (Elt Ideal) := after hostOps0_1 (E0 V)
abbrev E2' : Valuation τ sig (Elt Ideal) := after (hostOps0_2.take 33) (E1 V)
abbrev E2 : Valuation τ sig (Elt Ideal) := after (hostOps0_2.drop 33) (E2' V)
abbrev E3 : Valuation τ sig (Elt Ideal) := after hostOps0_3 (E2 V)
abbrev E4 : Valuation τ sig (Elt Ideal) := after hostOps0_4 (E3 V)

theorem after_two (l l' : List (HloOp τ sig (Elt Ideal))) (V : Valuation τ sig (Elt Ideal)) :
    after (l ++ l') V = after l' (after l V) := by
  induction l generalizing V with
  | nil => rfl
  | cons op l ih => exact ih _

theorem entry_eq : afterL preI V = E4 V := by
  have h : after hostOps0_2 (E1 V) = E2 V :=
    (congrArg (fun l => after l (E1 V)) (List.take_append_drop 33 hostOps0_2).symm).trans (after_two _ _ _)
  show after hostOps0_4 (after hostOps0_3 (after hostOps0_2 (E1 V))) = _
  rw [h]

/-- The first stage's arrays that are read again after the loop. -/
abbrev lateRefs : List (Ref sig .tc) := [main_v0, main_v15]

theorem args0 : Same argRefs (E0 V) V := (Same.rfl' _ _).after _ hostOps0_writes (by decide +kernel)
theorem args1 : Same argRefs (E1 V) V := (args0 V).after _ hostOps0_1_writes (by decide +kernel)
theorem args2' : Same argRefs (E2' V) V := (args1 V).after _ (forall_take 33) (by decide +kernel)
theorem args2 : Same argRefs (E2 V) V := (args2' V).after _ (forall_drop 33) (by decide +kernel)
theorem args3 : Same argRefs (E3 V) V := (args2 V).after _ hostOps0_3_writes (by decide +kernel)
theorem args4 : Same argRefs (E4 V) V := (args3 V).after _ hostOps0_4_writes (by decide +kernel)

theorem late4 : Same lateRefs (E4 V) (E0 V) :=
  ((((((Same.rfl' _ _).after _ hostOps0_1_writes (by decide +kernel)).after _ (forall_take 33) (by decide +kernel)).after _
    (forall_drop 33) (by decide +kernel)).after _ hostOps0_3_writes (by decide +kernel)).after _ hostOps0_4_writes (by decide +kernel))

/-- The branch's rows of a batch element, eight rows of zeros before them. -/
def U (b q : ℕ) (j : Fin 1024) : EReal := if q < 8 then 0 else rnn (pr V) (xr V b (q - 8)) j

theorem e1_v17 (b : Fin 2) (q : Fin 8195) (j : Fin 1024) :
    ev (S := S2x8195x1024) (E1 V (Proc.devRef .tc main_v17)) (ix3 b q j) = U V b.1 (q.1 + 5) j := by
  refine (s1_v17 (E0 V) (s0_c V) b q j).trans ?_
  unfold U
  by_cases h : 3 ≤ q.1
  · rw [dif_pos h, if_neg (by omega)]
    refine (s0_v16 V b ⟨q.1 - 3, by omega⟩ j).trans ?_
    exact congrArg (fun n => rnn (pr V) (xr V b.1 n) j) (by show q.1 - 3 = q.1 + 5 - 8; omega)
  · rw [dif_neg h, if_pos (by omega)]

theorem conv_congr (p : Par) {u0 u0' u1 u1' u2 u2' u3 u3' : Fin 1024 → EReal} (h0 : u0 = u0') (h1 : u1 = u1') (h2 : u2 = u2')
    (h3 : u3 = u3') (j : Fin 1024) : conv p u0 u1 u2 u3 j = conv p u0' u1' u2' u3' j := by
  rw [h0, h1, h2, h3]

theorem e2'_v49 (b : Fin 2) (l : Fin 8192) (j : Fin 1024) :
    ev (S := S2x8192x1024) (E2' V (Proc.devRef .tc main_v49)) (ix3 b l j) = cv (pr V) (U V b.1) l.1 j := by
  refine (s2_v49 (E1 V) b l j).trans ?_
  rw [pr_same (args1 V)]
  refine conv_congr (pr V) ?_ ?_ ?_ ?_ j
  · exact funext fun j' => e1_v17 V b _ j'
  · exact funext fun j' => (e1_v17 V b _ j').trans (congrArg (fun n => U V b.1 n j') (by show 1 + l.1 + 5 = l.1 + 6; omega))
  · exact funext fun j' => (e1_v17 V b _ j').trans (congrArg (fun n => U V b.1 n j') (by show 2 + l.1 + 5 = l.1 + 7; omega))
  · exact funext fun j' => (e1_v17 V b _ j').trans (congrArg (fun n => U V b.1 n j') (by show 3 + l.1 + 5 = l.1 + 8; omega))

theorem e2_v74 (b : Fin 2) (l : Fin 8192) (j : Fin 1024) :
    ev (S := S2x8192x1024) (E2 V (Proc.devRef .tc main_v74)) (ix3 b l j) = gate (pr V).wx (pr V).bx (cv (pr V) (U V b.1) l.1) j := by
  refine (s2_v74 (E2' V) b l j).trans ?_
  rw [pr_same (args2' V)]
  exact congrArg (fun v => gate (pr V).wx (pr V).bx v j) (funext fun j' => e2'_v49 V b l j')

theorem e2_v76 (b : Fin 2) (l : Fin 8192) (j : Fin 1024) :
    ev (S := S2x8192x1024) (E2 V (Proc.devRef .tc main_v76)) (ix3 b l j)
      = Ideal.ofBits .f32 0xC1000000#32 * gate (pr V).wa (pr V).ba (cv (pr V) (U V b.1) l.1) j := by
  refine (s2_v76 (E2' V) b l j).trans ?_
  rw [pr_same (args2' V)]
  exact congrArg (fun v => Ideal.ofBits .f32 0xC1000000#32 * gate (pr V).wa (pr V).ba v j) (funext fun j' => e2'_v49 V b l j')

theorem e2_v49 (b : Fin 2) (l : Fin 8192) (j : Fin 1024) :
    ev (S := S2x8192x1024) (E2 V (Proc.devRef .tc main_v49)) (ix3 b l j) = cv (pr V) (U V b.1) l.1 j :=
  (congrArg (fun v : Vec Ideal S2x8192x1024 .f32 => ev v (ix3 b l j)) (s2_keep (E2' V))).trans (e2'_v49 V b l j)

theorem e3_v78 (j : Fin 1024) :
    ev (S := S1024) (E3 V (Proc.devRef .tc main_v78)) (ix1 j) = softplusNeg ((pr V).lam j) :=
  s3_v78 (E2 V) j _ ((s2_v77 (E2' V) j).trans (by rw [pr_same (args2' V)]))

/-- The gates, the scaled gate and the convolution pass the softplus. -/
theorem keep3 : Same [main_v74, main_v76, main_v49] (E3 V) (E2 V) :=
  (Same.rfl' _ _).after _ hostOps0_3_writes (by decide +kernel)

/-- The decay's logarithm. -/
theorem e3_log (b : Fin 2) (l : Fin 8192) (j : Fin 1024) :
    ev (S := S2x8192x1024) (E3 V (Proc.devRef .tc main_v76)) (ix3 b l j) * ev (S := S1024) (E3 V (Proc.devRef .tc main_v78)) (ix1 j)
      = logA (pr V) (cv (pr V) (U V b.1) l.1) j := by
  rw [keep3 V main_v76 (by decide +kernel), e2_v76, e3_v78]
  rfl

theorem e4_v94_0 (l : Fin 8192) (b : Fin 2) (j : Fin 1024) :
    ev (S := S8192x2x1024) (E4 V (Proc.devRef .tc main_v94_0)) (ix3 l b j) = dec (pr V) (cv (pr V) (U V b.1) l.1) j := by
  refine (s4_v94_0 (E3 V) b l j).trans ?_
  rw [e3_log]
  rfl

theorem e4_v94_1 (l : Fin 8192) (b : Fin 2) (j : Fin 1024) :
    ev (S := S8192x2x1024) (E4 V (Proc.devRef .tc main_v94_1)) (ix3 l b j) = inp (pr V) (cv (pr V) (U V b.1) l.1) j := by
  refine (s4_v94_1 (E3 V) b l j).trans ?_
  rw [e3_log, keep3 V main_v74 (by decide +kernel), keep3 V main_v49 (by decide +kernel), e2_v74, e2_v49]
  exact inp_spelled (pr V) _ j

/-! ### The loop -/

/-- The rows of states after all trips. -/
theorem rows_after (hc : (E4 V (Proc.devRef .tc main_v94_2) : Vec Ideal S_ .i32) = fun _ => (0#32 : BitVec 32))
    (q : Fin 8192) (b : Fin 2) (j : Fin 1024) :
    ev (S := S8192x2x1024) (STEP^[8192] (E4 V) (Proc.devRef .tc main_v94_4)) (ix3 q b j) = state (pr V) (U V b.1) (q.1 + 1) j :=
  (trips (E4 V) (fun b n j => dec (pr V) (cv (pr V) (U V b.1) n) j) (fun b n j => inp (pr V) (cv (pr V) (U V b.1) n) j)
    (fun b n j => state (pr V) (U V b.1) n j) (e4_v94_0 V) (e4_v94_1 V) (hc.trans (by rw [Scf.iv_zero]))
    (fun b j => s4_v94_3 (E3 V) b j) (fun _ _ _ => rfl) 8192 le_rfl).2.2.2.2 q b j q.2

variable (m : (ℓ : Loc nD τ sig) → Buf (Elt Ideal) ℓ)

/-- The buffers that the loop only passes by. -/
abbrev restRefs : List (Ref sig .tc) := main_v0 :: main_v15 :: argRefs

theorem rest_trip (X : Valuation τ sig (Elt Ideal)) : Same restRefs (afterL bodyI (after condOps X)) X :=
  ((((((Same.rfl' restRefs X).after _ condOps_writes (by decide +kernel)).after _ while0Ops0_writes (by decide +kernel)).after _
    while0Ops0_1_writes (by decide +kernel)).after _ while0Ops0_2_writes (by decide +kernel)).after _
    while0Ops0_3_writes (by decide +kernel)).after _ while0Ops0_4_writes (by decide +kernel)

theorem rest_trips (c : Dev nD) : ∀ k, Same restRefs (atK m k c) (entryContents preI m c)
  | 0 => fun _ _ => rfl
  | k + 1 => fun r hr => (rest_trip (atK m k c) r hr).trans (rest_trips c k r hr)

/-- The contents when the loop has ended. -/
abbrev L1 (c : Dev nD) : Valuation τ sig (Elt Ideal) := after condOps (atK m 8192 c)

theorem rest_L1 (c : Dev nD) : Same restRefs (L1 m c) (E4 (launchContents m c)) := fun r hr =>
  ((Same.after (rest_trips m c 8192) condOps condOps_writes (by decide +kernel)) r hr).trans
    (congrArg (fun W : Valuation τ sig (Elt Ideal) => W (Proc.devRef .tc r)) (entry_eq (launchContents m c)))

theorem args_L1 (c : Dev nD) : Same argRefs (L1 m c) (launchContents m c) := fun r hr =>
  (rest_L1 m c r (List.mem_cons_of_mem _ (List.mem_cons_of_mem _ hr))).trans (args4 (launchContents m c) r hr)

theorem rows_L1 (c : Dev nD) (q : Fin 8192) (b : Fin 2) (j : Fin 1024) :
    ev (S := S8192x2x1024) (L1 m c (Proc.devRef .tc main_v94_4)) (ix3 q b j)
      = state (pr (launchContents m c)) (U (launchContents m c) b.1) (q.1 + 1) j := by
  have h1 : L1 m c (Proc.devRef .tc main_v94_4) = STEP^[8192] (entryContents preI m c) (Proc.devRef .tc main_v94_4) :=
    (cond_keeps (atK m 8192 c) main_v94_4 (by decide +kernel)).trans (atK_agree m c 8192 main_v94_4 (by decide +kernel))
  have h2 : entryContents preI m c = E4 (launchContents m c) := entry_eq (launchContents m c)
  have hc := ctr_entry m c
  rw [h2] at h1 hc
  rw [h1]
  exact rows_after (launchContents m c) hc q b j

theorem late_v0 (c : Dev nD) (b : Fin 2) (l : Fin 8192) (j : Fin 1024) :
    ev (S := S2x8192x1024) (L1 m c (Proc.devRef .tc main_v0)) (ix3 b l j) = xr (launchContents m c) b.1 l.1 j :=
  (congrArg (fun v : Vec Ideal S2x8192x1024 .f32 => ev v (ix3 b l j)) ((rest_L1 m c main_v0 (by decide +kernel)).trans
    (late4 (launchContents m c) main_v0 (by decide +kernel)))).trans (s0_v0 (launchContents m c) b l j)

theorem late_v15 (c : Dev nD) (b : Fin 2) (l : Fin 8192) (j : Fin 1024) :
    ev (S := S2x8192x1024) (L1 m c (Proc.devRef .tc main_v15)) (ix3 b l j)
      = both (pr (launchContents m c)) (xr (launchContents m c) b.1 l.1) ⟨j.1, by omega⟩ :=
  (congrArg (fun v : Vec Ideal S2x8192x1024 .f32 => ev v (ix3 b l j)) ((rest_L1 m c main_v15 (by decide +kernel)).trans
    (late4 (launchContents m c) main_v15 (by decide +kernel)))).trans (s0_v15 (launchContents m c) b l j)

/-- The output array, entry by entry. -/
theorem final_v112 (c : Dev nD) (b : Fin 2) (l : Fin 8192) (j : Fin 1024) :
    ev (S := S16384x1024) (finalContents condOps preI bodyI postI 8192 m c (Proc.devRef .tc main_v112))
        (ix2 (⟨8192 * b.1 + l.1, by omega⟩ : Fin 16384) j)
      = outRow (pr (launchContents m c)) (xr (launchContents m c) b.1 l.1)
          (state (pr (launchContents m c)) (U (launchContents m c) b.1) (l.1 + 1)) j := by
  refine (s5_v112 (L1 m c) b l j).trans ?_
  refine congrArg₂ (fun s t : EReal => s + t) (late_v0 m c b l j) (Finset.sum_congr rfl fun k _ => ?_)
  exact congrArg₂ (fun s t : EReal => s * t)
    (congrArg₂ (fun s t : EReal => s * t) (congrArg gelu (late_v15 m c b l k)) (rows_L1 m c l b k))
    (congrArg (fun v : Vec Ideal S1024x1024 .f32 => ev v (ix2 k j)) (args_L1 m c main_arg10 (by decide +kernel)))

/-- The references the operations after the loop write. -/
abbrev post_W : List (Ref sig .tc) := [main_v95, main_v96, main_cst_12, main_v97, main_v98, main_v99, main_cst_13, main_v100, main_v101,
  main_v102, main_cst_14, main_v103, main_v104, main_cst_15, main_v105, main_v106, main_v107, main_v108, main_v109, main_v110,
  main_v111, main_v112]

theorem post_writes : (hostOps0_5 : List (HloOp τ sig (Elt Ideal))).Forall
    fun op => op.writes ⊆ (post_W.map (Proc.devRef (τ := τ) .tc)).toFinset :=
  forall_writes_sub_of_map rfl

theorem final_args (c : Dev nD) : Same argRefs (finalContents condOps preI bodyI postI 8192 m c) (launchContents m c) :=
  (args_L1 m c).after _ post_writes (by decide +kernel)

/-- The reference runs; its result is the last stage's array and the arguments end unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v112) = finalContents condOps preI bodyI postI 8192 m c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    have at_arg : ∀ b ∈ argRefs, (Proc.devRef .tc b : DevRef τ sig).isScoped = false →
        r.2.mem ((c.tc : Thread nD τ).loc b) = m ((c.tc : Thread nD τ).loc b) := fun b hb hs =>
      (h c b hs).trans (final_args m c b hb)
    ⟨h c main_v112 rfl, at_arg main_arg0 (by decide +kernel) rfl, at_arg main_arg1 (by decide +kernel) rfl, at_arg main_arg2 (by decide +kernel) rfl, at_arg main_arg3 (by decide +kernel) rfl, at_arg main_arg4 (by decide +kernel) rfl, at_arg main_arg5 (by decide +kernel) rfl, at_arg main_arg6 (by decide +kernel) rfl, at_arg main_arg7 (by decide +kernel) rfl, at_arg main_arg8 (by decide +kernel) rfl, at_arg main_arg9 (by decide +kernel) rfl, at_arg main_arg10 (by decide +kernel) rfl⟩)
    (run_fold m ρ)

end Cert.LruRefIdeal.Read

end
-- ==== Proof.Lru.Algebra.lean ====
module

public import proofs.«01_k».proof.Defs
public import proofs.«01_k».proof.Proof.Lru.IdealArray
public import proofs.«01_k».proof.Proof.Lru.RefRun

@[expose] public section

set_option maxRecDepth 16384

noncomputable section

/-! The mixer's kernel and the reference compute one array: both results, read at an index, are the output row of
    `LruMath` at the state that the recurrence has reached there. -/

namespace Cert.LruIdeal.Block

open Idealize.ShloMosaic Idealize.ShloMosaic.TcCoe Idealize.ShloMosaic.StableHlo Idealize.SL.Sem LruMath

theorem algebraic : Cert.algebraic_LruIdeal_LruRefIdeal (hLruIdeal := Cert.LruIdeal.Gen.facts)
    (hLruRefIdeal := Cert.LruRefIdeal.Gen.facts) := by
  intro m g m' g' _ hagree
  refine ⟨fun c => result m c, run m g, ?_⟩
  refine (θ_run _ _ _).mono (fun r h c => ⟨(h c).1.trans ?_, (h c).2⟩) (Cert.LruRefIdeal.Read.run m' g')
  obtain ⟨h0, h1, h2, h3, h4, h5, h6, h7, h8, h9, h10⟩ := hagree c
  have hp : Cert.LruRefIdeal.Read.pr (launchContents m' c) = par m c := by
    unfold Cert.LruRefIdeal.Read.pr par
    rw [← h1, ← h2, ← h3, ← h4, ← h5, ← h6, ← h7, ← h8, ← h9, ← h10]
  have hx : ∀ b l, Cert.LruRefIdeal.Read.xr (launchContents m' c) b l = xrow m c b l := by
    intro b l
    unfold Cert.LruRefIdeal.Read.xr xrow
    rw [← h0]
  have hU : ∀ b, Cert.LruRefIdeal.Read.U (launchContents m' c) b = rows m c b := by
    intro b
    funext q j
    unfold Cert.LruRefIdeal.Read.U rows
    rw [hp, hx]
  have key : ∀ (i : Fin 16384) (j : Fin 1024),
      @Eq EReal ((finalContents Cert.LruRefIdeal.Value.condOps Cert.LruRefIdeal.Value.preI Cert.LruRefIdeal.Value.bodyI
        Cert.LruRefIdeal.Value.postI 8192 m' c (Proc.devRef .tc Cert.LruRefIdeal.main_v112) : Vec Ideal Cert.LruIdeal.S16384x1024 .f32) (ix2 i j))
        (result m c (ix2 i j)) := by
    intro i j
    have hi := i.isLt
    have e : i = (⟨8192 * (⟨i.1 / 8192, by omega⟩ : Fin 2).1 + (⟨i.1 % 8192, by omega⟩ : Fin 8192).1, by
        show 8192 * (i.1 / 8192) + i.1 % 8192 < 16384; omega⟩ : Fin 16384) :=
      Fin.ext (by show i.1 = 8192 * (i.1 / 8192) + i.1 % 8192; omega)
    rw [e]
    refine (Cert.LruRefIdeal.Read.final_v112 m' c ⟨i.1 / 8192, by omega⟩ ⟨i.1 % 8192, by omega⟩ j).trans ?_
    rw [hp, hx, hU]
    exact (result_apply m c ⟨i.1 / 8192, by omega⟩ ⟨i.1 % 8192, by omega⟩ j).symm
  funext i
  idx_vars i
  exact key _ _

end Cert.LruIdeal.Block

end
-- ==== Proof.Qkv.Math.lean ====
module

public import proofs.«01_k».proof.Proof.Ffn.Math

@[expose] public section

set_option maxRecDepth 16384

noncomputable section

/-! The first projection of attention on one row. -/

namespace QkvMath

open Idealize.ShloMosaic FfnMath

/-- One entry of the normalised row's product with the weight. -/
def lin (x g : Fin 1024 → EReal) (w : Fin 1024 → Fin 3072 → EReal) (j : Fin 3072) : EReal :=
  ∑ d, nrm x g d * w d j

/-- The projected row: the first 1024 entries, the queries, are scaled by 1/8. -/
def qkv (x g : Fin 1024 → EReal) (w : Fin 1024 → Fin 3072 → EReal) (j : Fin 3072) : EReal :=
  if j.val < 1024 then lin x g w j * Ideal.ofBits .f32 0x3E000000#32 else lin x g w j

/-- Row `r` of batch element `b` among the rows of the hidden state. -/
abbrev row (b : Fin 2) (r : Fin 8192) : Fin 16384 := ⟨8192 * b.val + r.val, by omega⟩

end QkvMath

end
-- ==== Proof.Qkv.Block.lean ====
module

public import Idealize.ShloMosaic.Lib.Pointwise
public import Idealize.ShloMosaic.Lib.WritesUnit
public import Idealize.ShloMosaic.Lib.WholeRead
public import proofs.«01_k».proof.Proof.Gen.QkvIdeal.Value
public import proofs.«01_k».proof.Proof.Qkv.Math

@[expose] public section

set_option maxRecDepth 16384

noncomputable section

/-! What the kernel's body leaves in one block of 512 rows, read at an index: the row function of `QkvMath`. -/

namespace Cert.QkvIdeal.Block

open Idealize.ShloMosaic Idealize.ShloMosaic.TcCoe Cert.QkvIdeal Cert.QkvIdeal.Gen FfnMath QkvMath

/-- The product of the normalised rows of a block with the weight. -/
theorem lin_apply (v0 : Vec Ideal S1x512x1024 .f32) (v1 : Vec Ideal S1x1024 .f32) (v2 : Vec Ideal S1024x3072 .bf16)
    (r : Fin 512) (j : Fin 3072) :
    k0_pay1 v0 v1 v2 (ix2 r j) = lin (fun k => v0 (ix3 0 r k)) (fun k => v1 (ix2 0 k)) (fun d k => v2 (ix2 d k)) j := by
  pointwise [k0_pay1]
  rfl

/-- The block that the body leaves. -/
theorem out_apply (c : Dev nD) (i : grid0.Coords) (arg2 : Memref sig .tc .vmem S1x512x1024 .f32) (harg2 : arg2.IsWhole)
    (arg3 : Memref sig .tc .vmem S1x1024 .f32) (harg3 : arg3.IsWhole) (arg4 : Memref sig .tc .vmem S1024x3072 .bf16)
    (harg4 : arg4.IsWhole) (arg5 : Memref sig .tc .vmem S1x512x3072 .bf16) (harg5 : arg5.IsWhole)
    (x0 : Vec Ideal S1x512x1024 .f32) (x1 : Vec Ideal S1x1024 .f32) (x2 : Vec Ideal S1024x3072 .bf16)
    (r : Fin 512) (j : Fin 3072) :
    out0_A_3 c i arg2 harg2 arg3 harg3 arg4 harg4 arg5 harg5 x0 x1 x2 (ix3 0 r j)
      = qkv (fun k => x0 (ix3 0 r k)) (fun k => x1 (ix2 0 k)) (fun d k => x2 (ix2 d k)) j := by
  have e0 : View.readAt (Elt Ideal) arg2.view
      (Rect.unit (s := S1x512x1024) ![0, 0, 0] S1x512x1024.size inb_S1x512x1024_S1x512x1024_0_0_0).toLoadRect (harg2.unread x0) = x0 :=
    (funext fun x => harg2.readAt_unread x0 _ x).trans (View.ld_unit_zero (by decide) _ _)
  have e1 : View.readAt (Elt Ideal) arg3.view
      (Rect.unit (s := S1x1024) ![0, 0] S1x1024.size inb_S1x1024_S1x1024_0_0).toLoadRect (harg3.unread x1) = x1 :=
    (funext fun x => harg3.readAt_unread x1 _ x).trans (View.ld_unit_zero (by decide) _ _)
  have e2 : View.readAt (Elt Ideal) arg4.view
      (Rect.unit (s := S1024x3072) ![0, 0] S1024x3072.size inb_S1024x3072_S1024x3072_0_0).toLoadRect (harg4.unread x2) = x2 :=
    (funext fun x => harg4.readAt_unread x2 _ x).trans (View.ld_unit_zero (by decide) _ _)
  have hp : (kernelRun0_A c i arg2 harg2 arg3 harg3 arg4 harg4 arg5 harg5 x0 x1 x2).1
      = [⟨Rect.unit (s := S1x512x3072) ![0, 0, 1024] S1x512x2048.size inb_S1x512x3072_S1x512x2048_0_0_1024, k0_pay3 x0 x1 x2⟩,
        ⟨Rect.unit (s := S1x512x3072) ![0, 0, 0] S1x512x1024.size inb_S1x512x3072_S1x512x1024_0_0_0, k0_pay2 x0 x1 x2⟩] := by
    conv_rhs => rw [← e0, ← e1, ← e2]
    rfl
  have e4 : ∀ h : j.val < 1024, ∀ a : Fin 3, ((ix3 (0 : Fin 1) r j : S1x512x3072.Idx) a).val
      = (![0, 0, 0] : Fin 3 → ℕ) a + ((ix3 (0 : Fin 1) r (⟨j.val, h⟩ : Fin 1024) : S1x512x1024.Idx) a).val := by
    intro h a
    match a with
    | ⟨0, _⟩ => rfl
    | ⟨1, _⟩ => exact (Nat.zero_add _).symm
    | ⟨2, _⟩ => exact (Nat.zero_add _).symm
  have e5 : ∀ _ : ¬ j.val < 1024, ∀ h' : j.val - 1024 < 2048, ∀ a : Fin 3, ((ix3 (0 : Fin 1) r j : S1x512x3072.Idx) a).val
      = (![0, 0, 1024] : Fin 3 → ℕ) a + ((ix3 (0 : Fin 1) r (⟨j.val - 1024, h'⟩ : Fin 2048) : S1x512x2048.Idx) a).val := by
    intro h h' a
    match a with
    | ⟨0, _⟩ => rfl
    | ⟨1, _⟩ => exact (Nat.zero_add _).symm
    | ⟨2, _⟩ => exact (show j.val = 1024 + (j.val - 1024) by omega)
  unfold out0_A_3
  rw [hp]
  unfold qkv
  split_ifs with h
  · rw [View.read_writes_cons_unit_of_not_mem _ _ _ _ _ _ rfl (2 : Fin 3) (Or.inl (show j.val < 1024 from h)),
      View.read_writes_cons_unit_of_mem _ _ _ _ _ _ (ix3 (0 : Fin 1) r (⟨j.val, h⟩ : Fin 1024)) rfl (e4 h)]
    pointwise [k0_pay2]
    rw [lin_apply]
  · have h' : j.val - 1024 < 2048 := by omega
    rw [View.read_writes_cons_unit_of_mem _ _ _ _ _ _ (ix3 (0 : Fin 1) r (⟨j.val - 1024, h'⟩ : Fin 2048)) rfl (e5 h h')]
    pointwise [k0_pay3]
    rw [lin_apply]
    exact congrArg _ (Fin.ext (show 1024 + (j.val - 1024) = j.val by omega))

end Cert.QkvIdeal.Block

end
-- ==== Proof.Qkv.Array.lean ====
module

public import proofs.«01_k».proof.Proof.Qkv.Block

@[expose] public section

set_option maxRecDepth 16384

noncomputable section

/-! The kernel's result array read at an index: rows `512 i + r` of batch element `b` are written by grid point `(b, i)`. -/

namespace Cert.QkvIdeal.Block

open Idealize.ShloMosaic Idealize.ShloMosaic.TcCoe Cert.QkvIdeal Cert.QkvIdeal.Gen FfnMath QkvMath

variable (m : (ℓ : Loc nD τ sig) → Buf (Elt Ideal) ℓ)

theorem V_main_v0 (c : Dev nD) (i : S1024x3072.Idx) : V m c main_v0 i = m ((c : Thread nD τ).loc main_arg2) i := by
  have h : (V m c main_v0 : Vec Ideal S1024x3072 .bf16) = truncf (F := Ideal) .bf16 (m ((c : Thread nD τ).loc main_arg2) : Vec Ideal S1024x3072 .f32) bitsLt_bf16_f32 := by
    simp only [V, hostOps0, List.flatten_cons, List.flatten_nil, List.append_nil, List.cons_append, List.nil_append]
    after_results_simp <;> rfl
  rw [h]; rfl

theorem V_main_v1 (c : Dev nD) (b : Fin 2) (r : Fin 8192) (d : Fin 1024) :
    V m c main_v1 (ix3 b r d) = m ((c : Thread nD τ).loc main_arg0) (ix2 (row b r) d) := by
  have h : V m c main_v1 = shapeCast S2x8192x1024 (m ((c : Thread nD τ).loc main_arg0)) shapeCasts_S16384x1024_S2x8192x1024 := by
    simp only [V, hostOps0, List.flatten_cons, List.flatten_nil, List.append_nil, List.cons_append, List.nil_append]
    after_results_simp <;> rfl
  rw [h]
  refine shapeCast_apply _ _ _ _ ?_
  show (S16384x1024.rowMajor (ix2 (row b r) d)).val = (S2x8192x1024.rowMajor (ix3 b r d)).val
  rw [Shape.rowMajor_val_two, Shape.rowMajor_val_three]
  show (8192 * b.val + r.val) * 1024 + d.val = (b.val * 8192 + r.val) * 1024 + d.val
  omega

theorem V_main_v2 (c : Dev nD) (k : Fin 1024) : V m c main_v2 (ix2 0 k) = m ((c : Thread nD τ).loc main_arg1) (ix1 k) := by
  have h : V m c main_v2 = shapeCast S1x1024 (m ((c : Thread nD τ).loc main_arg1)) shapeCasts_S1024_S1x1024 := by
    simp only [V, hostOps0, List.flatten_cons, List.flatten_nil, List.append_nil, List.cons_append, List.nil_append]
    after_results_simp <;> rfl
  rw [h]; pointwise []

/-- Where each window's block lies at point `t`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = t.val % 16 ∧ win0_3.index t (2 : Fin 3) = 0
    ∧ (cfg0.win 3).flush t = true :=
  (by decide +kernel : ∀ t : Fin grid0.N, _)

/-- The batch element of point `t`, and row `r` of its tile. -/
abbrev bat (t : Fin 32) : Fin 2 := ⟨t.val / 16, by omega⟩
abbrev pos (t : Fin 32) (r : Fin 512) : Fin 8192 := ⟨512 * (t.val % 16) + r.val, by omega⟩

theorem emb3 (t : Fin 32) (r : Fin 512) (j : Fin 3072) :
    ((cfg0.win 3).blk t).view.emb (ix3 0 r j) = ix3 (bat t) (pos t r) j := by
  obtain ⟨-, -, -, -, -, -, -, e0, e1, e2, -⟩ := idx_facts t
  funext a; apply Fin.ext
  match a with
  | ⟨0, _⟩ => show win0_3.index t (0 : Fin 3) * 1 + 1 * 0 = t.val / 16; omega
  | ⟨1, _⟩ => show win0_3.index t (1 : Fin 3) * 512 + 1 * r.val = 512 * (t.val % 16) + r.val; omega
  | ⟨2, _⟩ => show win0_3.index t (2 : Fin 3) * 3072 + 1 * j.val = j.val; omega

theorem iblk0_apply (c : Dev nD) (t : Fin 32) (r : Fin 512) (j : Fin 1024) :
    iblk m c 0 t (ix3 0 r j) = m ((c : Thread nD τ).loc main_arg0) (ix2 (row (bat t) (pos t r)) j) := by
  have e : ((cfg0.win 0).blk t).view.emb (ix3 0 r j) = ix3 (bat t) (pos t r) j := by
    obtain ⟨e0, e1, e2, -⟩ := idx_facts t
    funext a; apply Fin.ext
    match a with
    | ⟨0, _⟩ => show win0_0.index t (0 : Fin 3) * 1 + 1 * 0 = t.val / 16; omega
    | ⟨1, _⟩ => show win0_0.index t (1 : Fin 3) * 512 + 1 * r.val = 512 * (t.val % 16) + r.val; omega
    | ⟨2, _⟩ => show win0_0.index t (2 : Fin 3) * 1024 + 1 * j.val = j.val; omega
  show V m c main_v1 (((cfg0.win 0).blk t).view.emb (ix3 0 r j)) = _
  rw [e, V_main_v1]

theorem iblk1_apply (c : Dev nD) (t : Fin 32) (j : Fin 1024) :
    iblk m c 1 t (ix2 0 j) = m ((c : Thread nD τ).loc main_arg1) (ix1 j) := by
  have e : ((cfg0.win 1).blk t).view.emb (ix2 0 j) = ix2 (0 : Fin 1) j := by
    obtain ⟨-, -, -, e0, e1, -⟩ := idx_facts t
    funext a; apply Fin.ext
    match a with
    | ⟨0, _⟩ => show win0_1.index t (0 : Fin 2) * 1 + 1 * 0 = 0; omega
    | ⟨1, _⟩ => show win0_1.index t (1 : Fin 2) * 1024 + 1 * j.val = j.val; omega
  show V m c main_v2 (((cfg0.win 1).blk t).view.emb (ix2 0 j)) = _
  rw [e, V_main_v2]

theorem iblk2_apply (c : Dev nD) (t : Fin 32) (d : Fin 1024) (j : Fin 3072) :
    iblk m c 2 t (ix2 d j) = m ((c : Thread nD τ).loc main_arg2) (ix2 d j) := by
  have e : ((cfg0.win 2).blk t).view.emb (ix2 d j) = ix2 d j := by
    obtain ⟨-, -, -, -, -, e0, e1, -⟩ := idx_facts t
    funext a; apply Fin.ext
    match a with
    | ⟨0, _⟩ => show win0_2.index t (0 : Fin 2) * 1024 + 1 * d.val = d.val; omega
    | ⟨1, _⟩ => show win0_2.index t (1 : Fin 2) * 3072 + 1 * j.val = j.val; omega
  show V m c main_v0 (((cfg0.win 2).blk t).view.emb (ix2 d j)) = _
  rw [e, V_main_v0]

/-- The result array at a row of point `t`'s tile. -/
theorem final_blk (c : Dev nD) (t : Fin 32) (r : Fin 512) (j : Fin 3072) :
    (dats m 0 c).arrAt 3 cfg0.N (ix3 (bat t) (pos t r) j)
      = qkv (fun k => m ((c : Thread nD τ).loc main_arg0) (ix2 (row (bat t) (pos t r)) k))
          (fun k => m ((c : Thread nD τ).loc main_arg1) (ix1 k))
          (fun d k => m ((c : Thread nD τ).loc main_arg2) (ix2 d k)) j := by
  have b := congrFun ((Cert.QkvIdeal.Value.blocks3 m c t (idx_facts t).2.2.2.2.2.2.2.2.2.2).trans
    (Cert.QkvIdeal.Value.flushed3_A m c t)) (ix3 0 r j)
  have b' : (dats m 0 c).arrAt 3 cfg0.N (((cfg0.win 3).blk t).view.emb (ix3 0 r j))
      = out0_A_3 c (grid0.coords t) (ms0_0 t) (hs0_0 t) (ms0_1 t) (hs0_1 t) (ms0_2 t) (hs0_2 t) (ms0_3 t) (hs0_3 t)
          (iblk m c 0 t) (iblk m c 1 t) (iblk m c 2 t) (ix3 0 r j) := b
  rw [emb3, out_apply] at b'
  rw [b']
  simp only [iblk0_apply, iblk1_apply, iblk2_apply]

/-- The result array at any row. -/
theorem final_apply (c : Dev nD) (b : Fin 2) (r : Fin 8192) (j : Fin 3072) :
    (dats m 0 c).arrAt 3 cfg0.N (ix3 b r j)
      = qkv (fun k => m ((c : Thread nD τ).loc main_arg0) (ix2 (row b r) k))
          (fun k => m ((c : Thread nD τ).loc main_arg1) (ix1 k))
          (fun d k => m ((c : Thread nD τ).loc main_arg2) (ix2 d k)) j := by
  have h := final_blk m c (⟨16 * b.val + r.val / 512, by omega⟩ : Fin 32) (⟨r.val % 512, by omega⟩ : Fin 512) j
  have eb : bat (⟨16 * b.val + r.val / 512, by omega⟩ : Fin 32) = b := Fin.ext (by dsimp only; omega)
  have er : pos (⟨16 * b.val + r.val / 512, by omega⟩ : Fin 32) (⟨r.val % 512, by omega⟩ : Fin 512) = r :=
    Fin.ext (by dsimp only; omega)
  rw [eb, er] at h
  exact h

end Cert.QkvIdeal.Block

end
-- ==== Proof.Qkv.Ref.lean ====
module

public import Idealize.ShloMosaic.Lib.Pointwise
public import proofs.«01_k».proof.Proof.Gen.QkvRefIdeal.Run
public import proofs.«01_k».proof.Proof.Gen.QkvRefIdeal.Read
public import proofs.«01_k».proof.Proof.Qkv.Math

@[expose] public section

set_option maxRecDepth 16384

noncomputable section

/-! The reference's first projection of attention read at an index: the row function of `QkvMath`. -/

namespace Cert.QkvRefIdeal.Block

open Idealize.ShloMosaic Cert.QkvRefIdeal Cert.QkvRefIdeal.Gen Cert.QkvRefIdeal.Read FfnMath QkvMath

theorem hidden_apply (x0 : Vec Ideal S16384x1024 .f32) (b : Fin 2) (r : Fin 8192) (d : Fin 1024) :
    shapeCast S2x8192x1024 x0 shapeCasts_S16384x1024_S2x8192x1024 (ix3 b r d) = x0 (ix2 (row b r) d) := by
  refine shapeCast_apply _ _ _ _ ?_
  rw [Shape.rowMajor_val_two, Shape.rowMajor_val_three]
  show (8192 * b.val + r.val) * 1024 + d.val = (b.val * 8192 + r.val) * 1024 + d.val
  omega

theorem lin_apply (x0 : Vec Ideal S16384x1024 .f32) (x1 : Vec Ideal S1024 .f32) (x2 : Vec Ideal S1024x3072 .f32)
    (b : Fin 2) (r : Fin 8192) (j : Fin 3072) :
    val_main_v14 (F := Ideal) x0 x1 x2 (ix3 b r j) = lin (fun k => x0 (ix2 (row b r) k)) (fun k => x1 (ix1 k))
      (fun d k => x2 (ix2 d k)) j := by
  have h : ∀ d, val_main_v0 (F := Ideal) x0 (ix3 b r d) = x0 (ix2 (row b r) d) := fun d => hidden_apply x0 b r d
  pointwise [val_main_cst, val_main_cst_0, val_main_cst_1, val_main_v1, val_main_v2, val_main_v3, val_main_v4, val_main_v5, val_main_v6, val_main_v7, val_main_v8, val_main_v9, val_main_v10, val_main_v11, val_main_v12, val_main_v13, val_main_v14]
  simp only [h]
  rfl

theorem out_apply (x0 : Vec Ideal S16384x1024 .f32) (x1 : Vec Ideal S1024 .f32) (x2 : Vec Ideal S1024x3072 .f32)
    (b : Fin 2) (r : Fin 8192) (j : Fin 3072) :
    val_main_v21 (F := Ideal) x0 x1 x2 (ix3 b r j) = qkv (fun k => x0 (ix2 (row b r) k)) (fun k => x1 (ix1 k))
      (fun d k => x2 (ix2 d k)) j := by
  unfold val_main_v21 val_main_v20 val_main_v19
  pointwise [val_main_v15, val_main_v16, val_main_v17, val_main_v18, val_main_cst_2]
  simp only [lin_apply]
  unfold qkv
  split_ifs <;> first | rfl | exact congrArg _ (Fin.ext (by dsimp only; omega))

end Cert.QkvRefIdeal.Block

end
-- ==== Proof.Qkv.Algebra.lean ====
module

public import proofs.«01_k».proof.Defs
public import proofs.«01_k».proof.Proof.Qkv.Array
public import proofs.«01_k».proof.Proof.Qkv.Ref

@[expose] public section

set_option maxRecDepth 16384

noncomputable section

/-! The kernel and the reference compute one array: both results, read at an index, are one row function. -/

namespace Cert.QkvIdeal.Block

open Idealize.ShloMosaic Idealize.ShloMosaic.TcCoe Idealize.SL.Sem

theorem algebraic : Cert.algebraic_QkvIdeal_QkvRefIdeal (hQkvIdeal := Cert.QkvIdeal.Gen.facts)
    (hQkvRefIdeal := Cert.QkvRefIdeal.Gen.facts) := by
  intro m g m' g' _ hagree
  refine ⟨fun c => (Cert.QkvIdeal.Gen.dats m 0 c).arrAt 3 Cert.QkvIdeal.cfg0.N, Cert.QkvIdeal.Value.run_blocks m g, ?_⟩
  refine (θ_run _ _ _).mono (fun r h c => ⟨(h c).1.trans ?_, (h c).2⟩) (Cert.QkvRefIdeal.Value.run (F := Ideal) m' g')
  obtain ⟨h0, h1, h2⟩ := hagree c
  rw [Cert.QkvRefIdeal.Read.val_main_v21_eq]
  funext i
  idx_vars i
  refine (Cert.QkvRefIdeal.Block.out_apply _ _ _ _ _ _).trans ?_
  rw [h0, h1, h2]
  exact (final_apply m c _ _ _).symm

end Cert.QkvIdeal.Block

end
-- ==== Proof.Proj.Block.lean ====
module

public import Idealize.ShloMosaic.Lib.Pointwise
public import proofs.«01_k».proof.Proof.Gen.ProjIdeal.Value

@[expose] public section

set_option maxRecDepth 16384

noncomputable section

/-! The last projection of attention on one row, and what the kernel's body leaves in one block of 512 rows. -/

namespace ProjMath

open Idealize.ShloMosaic

/-- Entry `j` of the row `h` plus the product of the row `a` with the weight. -/
def proj (a h : Fin 1024 → EReal) (w : Fin 1024 → Fin 1024 → EReal) (j : Fin 1024) : EReal :=
  h j + ∑ d, a d * w d j

end ProjMath

namespace Cert.ProjIdeal.Block

open Idealize.ShloMosaic Cert.ProjIdeal Cert.ProjIdeal.Gen ProjMath

/-- The block that the body stores. -/
theorem out_apply (x0 : Vec Ideal S512x1024 .bf16) (x1 : Vec Ideal S1024x1024 .bf16) (x2 : Vec Ideal S512x1024 .f32)
    (r : Fin 512) (j : Fin 1024) :
    out0_3 x0 x1 x2 (ix2 r j) = proj (fun k => x0 (ix2 r k)) (fun k => x2 (ix2 r k)) (fun d k => x1 (ix2 d k)) j := by
  unfold out0_3
  rw [View.canon_unit_zero (by decide)]
  have h0 : View.ld x0 r0_0 = x0 := View.ld_unit_zero (by decide) _ _
  pointwise [k0_pay1]
  rfl

end Cert.ProjIdeal.Block

end
-- ==== Proof.Proj.Array.lean ====
module

public import proofs.«01_k».proof.Proof.Proj.Block

@[expose] public section

set_option maxRecDepth 16384

noncomputable section

/-! The kernel's result array read at an index: row `512 t + r` is written by grid point `t`. -/

namespace Cert.ProjIdeal.Block

open Idealize.ShloMosaic Idealize.ShloMosaic.TcCoe Cert.ProjIdeal Cert.ProjIdeal.Gen ProjMath

variable (m : (ℓ : Loc nD τ sig) → Buf (Elt Ideal) ℓ)

theorem V_main_v0 (c : Dev nD) (i : S1024x1024.Idx) : V m c main_v0 i = m ((c : Thread nD τ).loc main_arg1) i := by
  have h : (V m c main_v0 : Vec Ideal S1024x1024 .bf16) = truncf (F := Ideal) .bf16 (m ((c : Thread nD τ).loc main_arg1) : Vec Ideal S1024x1024 .f32) bitsLt_bf16_f32 := by
    simp only [V, hostOps0, List.flatten_cons, List.flatten_nil, List.append_nil, List.cons_append, List.nil_append]
    after_results_simp <;> rfl
  rw [h]; rfl

/-- Where each window's block lies at point `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ (cfg0.win 3).flush t = true :=
  (by decide +kernel : ∀ t : Fin grid0.N, _)

theorem emb3 (t : Fin 32) (r : Fin 512) (j : Fin 1024) :
    ((cfg0.win 3).blk t).view.emb (ix2 r j) = ix2 (⟨512 * t.val + r.val, by omega⟩ : Fin 16384) j := by
  obtain ⟨-, -, -, -, -, -, e0, e1, -⟩ := idx_facts t
  funext a; apply Fin.ext
  match a with
  | ⟨0, _⟩ => show win0_3.index t (0 : Fin 2) * 512 + 1 * r.val = 512 * t.val + r.val; omega
  | ⟨1, _⟩ => show win0_3.index t (1 : Fin 2) * 1024 + 1 * j.val = j.val; omega

theorem iblk0_apply (c : Dev nD) (t : Fin 32) (r : Fin 512) (j : Fin 1024) :
    iblk m c 0 t (ix2 r j) = m ((c : Thread nD τ).loc main_arg0) (ix2 (⟨512 * t.val + r.val, by omega⟩ : Fin 16384) j) := by
  have e : ((cfg0.win 0).blk t).view.emb (ix2 r j) = ix2 (⟨512 * t.val + r.val, by omega⟩ : Fin 16384) j := by
    obtain ⟨e0, e1, -⟩ := idx_facts t
    funext a; apply Fin.ext
    match a with
    | ⟨0, _⟩ => show win0_0.index t (0 : Fin 2) * 512 + 1 * r.val = 512 * t.val + r.val; omega
    | ⟨1, _⟩ => show win0_0.index t (1 : Fin 2) * 1024 + 1 * j.val = j.val; omega
  show V m c main_arg0 (((cfg0.win 0).blk t).view.emb (ix2 r j)) = _
  rw [e, V_main_arg0]

theorem iblk1_apply (c : Dev nD) (t : Fin 32) (d j : Fin 1024) :
    iblk m c 1 t (ix2 d j) = m ((c : Thread nD τ).loc main_arg1) (ix2 d j) := by
  have e : ((cfg0.win 1).blk t).view.emb (ix2 d j) = ix2 d j := by
    obtain ⟨-, -, e0, e1, -⟩ := idx_facts t
    funext a; apply Fin.ext
    match a with
    | ⟨0, _⟩ => show win0_1.index t (0 : Fin 2) * 1024 + 1 * d.val = d.val; omega
    | ⟨1, _⟩ => show win0_1.index t (1 : Fin 2) * 1024 + 1 * j.val = j.val; omega
  show V m c main_v0 (((cfg0.win 1).blk t).view.emb (ix2 d j)) = _
  rw [e, V_main_v0]

theorem iblk2_apply (c : Dev nD) (t : Fin 32) (r : Fin 512) (j : Fin 1024) :
    iblk m c 2 t (ix2 r j) = m ((c : Thread nD τ).loc main_arg2) (ix2 (⟨512 * t.val + r.val, by omega⟩ : Fin 16384) j) := by
  have e : ((cfg0.win 2).blk t).view.emb (ix2 r j) = ix2 (⟨512 * t.val + r.val, by omega⟩ : Fin 16384) j := by
    obtain ⟨-, -, -, -, e0, e1, -⟩ := idx_facts t
    funext a; apply Fin.ext
    match a with
    | ⟨0, _⟩ => show win0_2.index t (0 : Fin 2) * 512 + 1 * r.val = 512 * t.val + r.val; omega
    | ⟨1, _⟩ => show win0_2.index t (1 : Fin 2) * 1024 + 1 * j.val = j.val; omega
  show V m c main_arg2 (((cfg0.win 2).blk t).view.emb (ix2 r j)) = _
  rw [e, V_main_arg2]

/-- The result array at row `512 t + r` and column `j`. -/
theorem final_blk (c : Dev nD) (t : Fin 32) (r : Fin 512) (j : Fin 1024) :
    (dats m 0 c).arrAt 3 cfg0.N (ix2 (⟨512 * t.val + r.val, by omega⟩ : Fin 16384) j)
      = proj (fun k => m ((c : Thread nD τ).loc main_arg0) (ix2 (⟨512 * t.val + r.val, by omega⟩ : Fin 16384) k))
          (fun k => m ((c : Thread nD τ).loc main_arg2) (ix2 (⟨512 * t.val + r.val, by omega⟩ : Fin 16384) k))
          (fun d k => m ((c : Thread nD τ).loc main_arg1) (ix2 d k)) j := by
  have b := congrFun ((Cert.ProjIdeal.Value.blocks3 m c t (idx_facts t).2.2.2.2.2.2.2.2).trans
    (Cert.ProjIdeal.Value.flushed3 m c t)) (ix2 r j)
  have b' : (dats m 0 c).arrAt 3 cfg0.N (((cfg0.win 3).blk t).view.emb (ix2 r j))
      = out0_3 (iblk m c 0 t) (iblk m c 1 t) (iblk m c 2 t) (ix2 r j) := b
  rw [emb3, out_apply] at b'
  rw [b']
  simp only [iblk0_apply, iblk1_apply, iblk2_apply]

/-- The result array at any row. -/
theorem final_apply (c : Dev nD) (r : Fin 16384) (j : Fin 1024) :
    (dats m 0 c).arrAt 3 cfg0.N (ix2 r j)
      = proj (fun k => m ((c : Thread nD τ).loc main_arg0) (ix2 r k))
          (fun k => m ((c : Thread nD τ).loc main_arg2) (ix2 r k))
          (fun d k => m ((c : Thread nD τ).loc main_arg1) (ix2 d k)) j := by
  have e : r = ⟨512 * (⟨r.val / 512, by omega⟩ : Fin 32).val + (⟨r.val % 512, by omega⟩ : Fin 512).val, by
      have := r.isLt; dsimp only; omega⟩ := Fin.ext (by dsimp only; omega)
  rw [e]
  exact final_blk m c _ _ j

end Cert.ProjIdeal.Block

end
-- ==== Proof.Proj.Ref.lean ====
module

public import Idealize.ShloMosaic.Lib.Pointwise
public import proofs.«01_k».proof.Proof.Gen.ProjRefIdeal.Run
public import proofs.«01_k».proof.Proof.Gen.ProjRefIdeal.Read
public import proofs.«01_k».proof.Proof.Proj.Block

@[expose] public section

set_option maxRecDepth 16384

noncomputable section

/-! The reference's last projection read at an index: the row function of `ProjMath`. -/

namespace Cert.ProjRefIdeal.Block

open Idealize.ShloMosaic Cert.ProjRefIdeal Cert.ProjRefIdeal.Read ProjMath

theorem out_apply (x0 : Vec Ideal S16384x1024 .bf16) (x1 : Vec Ideal S1024x1024 .f32)
    (x2 : Vec Ideal S16384x1024 .f32) (r : Fin 16384) (j : Fin 1024) :
    val_main_v2 (F := Ideal) x0 x1 x2 (ix2 r j) = proj (fun k => x0 (ix2 r k)) (fun k => x2 (ix2 r k))
      (fun d k => x1 (ix2 d k)) j := by
  rw [← val_main_v2_eq]
  pointwise []
  rfl

end Cert.ProjRefIdeal.Block

end
-- ==== Proof.Proj.Algebra.lean ====
module

public import proofs.«01_k».proof.Defs
public import proofs.«01_k».proof.Proof.Proj.Array
public import proofs.«01_k».proof.Proof.Proj.Ref

@[expose] public section

set_option maxRecDepth 16384

noncomputable section

/-! The kernel and the reference compute one array: both results, read at an index, are one row function. -/

namespace Cert.ProjIdeal.Block

open Idealize.ShloMosaic Idealize.ShloMosaic.TcCoe Idealize.SL.Sem

theorem algebraic : Cert.algebraic_ProjIdeal_ProjRefIdeal (hProjIdeal := Cert.ProjIdeal.Gen.facts)
    (hProjRefIdeal := Cert.ProjRefIdeal.Gen.facts) := by
  intro m g m' g' _ hagree
  refine ⟨fun c => (Cert.ProjIdeal.Gen.dats m 0 c).arrAt 3 Cert.ProjIdeal.cfg0.N, Cert.ProjIdeal.Value.run_blocks m g, ?_⟩
  refine (θ_run _ _ _).mono (fun r h c => ⟨(h c).1.trans ?_, (h c).2⟩) (Cert.ProjRefIdeal.Value.run (F := Ideal) m' g')
  obtain ⟨h0, h1, h2⟩ := hagree c
  rw [Cert.ProjRefIdeal.Read.val_main_v2_eq]
  funext i
  idx_vars i
  refine (Cert.ProjRefIdeal.Block.out_apply _ _ _ _ _).trans ?_
  rw [h0, h1, h2]
  exact (final_apply m c _ _).symm

end Cert.ProjIdeal.Block

end
-- ==== Proof.Att.Pres.lean ====
module

public import proofs.«01_k».proof.Defs

@[expose] public section

namespace Cert.Att.Own

open Idealize.ShloMosaic

/-- The masked log-weight is the named constant, minus infinity at the extended reals. -/
theorem preserves : Cert.preserves_Att_AttIdeal := IdealRules.named_const.statement _ _ _ _ _ rfl

end Cert.Att.Own
-- ==== Proof.Att.RunIdeal.lean ====
module

public import proofs.«01_k».proof.Proof.Gen.AttIdeal.Frame.Runs
public import Idealize.ShloMosaic.Lib.LoopRemainder

@[expose] public section

-- membership in a rectangle of production extents (`View.cover_of_tiled`): the elaborator's structural look
-- recurses once per coordinate of the long axes
set_option maxRecDepth 16384

noncomputable section

namespace Cert.AttIdeal.Own

open Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Some value of each place: it stands where the loop's region is given a value it does not read. -/
def any {S : Shape} {φ : FTy} : FVec F S φ := constant S φ 0

set_option warn.classDefReducibility false in
/-- The first counted loop by the invariant generated for it, at values the region does not read (the run's own values
    of these do not occur in the region, so that they cannot be found there). -/
@[sl_loop] def attLoop (𝒱 : Variants) (c : Dev nD) (bd : Option 𝒱.V) (E : Set ℕ) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (arg2 : BitVec 32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (init : BitVec 32) :=
  loopInv_k0_t1 (F := F) 𝒱 c bd E i arg3 harg3 arg4 harg4 arg5 harg5 arg6 harg6 arg7 harg7 arg8 harg8 arg9 harg9 arg10 harg10 arg11 harg11 arg12 harg12 arg13 harg13 arg2 0#32 any any any any any X_arg4 X_arg5 X_arg6 X_arg8 G_arg9 G_arg10 G_arg11 G_arg12 G_arg13 init

variable (m : (ℓ : Loc nD τ sig) → Buf (Elt F) ℓ) (ρ : Dev nD → PrngReg)

-- (the run's proof term is large: the definition's epilogue — `abstractNestedProofs` — walks it past the default budget)
set_option maxHeartbeats 1148000 in
/-- The run of the body: on whole staging memrefs, the inputs' at their contents and the others at anything, the body
    runs to a continuation that holds the inputs' as they were, the scratch buffers at some contents and the output's
    buffer with the listed pieces written. The second of the body's two counted loops makes no trip, which the imported
    module on remainder loops lets the run pass; the first is passed by the invariant generated for it. -/
noncomputable def attRun (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole)
    (x0 : Vec F S1x256x512 .bf16) (x1 : Vec F S1x8192x512 .bf16) (x2 : Vec F S1x8192x512 .bf16) (x3 : Vec F S256x256 .bf16) :
    { L4 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_sb_attention i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_sb_attention_eq_skeleton]; unfold cc0_sb_attention_skel
    simp only [k0_part38_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.AttIdeal.Own

end
-- ==== Proof.Att.FrameIdeal.lean ====
module

public import proofs.«01_k».proof.Proof.Att.RunIdeal
public import Idealize.ShloMosaic.Lib.Claim

@[expose] public section

set_option maxRecDepth 16384

noncomputable section

namespace Cert.AttIdeal.Own

open Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 4 tile its block (one store of the whole block), so they cover it. -/
theorem cover0_A_4 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole)
    (x0 : Vec F S1x256x512 .bf16) (x1 : Vec F S1x8192x512 .bf16) (x2 : Vec F S1x8192x512 .bf16) (x3 : Vec F S256x256 .bf16) (y : S1x256x512.Idx) :
    ∃ pc ∈ (attRun c i arg3 harg3 arg4 harg4 arg5 harg5 arg6 harg6 arg7 harg7 arg8 harg8 arg9 harg9 arg10 harg10 arg11 harg11 arg12 harg12 arg13 harg13 x0 x1 x2 x3).1, y ∈ pc.1.set :=
  View.cover_of_tiledL (attRun c i arg3 harg3 arg4 harg4 arg5 harg5 arg6 harg6 arg7 harg7 arg8 harg8 arg9 harg9 arg10 harg10 arg11 harg11 arg12 harg12 arg13 harg13 x0 x1 x2 x3).1 S1x256x512.size (by sl_kernel_rfl) y

/-- What the run leaves in output 4's staging buffer: its pieces read back over junk. -/
def out0_A_4 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole)
    (x0 : Vec F S1x256x512 .bf16) (x1 : Vec F S1x8192x512 .bf16) (x2 : Vec F S1x8192x512 .bf16) (x3 : Vec F S256x256 .bf16) : Vec F S1x256x512 .bf16 :=
  VO0_4.read (Elt F) (VO0_4.writes (Elt F) VO0_4.junk (attRun c i arg3 harg3 arg4 harg4 arg5 harg5 arg6 harg6 arg7 harg7 arg8 harg8 arg9 harg9 arg10 harg10 arg11 harg11 arg12 harg12 arg13 harg13 x0 x1 x2 x3).1)

/-! ## What the outputs hold after each point -/

/-- What the outputs' staging buffers hold after the body at point `t`: the run's contents at
    the point's memrefs and input blocks. -/
def outsAt0 (c : Dev nD) (t : Fin cfg0.N) : Vec F S1x256x512 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((attRun c (grid0.coords t) _ _ _ _ _ _ _ _ _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: every weakly fair execution ends, with the argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.AttIdeal.Own

end
-- ==== Proof.Att.Vec.lean ====
module

public import Idealize.ShloMosaic.Lib.Pointwise
public import proofs.«01_k».proof.Proof.Gen.AttIdeal.Skeleton

@[expose] public section

set_option maxRecDepth 16384

noncomputable section

/-! The vectors that one head's share of a block of keys is computed by, and what they are at an index. -/

namespace Cert.AttIdeal.Block

open Idealize.ShloMosaic Cert.AttIdeal Cert.AttIdeal.Gen

section
variable {F : FTy → Type} [FloatOps F] [Named F]

/-- Zero and one in every place. -/
def zeroV : FVec F S256x256 .f32 := broadcast S256x256 (FloatOps.ofBits FTy.f32 0#32)
def oneV : FVec F S256x256 .f32 := broadcast S256x256 (FloatOps.ofBits FTy.f32 1065353216#32)

/-- The scores of 256 queries at 256 keys. -/
def scoreV (q k : Vec F S1x256x128 .bf16) : FVec F S256x256 .f32 :=
  matmul dot_S256x128_S256x128_S256x256_1_1_0_0_n_n none (shapeCast S256x128 q shapeCasts_S1x256x128_S256x128)
    (shapeCast S256x128 k shapeCasts_S1x256x128_S256x128) (constant S256x256 FTy.f32 0#32)

/-- The softplus of the scores. -/
def spV (z : FVec F S256x256 .f32) : FVec F S256x256 .f32 :=
  addf (maximumf z zeroV) (log (addf oneV (exp (subf zeroV (absf z)))))

/-- For every key the sum over the later keys of the block. -/
def rightV (sp : FVec F S256x256 .bf16) (tri : Vec F S256x256 .bf16) : FVec F S256x256 .f32 :=
  matmul dot_S256x256_S256x256_S256x256_1_0_0_1_n_n none sp (shapeCast S256x256 tri shapeCasts_S256x256_S256x256)
    (constant S256x256 FTy.f32 0#32)

/-- A head's running sum, after a block. -/
def carV (first : FVec F S256x128 .bf16) (right : FVec F S256x256 .f32) (car : Vec F S1x256x128 .f32) : Vec F S1x256x128 .f32 :=
  shapeCast S1x256x128 (addf (shapeCast S256x128 car shapeCasts_S1x256x128_S256x128)
    (broadcastTo S256x128 (shapeCast S256x1 (addf (extractStridedSlice S256x1 ![0, 0] right slices_S256x256_o0_0_S256x1)
      (extf FTy.f32 (extractStridedSlice S256x1 ![0, 0] first slices_S256x128_o0_0_S256x1) bitsLt_bf16_f32)) shapeCasts_S256x1_S256x1)
      broadcasts_S256x1_S256x128)) shapeCasts_S256x128_S1x256x128

/-- A head's weighted values, after a block. -/
def accV (ls right : FVec F S256x256 .f32) (car acc : Vec F S1x256x128 .f32) (v : Vec F S1x256x128 .bf16) : Vec F S1x256x128 .f32 :=
  shapeCast S1x256x128 (addf (shapeCast S256x128 acc shapeCasts_S1x256x128_S256x128)
    (matmul dot_S256x256_S256x128_S256x128_1_0_0_1_n_n none
      (exp (truncf FTy.bf16 (subf (subf ls (concatenate S256x256 1
        [⟨S256x128, shapeCast S256x128 car shapeCasts_S1x256x128_S256x128⟩, ⟨S256x128, shapeCast S256x128 car shapeCasts_S1x256x128_S256x128⟩]
        concatenates_S256x128_S256x128_S256x256_d1)) right) bitsLt_bf16_f32))
      (shapeCast S256x128 v shapeCasts_S1x256x128_S256x128) (constant S256x128 FTy.f32 0#32))) shapeCasts_S256x128_S1x256x128

/-- The first lanes of the softplus, from the whole. -/
def firstV (sp : FVec F S256x256 .bf16) : FVec F S256x128 .bf16 := extractStridedSlice S256x128 ![0, 0] sp slices_S256x256_o0_0_S256x128

end

/-- Softplus as the kernel computes it. -/
def spK (z : EReal) : EReal := max z 0 + Ideal.log (1 + Ideal.exp (0 - FloatOps.absf (F := Ideal) (φ := .f32) z))

theorem scoreV_apply (q k : Vec Ideal S1x256x128 .bf16) (r s : Fin 256) :
    scoreV q k (ix2 r s) = ∑ l : Fin 128, q (ix3 0 r l) * k (ix3 0 s l) := by
  pointwise [scoreV]

theorem spV_apply (z : FVec Ideal S256x256 .f32) (r s : Fin 256) : spV z (ix2 r s) = spK (z (ix2 r s)) := by
  pointwise [spV, zeroV, oneV]
  rfl

theorem rightV_apply (sp : FVec Ideal S256x256 .bf16) (tri : Vec Ideal S256x256 .bf16) (r s : Fin 256) :
    rightV sp tri (ix2 r s) = ∑ u : Fin 256, sp (ix2 r u) * tri (ix2 u s) := by
  pointwise [rightV]

theorem carV_apply (first : FVec Ideal S256x128 .bf16) (right : FVec Ideal S256x256 .f32) (car : Vec Ideal S1x256x128 .f32) (r : Fin 256)
    (l : Fin 128) : carV first right car (ix3 0 r l) = car (ix3 0 r l) + (right (ix2 r 0) + first (ix2 r 0)) := by
  pointwise [carV]

theorem firstV_apply (sp : FVec Ideal S256x256 .bf16) (r : Fin 256) : firstV sp (ix2 r 0) = sp (ix2 r 0) := by
  pointwise [firstV]

/-- When the running sum is the same in all lanes. -/
theorem accV_apply (ls right : FVec Ideal S256x256 .f32) (car acc : Vec Ideal S1x256x128 .f32) (v : Vec Ideal S1x256x128 .bf16)
    (C : Fin 256 → EReal) (hC : ∀ r l, car (ix3 0 r l) = C r) (r : Fin 256) (l : Fin 128) :
    accV ls right car acc v (ix3 0 r l)
      = acc (ix3 0 r l) + ∑ s : Fin 256, Ideal.exp (ls (ix2 r s) - C r - right (ix2 r s)) * v (ix3 0 s l) := by
  pointwise [accV]
  simp only [hC, dite_eq_ite, ite_self]
  exact congrArg (acc (ix3 0 r l) + ·) (Fin.sum_univ_add (a := 128) (b := 128)
    (fun s : Fin 256 => Ideal.exp (ls (ix2 r s) - C r - right (ix2 r s)) * v (ix3 0 s l))).symm

end Cert.AttIdeal.Block

end
-- ==== Proof.Att.Trip.lean ====
module

public import proofs.«01_k».proof.Proof.Att.RunIdeal
public import proofs.«01_k».proof.Proof.Att.Vec

@[expose] public section

set_option maxRecDepth 16384

noncomputable section

/-! What one trip of the loop over the blocks of keys stores, by heads. -/

namespace Cert.AttIdeal.Block

open Idealize.ShloMosaic Idealize.ShloMosaic.TcCoe Cert.AttIdeal Cert.AttIdeal.Gen

section
variable {F : FTy → Type} [FloatOps F] [Named F] {κ : Kind} {sp : Space} {e : EltTy}

theorem inb8 : ∀ c : Fin 8, ∀ a, (![c.1, 0, 0] : Fin 3 → Nat) a + S1x256x128.size a ≤ S8x256x128.size a := by decide
theorem inb2 : ∀ c : Fin 2, ∀ a, (![c.1, 0, 0] : Fin 3 → Nat) a + S1x256x256.size a ≤ S2x256x256.size a := by decide

/-- One head's place in the arrays of eight, and in the array of two. -/
abbrev rect8 (c : Fin 8) : Rect S8x256x128 := Rect.unit (s := S8x256x128) ![c.1, 0, 0] S1x256x128.size (inb8 c)
abbrev rect2 (c : Fin 2) : Rect S2x256x256 := Rect.unit (s := S2x256x256) ![c.1, 0, 0] S1x256x256.size (inb2 c)

def ld8 (v : View sig κ sp S8x256x128 e) (f : v.ty.Contents (Elt F)) (c : Fin 8) : Vec F S1x256x128 e :=
  v.readAt (Elt F) (rect8 c).toLoadRect f
def ld2 (v : View sig κ sp S2x256x256 e) (f : v.ty.Contents (Elt F)) (c : Fin 2) : Vec F S1x256x256 e :=
  v.readAt (Elt F) (rect2 c).toLoadRect f
def ld (v : View sig κ sp S256x256 e) (f : v.ty.Contents (Elt F)) : Vec F S256x256 e :=
  v.readAt (Elt F) (Rect.unit (s := S256x256) ![0, 0] S256x256.size inb_S256x256_S256x256_0_0).toLoadRect f
def ldFirst (v : View sig κ sp S256x256 e) (f : v.ty.Contents (Elt F)) : Vec F S256x128 e :=
  v.readAt (Elt F) (Rect.unit (s := S256x256) ![0, 0] S256x128.size inb_S256x256_S256x128_0_0).toLoadRect f
def ldKV (v : View sig κ sp S1x8192x512 e) (f : v.ty.Contents (Elt F)) (o : Fin 3 → Nat)
    (h : ∀ a, o a + S1x256x128.size a ≤ S1x8192x512.size a) : Vec F S1x256x128 e :=
  v.readAt (Elt F) (Rect.unit (s := S1x8192x512) o S1x256x128.size h).toLoadRect f

/-- A head's weighted values and running sum after a block whose scores are `z`. -/
def newA (z : FVec F S256x256 .f32) (tri : Vec F S256x256 .bf16) (car acc : Vec F S1x256x128 .f32) (v : Vec F S1x256x128 .bf16) :
    Vec F S1x256x128 .f32 :=
  accV (subf z (spV z)) (rightV (truncf .bf16 (spV z) bitsLt_bf16_f32) tri) car acc v
def newC (z : FVec F S256x256 .f32) (tri : Vec F S256x256 .bf16) (car : Vec F S1x256x128 .f32) : Vec F S1x256x128 .f32 :=
  carV (firstV (truncf .bf16 (spV z) bitsLt_bf16_f32)) (rightV (truncf .bf16 (spV z) bitsLt_bf16_f32) tri) car

end

/-- What one trip stores: the weighted values, the running sums, the next scores of the first two heads, the last head's softplus
    and its logarithms. -/
theorem trip_stores (𝒱 : Variants) (c : Dev nD) (bd : Option 𝒱.V) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (arg2 v59 : BitVec 32) (v381 v434 : FVec Ideal S256x256 .f32) (v458 : FVec Ideal S256x128 .f32) (v463 : FVec Ideal S256x256 .bf16) (v468 : FVec Ideal S256x1 .f32) (X4 : BufTy.Contents (Elt Ideal) arg4.view.ty) (X5 : BufTy.Contents (Elt Ideal) arg5.view.ty) (X6 : BufTy.Contents (Elt Ideal) arg6.view.ty) (X8 : BufTy.Contents (Elt Ideal) arg8.view.ty) (k : Fin (k0_t1_loop i).trips) (acc : BitVec 32) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    tripL_k0_t1 (F := Ideal) 𝒱 c bd i arg3 harg3 arg4 harg4 arg5 harg5 arg6 harg6 arg7 harg7 arg8 harg8 arg9 harg9 arg10 harg10 arg11 harg11 arg12 harg12 arg13 harg13 arg2 v59 v381 v434 v458 v463 v468 X4 X5 X6 X8 k acc f9 f10 f11 f12 f13
      = ([⟨rect8 6, newA (scoreV (ld8 arg8.view X8 6) (ldKV arg4.view X4 (k0_off10 i k) (k0_off10_inb i k))) (ld arg6.view X6) (ld8 arg10.view f10 6) (ld8 arg9.view f9 6) (ldKV arg5.view X5 (k0_off10 i k) (k0_off10_inb i k))⟩,
        ⟨rect8 5, newA (scoreV (ld8 arg8.view X8 5) (ldKV arg4.view X4 (k0_off9 i k) (k0_off9_inb i k))) (ld arg6.view X6) (ld8 arg10.view f10 5) (ld8 arg9.view f9 5) (ldKV arg5.view X5 (k0_off9 i k) (k0_off9_inb i k))⟩,
        ⟨rect8 4, newA (scoreV (ld8 arg8.view X8 4) (ldKV arg4.view X4 (k0_off9 i k) (k0_off9_inb i k))) (ld arg6.view X6) (ld8 arg10.view f10 4) (ld8 arg9.view f9 4) (ldKV arg5.view X5 (k0_off9 i k) (k0_off9_inb i k))⟩,
        ⟨rect8 3, newA (scoreV (ld8 arg8.view X8 3) (ldKV arg4.view X4 (k0_off6 i k) (k0_off6_inb i k))) (ld arg6.view X6) (ld8 arg10.view f10 3) (ld8 arg9.view f9 3) (ldKV arg5.view X5 (k0_off6 i k) (k0_off6_inb i k))⟩,
        ⟨rect8 2, newA (scoreV (ld8 arg8.view X8 2) (ldKV arg4.view X4 (k0_off6 i k) (k0_off6_inb i k))) (ld arg6.view X6) (ld8 arg10.view f10 2) (ld8 arg9.view f9 2) (ldKV arg5.view X5 (k0_off6 i k) (k0_off6_inb i k))⟩,
        ⟨rect8 1, newA (shapeCast S256x256 (ld2 arg11.view f11 1) shapeCasts_S1x256x256_S256x256) (ld arg6.view X6) (ld8 arg10.view f10 1) (ld8 arg9.view f9 1) (ldKV arg5.view X5 (k0_off8 i k) (k0_off8_inb i k))⟩,
        ⟨rect8 0, newA (shapeCast S256x256 (ld2 arg11.view f11 0) shapeCasts_S1x256x256_S256x256) (ld arg6.view X6) (ld8 arg10.view f10 0) (ld8 arg9.view f9 0) (ldKV arg5.view X5 (k0_off8 i k) (k0_off8_inb i k))⟩,
        ⟨rect8 7, accV (ld arg13.view f13) (rightV (ld arg12.view f12) (ld arg6.view X6)) (ld8 arg10.view f10 7) (ld8 arg9.view f9 7) (ldKV arg5.view X5 (k0_off7 i k) (k0_off7_inb i k))⟩],
        [⟨rect8 6, newC (scoreV (ld8 arg8.view X8 6) (ldKV arg4.view X4 (k0_off10 i k) (k0_off10_inb i k))) (ld arg6.view X6) (ld8 arg10.view f10 6)⟩,
        ⟨rect8 5, newC (scoreV (ld8 arg8.view X8 5) (ldKV arg4.view X4 (k0_off9 i k) (k0_off9_inb i k))) (ld arg6.view X6) (ld8 arg10.view f10 5)⟩,
        ⟨rect8 4, newC (scoreV (ld8 arg8.view X8 4) (ldKV arg4.view X4 (k0_off9 i k) (k0_off9_inb i k))) (ld arg6.view X6) (ld8 arg10.view f10 4)⟩,
        ⟨rect8 3, newC (scoreV (ld8 arg8.view X8 3) (ldKV arg4.view X4 (k0_off6 i k) (k0_off6_inb i k))) (ld arg6.view X6) (ld8 arg10.view f10 3)⟩,
        ⟨rect8 2, newC (scoreV (ld8 arg8.view X8 2) (ldKV arg4.view X4 (k0_off6 i k) (k0_off6_inb i k))) (ld arg6.view X6) (ld8 arg10.view f10 2)⟩,
        ⟨rect8 1, newC (shapeCast S256x256 (ld2 arg11.view f11 1) shapeCasts_S1x256x256_S256x256) (ld arg6.view X6) (ld8 arg10.view f10 1)⟩,
        ⟨rect8 0, newC (shapeCast S256x256 (ld2 arg11.view f11 0) shapeCasts_S1x256x256_S256x256) (ld arg6.view X6) (ld8 arg10.view f10 0)⟩,
        ⟨rect8 7, carV (ldFirst arg12.view f12) (rightV (ld arg12.view f12) (ld arg6.view X6)) (ld8 arg10.view f10 7)⟩],
        [⟨rect2 1, shapeCast S1x256x256 (scoreV (ld8 arg8.view X8 1) (ldKV arg4.view X4 (k0_off11 i k) (k0_off11_inb i k))) shapeCasts_S256x256_S1x256x256⟩,
        ⟨rect2 0, shapeCast S1x256x256 (scoreV (ld8 arg8.view X8 0) (ldKV arg4.view X4 (k0_off11 i k) (k0_off11_inb i k))) shapeCasts_S256x256_S1x256x256⟩],
        [⟨Rect.unit (s := S256x256) ![0, 0] S256x256.size inb_S256x256_S256x256_0_0,
          shapeCast S256x256 (truncf .bf16 (spV (scoreV (ld8 arg8.view X8 7) (ldKV arg4.view X4 (k0_off10 i k) (k0_off10_inb i k)))) bitsLt_bf16_f32) shapeCasts_S256x256_S256x256⟩],
        [⟨Rect.unit (s := S256x256) ![0, 0] S256x256.size inb_S256x256_S256x256_0_0,
          shapeCast S256x256 (subf (scoreV (ld8 arg8.view X8 7) (ldKV arg4.view X4 (k0_off10 i k) (k0_off10_inb i k))) (spV (scoreV (ld8 arg8.view X8 7) (ldKV arg4.view X4 (k0_off10 i k) (k0_off10_inb i k))))) shapeCasts_S256x256_S256x256⟩]) := by
  unfold tripL_k0_t1 trip_k0_t1
  rfl

end Cert.AttIdeal.Block

end
-- ==== Proof.Att.Diag.lean ====
module

public import proofs.«01_k».proof.Proof.Att.Trip

@[expose] public section

set_option maxRecDepth 16384

noncomputable section

/-! What the body stores: before the loop, the diagonal block; after it, the last head's last block and the output. -/

namespace Cert.AttIdeal.Block

open Idealize.ShloMosaic Idealize.ShloMosaic.TcCoe Cert.AttIdeal Cert.AttIdeal.Gen

section
variable {F : FTy → Type} [FloatOps F] [Named F]

/-- Which keys of the diagonal block come before the query; and which lanes are of the first of a pair of heads. -/
def causalV : IVec S256x256 1 := cmpi .slt (iota .tc S256x256 32 [1] iota_S256x256_d1_w32) (iota .tc S256x256 32 [0] iota_S256x256_d0_w32)
def lowV : IVec S256x128 1 := cmpi .slt (iota .tc S256x128 32 [1] iota_S256x128_d1_w32) (broadcast S256x128 64#32)

/-- The softplus and its logarithms in the diagonal block. -/
def spM (z : FVec F S256x256 .f32) : FVec F S256x256 .f32 := select causalV (spV z) (broadcast S256x256 (FloatOps.ofBits FTy.f32 0#32))
def lsM (z : FVec F S256x256 .f32) : FVec F S256x256 .f32 :=
  select causalV (subf z (spV z)) (broadcast S256x256 (Named.named κ "mask" 0xF149F2CA#32))

def newAM (z : FVec F S256x256 .f32) (tri : Vec F S256x256 .bf16) (car acc : Vec F S1x256x128 .f32) (v : Vec F S1x256x128 .bf16) :
    Vec F S1x256x128 .f32 :=
  accV (lsM z) (rightV (truncf .bf16 (spM z) bitsLt_bf16_f32) tri) car acc v
def newCM (z : FVec F S256x256 .f32) (tri : Vec F S256x256 .bf16) (car : Vec F S1x256x128 .f32) : Vec F S1x256x128 .f32 :=
  carV (firstV (truncf .bf16 (spM z) bitsLt_bf16_f32)) (rightV (truncf .bf16 (spM z) bitsLt_bf16_f32) tri) car

/-- A pair's queries with the other head's lanes zero. -/
def padLow (q : Vec F S1x256x128 .bf16) : Vec F S1x256x128 .bf16 :=
  shapeCast S1x256x128 (select lowV (shapeCast S256x128 q shapeCasts_S1x256x128_S256x128) (broadcast S256x128 (FloatOps.ofBits FTy.bf16 0#16)))
    shapeCasts_S256x128_S1x256x128
def padHigh (q : Vec F S1x256x128 .bf16) : Vec F S1x256x128 .bf16 :=
  shapeCast S1x256x128 (select lowV (broadcast S256x128 (FloatOps.ofBits FTy.bf16 0#16)) (shapeCast S256x128 q shapeCasts_S1x256x128_S256x128))
    shapeCasts_S256x128_S1x256x128

end

theorem inbQ : ∀ p : Fin 4, ∀ a, (![0, 0, 128 * p.1] : Fin 3 → Nat) a + S1x256x128.size a ≤ S1x256x512.size a := by decide
theorem inb0 : ∀ a, (![0, 0, 384] : Fin 3 → Nat) a + S1x256x128.size a ≤ S1x8192x512.size a := by decide

section

/-- A pair's queries as they are loaded. -/
def ldQ (arg3 : Memref sig .tc .vmem S1x256x512 .bf16) (harg3 : arg3.IsWhole) (x0 : Vec Ideal S1x256x512 .bf16) (p : Fin 4) :
    Vec Ideal S1x256x128 .bf16 :=
  arg3.view.readAt (Elt Ideal) (Rect.unit (s := S1x256x512) ![0, 0, 128 * p.1] S1x256x128.size (inbQ p)).toLoadRect (harg3.unread x0)

/-- The padded queries. -/
def P8 (arg3 : Memref sig .tc .vmem S1x256x512 .bf16) (harg3 : arg3.IsWhole) (x0 : Vec Ideal S1x256x512 .bf16) : List (View.Piece (Elt Ideal) S8x256x128 .bf16) :=
  [⟨rect8 7, padHigh (ldQ arg3 harg3 x0 3)⟩, ⟨rect8 6, padLow (ldQ arg3 harg3 x0 3)⟩, ⟨rect8 5, padHigh (ldQ arg3 harg3 x0 2)⟩, ⟨rect8 4, padLow (ldQ arg3 harg3 x0 2)⟩, ⟨rect8 3, padHigh (ldQ arg3 harg3 x0 1)⟩, ⟨rect8 2, padLow (ldQ arg3 harg3 x0 1)⟩, ⟨rect8 1, padHigh (ldQ arg3 harg3 x0 0)⟩, ⟨rect8 0, padLow (ldQ arg3 harg3 x0 0)⟩]

def F8 (arg3 : Memref sig .tc .vmem S1x256x512 .bf16) (harg3 : arg3.IsWhole) (arg8 : Memref sig .tc .vmem S8x256x128 .bf16)
    (x0 : Vec Ideal S1x256x512 .bf16) : arg8.view.ty.Contents (Elt Ideal) := arg8.view.writes (Elt Ideal) arg8.view.junk (P8 arg3 harg3 x0)

/-- A pair's keys or values of the diagonal block. -/
def ldD (i : grid0.Coords) (arg4 : Memref sig .tc .vmem S1x8192x512 .bf16) (harg4 : arg4.IsWhole) (x1 : Vec Ideal S1x8192x512 .bf16) (p : Fin 4) :
    Vec Ideal S1x256x128 .bf16 :=
  match p with
  | ⟨0, _⟩ => ldKV arg4.view (harg4.unread x1) (k0_off1 i) (k0_off1_inb i)
  | ⟨1, _⟩ => ldKV arg4.view (harg4.unread x1) (k0_off2 i) (k0_off2_inb i)
  | ⟨2, _⟩ => ldKV arg4.view (harg4.unread x1) (k0_off3 i) (k0_off3_inb i)
  | ⟨3, _⟩ => ldKV arg4.view (harg4.unread x1) (k0_off4 i) (k0_off4_inb i)

/-- The first two heads' scores in the diagonal block, and those of all heads. -/
def P11 (i : grid0.Coords) (arg3 : Memref sig .tc .vmem S1x256x512 .bf16) (harg3 : arg3.IsWhole) (arg4 : Memref sig .tc .vmem S1x8192x512 .bf16)
    (harg4 : arg4.IsWhole) (arg8 : Memref sig .tc .vmem S8x256x128 .bf16) (x0 : Vec Ideal S1x256x512 .bf16) (x1 : Vec Ideal S1x8192x512 .bf16) :
    List (View.Piece (Elt Ideal) S2x256x256 .f32) :=
  [⟨rect2 1, shapeCast S1x256x256 (scoreV (ld8 arg8.view (F8 arg3 harg3 arg8 x0) 1) (ldD i arg4 harg4 x1 0)) shapeCasts_S256x256_S1x256x256⟩,
    ⟨rect2 0, shapeCast S1x256x256 (scoreV (ld8 arg8.view (F8 arg3 harg3 arg8 x0) 0) (ldD i arg4 harg4 x1 0)) shapeCasts_S256x256_S1x256x256⟩]

def zD (i : grid0.Coords) (arg3 : Memref sig .tc .vmem S1x256x512 .bf16) (harg3 : arg3.IsWhole) (arg4 : Memref sig .tc .vmem S1x8192x512 .bf16)
    (harg4 : arg4.IsWhole) (arg8 : Memref sig .tc .vmem S8x256x128 .bf16) (arg11 : Memref sig .tc .vmem S2x256x256 .f32)
    (x0 : Vec Ideal S1x256x512 .bf16) (x1 : Vec Ideal S1x8192x512 .bf16) (h : Fin 8) : FVec Ideal S256x256 .f32 :=
  match h with
  | ⟨0, _⟩ => shapeCast S256x256 (ld2 arg11.view (arg11.view.writes (Elt Ideal) arg11.view.junk (P11 i arg3 harg3 arg4 harg4 arg8 x0 x1)) 0) shapeCasts_S1x256x256_S256x256
  | ⟨1, _⟩ => shapeCast S256x256 (ld2 arg11.view (arg11.view.writes (Elt Ideal) arg11.view.junk (P11 i arg3 harg3 arg4 harg4 arg8 x0 x1)) 1) shapeCasts_S1x256x256_S256x256
  | ⟨2, _⟩ => scoreV (ld8 arg8.view (F8 arg3 harg3 arg8 x0) 2) (ldD i arg4 harg4 x1 1)
  | ⟨3, _⟩ => scoreV (ld8 arg8.view (F8 arg3 harg3 arg8 x0) 3) (ldD i arg4 harg4 x1 1)
  | ⟨4, _⟩ => scoreV (ld8 arg8.view (F8 arg3 harg3 arg8 x0) 4) (ldD i arg4 harg4 x1 2)
  | ⟨5, _⟩ => scoreV (ld8 arg8.view (F8 arg3 harg3 arg8 x0) 5) (ldD i arg4 harg4 x1 2)
  | ⟨6, _⟩ => scoreV (ld8 arg8.view (F8 arg3 harg3 arg8 x0) 6) (ldD i arg4 harg4 x1 3)
  | ⟨7, _⟩ => scoreV (ld8 arg8.view (F8 arg3 harg3 arg8 x0) 7) (ldD i arg4 harg4 x1 3)

/-- Zero in every place. -/
def zero8 : List (View.Piece (Elt Ideal) S8x256x128 .f32) :=
  [⟨Rect.unit (s := S8x256x128) ![0, 0, 0] S8x256x128.size inb_S8x256x128_S8x256x128_0_0_0,
    shapeCast S8x256x128 (broadcast S8x256x128 (FloatOps.ofBits (F := Ideal) FTy.f32 0#32)) shapeCasts_S8x256x128_S8x256x128⟩]

/-- The running sums, and the weighted values, after the first `n` heads' diagonal block, from the scores `z` and the values `v`. -/
def P10 (arg10 : Memref sig .tc .vmem S8x256x128 .f32) (tri : Vec Ideal S256x256 .bf16) (z : Fin 8 → FVec Ideal S256x256 .f32) :
    ℕ → List (View.Piece (Elt Ideal) S8x256x128 .f32)
  | 0 => zero8
  | n + 1 => ⟨rect8 (Fin.ofNat 8 n), newCM (z (Fin.ofNat 8 n)) tri
      (ld8 arg10.view (arg10.view.writes (Elt Ideal) arg10.view.junk (P10 arg10 tri z n)) (Fin.ofNat 8 n))⟩ :: P10 arg10 tri z n

def P9 (arg9 arg10 : Memref sig .tc .vmem S8x256x128 .f32) (tri : Vec Ideal S256x256 .bf16) (z : Fin 8 → FVec Ideal S256x256 .f32)
    (v : Fin 4 → Vec Ideal S1x256x128 .bf16) : ℕ → List (View.Piece (Elt Ideal) S8x256x128 .f32)
  | 0 => zero8
  | n + 1 => ⟨rect8 (Fin.ofNat 8 n), newAM (z (Fin.ofNat 8 n)) tri
      (ld8 arg10.view (arg10.view.writes (Elt Ideal) arg10.view.junk (P10 arg10 tri z n)) (Fin.ofNat 8 n))
      (ld8 arg9.view (arg9.view.writes (Elt Ideal) arg9.view.junk (P9 arg9 arg10 tri z v n)) (Fin.ofNat 8 n)) (v (Fin.ofNat 4 (n / 2)))⟩
      :: P9 arg9 arg10 tri z v n

/-- What buffer 9 holds when the loop begins: the pieces stored. -/
def D9 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : List (View.Piece (Elt Ideal) S8x256x128 .f32) :=
  P9 arg9 arg10 (ld arg6.view (harg6.unread x3)) (zD i arg3 harg3 arg4 harg4 arg8 arg11 x0 x1) (ldD i arg5 harg5 x2) 7

/-- What buffer 10 holds when the loop begins: the pieces stored. -/
def D10 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : List (View.Piece (Elt Ideal) S8x256x128 .f32) :=
  P10 arg10 (ld arg6.view (harg6.unread x3)) (zD i arg3 harg3 arg4 harg4 arg8 arg11 x0 x1) 7

/-- What buffer 11 holds when the loop begins: the pieces stored. -/
def D11 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : List (View.Piece (Elt Ideal) S2x256x256 .f32) :=
  ⟨rect2 1, shapeCast S1x256x256 (scoreV (ld8 arg8.view (F8 arg3 harg3 arg8 x0) 1) (ldKV arg4.view (harg4.unread x1) (k0_off5 i) (k0_off5_inb i))) shapeCasts_S256x256_S1x256x256⟩ :: ⟨rect2 0, shapeCast S1x256x256 (scoreV (ld8 arg8.view (F8 arg3 harg3 arg8 x0) 0) (ldKV arg4.view (harg4.unread x1) (k0_off5 i) (k0_off5_inb i))) shapeCasts_S256x256_S1x256x256⟩ :: P11 i arg3 harg3 arg4 harg4 arg8 x0 x1

/-- What buffer 12 holds when the loop begins: the pieces stored. -/
def D12 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : List (View.Piece (Elt Ideal) S256x256 .bf16) :=
  [⟨Rect.unit (s := S256x256) ![0, 0] S256x256.size inb_S256x256_S256x256_0_0, shapeCast S256x256 (truncf .bf16 (spM ((zD i arg3 harg3 arg4 harg4 arg8 arg11 x0 x1) 7)) bitsLt_bf16_f32) shapeCasts_S256x256_S256x256⟩]

/-- What buffer 13 holds when the loop begins: the pieces stored. -/
def D13 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : List (View.Piece (Elt Ideal) S256x256 .f32) :=
  [⟨Rect.unit (s := S256x256) ![0, 0] S256x256.size inb_S256x256_S256x256_0_0, shapeCast S256x256 (lsM ((zD i arg3 harg3 arg4 harg4 arg8 arg11 x0 x1) 7)) shapeCasts_S256x256_S256x256⟩]

/-- The loop's recursion from there. -/
def stD (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) := st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 Own.any Own.any Own.any Own.any Own.any (harg4.unread x1) (harg5.unread x2) (harg6.unread x3) (F8 arg3 harg3 arg8 x0) (arg9.view.writes (Elt Ideal) arg9.view.junk (D9 c i arg3 harg3 arg4 harg4 arg5 harg5 arg6 harg6 arg7 harg7 arg8 harg8 arg9 harg9 arg10 harg10 arg11 harg11 arg12 harg12 arg13 harg13 x0 x1 x2 x3)) (arg10.view.writes (Elt Ideal) arg10.view.junk (D10 c i arg3 harg3 arg4 harg4 arg5 harg5 arg6 harg6 arg7 harg7 arg8 harg8 arg9 harg9 arg10 harg10 arg11 harg11 arg12 harg12 arg13 harg13 x0 x1 x2 x3)) (arg11.view.writes (Elt Ideal) arg11.view.junk (D11 c i arg3 harg3 arg4 harg4 arg5 harg5 arg6 harg6 arg7 harg7 arg8 harg8 arg9 harg9 arg10 harg10 arg11 harg11 arg12 harg12 arg13 harg13 x0 x1 x2 x3)) (arg12.view.writes (Elt Ideal) arg12.view.junk (D12 c i arg3 harg3 arg4 harg4 arg5 harg5 arg6 harg6 arg7 harg7 arg8 harg8 arg9 harg9 arg10 harg10 arg11 harg11 arg12 harg12 arg13 harg13 x0 x1 x2 x3)) (arg13.view.writes (Elt Ideal) arg13.view.junk (D13 c i arg3 harg3 arg4 harg4 arg5 harg5 arg6 harg6 arg7 harg7 arg8 harg8 arg9 harg9 arg10 harg10 arg11 harg11 arg12 harg12 arg13 harg13 x0 x1 x2 x3)) 0#32

/-- What buffer 9 holds after `k` trips. -/
def E9 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : arg9.view.ty.Contents (Elt Ideal) :=
  arg9.view.writes (Elt Ideal) arg9.view.junk ((stD c i arg3 harg3 arg4 harg4 arg5 harg5 arg6 harg6 arg7 harg7 arg8 harg8 arg9 harg9 arg10 harg10 arg11 harg11 arg12 harg12 arg13 harg13 x0 x1 x2 x3 k).2.1 ++ D9 c i arg3 harg3 arg4 harg4 arg5 harg5 arg6 harg6 arg7 harg7 arg8 harg8 arg9 harg9 arg10 harg10 arg11 harg11 arg12 harg12 arg13 harg13 x0 x1 x2 x3)

/-- What buffer 10 holds after `k` trips. -/
def E10 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : arg10.view.ty.Contents (Elt Ideal) :=
  arg10.view.writes (Elt Ideal) arg10.view.junk ((stD c i arg3 harg3 arg4 harg4 arg5 harg5 arg6 harg6 arg7 harg7 arg8 harg8 arg9 harg9 arg10 harg10 arg11 harg11 arg12 harg12 arg13 harg13 x0 x1 x2 x3 k).2.2.1 ++ D10 c i arg3 harg3 arg4 harg4 arg5 harg5 arg6 harg6 arg7 harg7 arg8 harg8 arg9 harg9 arg10 harg10 arg11 harg11 arg12 harg12 arg13 harg13 x0 x1 x2 x3)

/-- What buffer 11 holds after `k` trips. -/
def E11 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : arg11.view.ty.Contents (Elt Ideal) :=
  arg11.view.writes (Elt Ideal) arg11.view.junk ((stD c i arg3 harg3 arg4 harg4 arg5 harg5 arg6 harg6 arg7 harg7 arg8 harg8 arg9 harg9 arg10 harg10 arg11 harg11 arg12 harg12 arg13 harg13 x0 x1 x2 x3 k).2.2.2.1 ++ D11 c i arg3 harg3 arg4 harg4 arg5 harg5 arg6 harg6 arg7 harg7 arg8 harg8 arg9 harg9 arg10 harg10 arg11 harg11 arg12 harg12 arg13 harg13 x0 x1 x2 x3)

/-- What buffer 12 holds after `k` trips. -/
def E12 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : arg12.view.ty.Contents (Elt Ideal) :=
  arg12.view.writes (Elt Ideal) arg12.view.junk ((stD c i arg3 harg3 arg4 harg4 arg5 harg5 arg6 harg6 arg7 harg7 arg8 harg8 arg9 harg9 arg10 harg10 arg11 harg11 arg12 harg12 arg13 harg13 x0 x1 x2 x3 k).2.2.2.2.1 ++ D12 c i arg3 harg3 arg4 harg4 arg5 harg5 arg6 harg6 arg7 harg7 arg8 harg8 arg9 harg9 arg10 harg10 arg11 harg11 arg12 harg12 arg13 harg13 x0 x1 x2 x3)

/-- What buffer 13 holds after `k` trips. -/
def E13 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : arg13.view.ty.Contents (Elt Ideal) :=
  arg13.view.writes (Elt Ideal) arg13.view.junk ((stD c i arg3 harg3 arg4 harg4 arg5 harg5 arg6 harg6 arg7 harg7 arg8 harg8 arg9 harg9 arg10 harg10 arg11 harg11 arg12 harg12 arg13 harg13 x0 x1 x2 x3 k).2.2.2.2.2 ++ D13 c i arg3 harg3 arg4 harg4 arg5 harg5 arg6 harg6 arg7 harg7 arg8 harg8 arg9 harg9 arg10 harg10 arg11 harg11 arg12 harg12 arg13 harg13 x0 x1 x2 x3)

/-- The last head's last block. -/
def last (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : Vec Ideal S1x256x128 .f32 :=
  accV (ld arg13.view (E13 c i arg3 harg3 arg4 harg4 arg5 harg5 arg6 harg6 arg7 harg7 arg8 harg8 arg9 harg9 arg10 harg10 arg11 harg11 arg12 harg12 arg13 harg13 x0 x1 x2 x3 (k0_t1_loop i).trips)) (rightV (ld arg12.view (E12 c i arg3 harg3 arg4 harg4 arg5 harg5 arg6 harg6 arg7 harg7 arg8 harg8 arg9 harg9 arg10 harg10 arg11 harg11 arg12 harg12 arg13 harg13 x0 x1 x2 x3 (k0_t1_loop i).trips)) (ld arg6.view (harg6.unread x3)))
    (ld8 arg10.view (E10 c i arg3 harg3 arg4 harg4 arg5 harg5 arg6 harg6 arg7 harg7 arg8 harg8 arg9 harg9 arg10 harg10 arg11 harg11 arg12 harg12 arg13 harg13 x0 x1 x2 x3 (k0_t1_loop i).trips) 7) (ld8 arg9.view (E9 c i arg3 harg3 arg4 harg4 arg5 harg5 arg6 harg6 arg7 harg7 arg8 harg8 arg9 harg9 arg10 harg10 arg11 harg11 arg12 harg12 arg13 harg13 x0 x1 x2 x3 (k0_t1_loop i).trips) 7) (ldKV arg5.view (harg5.unread x2) ![0, 0, 384] inb0)

/-- The weighted values at the end. -/
def E9' (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : arg9.view.ty.Contents (Elt Ideal) :=
  arg9.view.writes (Elt Ideal) arg9.view.junk (⟨rect8 7, last c i arg3 harg3 arg4 harg4 arg5 harg5 arg6 harg6 arg7 harg7 arg8 harg8 arg9 harg9 arg10 harg10 arg11 harg11 arg12 harg12 arg13 harg13 x0 x1 x2 x3⟩ :: ((stD c i arg3 harg3 arg4 harg4 arg5 harg5 arg6 harg6 arg7 harg7 arg8 harg8 arg9 harg9 arg10 harg10 arg11 harg11 arg12 harg12 arg13 harg13 x0 x1 x2 x3 (k0_t1_loop i).trips).2.1 ++ D9 c i arg3 harg3 arg4 harg4 arg5 harg5 arg6 harg6 arg7 harg7 arg8 harg8 arg9 harg9 arg10 harg10 arg11 harg11 arg12 harg12 arg13 harg13 x0 x1 x2 x3))

/-- The block that the body stores. -/
theorem att_pieces (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : (Own.attRun (F := Ideal) c i arg3 harg3 arg4 harg4 arg5 harg5 arg6 harg6 arg7 harg7 arg8 harg8 arg9 harg9 arg10 harg10 arg11 harg11 arg12 harg12 arg13 harg13 x0 x1 x2 x3).1
    = [⟨Rect.unit (s := S1x256x512) ![0, 0, 0] S1x256x512.size inb_S1x256x512_S1x256x512_0_0_0,
      k0_pay1 (k0_pay289 lowV (shapeCast S256x128 (ld8 arg9.view (E9' c i arg3 harg3 arg4 harg4 arg5 harg5 arg6 harg6 arg7 harg7 arg8 harg8 arg9 harg9 arg10 harg10 arg11 harg11 arg12 harg12 arg13 harg13 x0 x1 x2 x3) 0) shapeCasts_S1x256x128_S256x128)
        (ld8 arg9.view (E9' c i arg3 harg3 arg4 harg4 arg5 harg5 arg6 harg6 arg7 harg7 arg8 harg8 arg9 harg9 arg10 harg10 arg11 harg11 arg12 harg12 arg13 harg13 x0 x1 x2 x3) 1) (ld8 arg9.view (E9' c i arg3 harg3 arg4 harg4 arg5 harg5 arg6 harg6 arg7 harg7 arg8 harg8 arg9 harg9 arg10 harg10 arg11 harg11 arg12 harg12 arg13 harg13 x0 x1 x2 x3) 2) (ld8 arg9.view (E9' c i arg3 harg3 arg4 harg4 arg5 harg5 arg6 harg6 arg7 harg7 arg8 harg8 arg9 harg9 arg10 harg10 arg11 harg11 arg12 harg12 arg13 harg13 x0 x1 x2 x3) 3) (ld8 arg9.view (E9' c i arg3 harg3 arg4 harg4 arg5 harg5 arg6 harg6 arg7 harg7 arg8 harg8 arg9 harg9 arg10 harg10 arg11 harg11 arg12 harg12 arg13 harg13 x0 x1 x2 x3) 4) (ld8 arg9.view (E9' c i arg3 harg3 arg4 harg4 arg5 harg5 arg6 harg6 arg7 harg7 arg8 harg8 arg9 harg9 arg10 harg10 arg11 harg11 arg12 harg12 arg13 harg13 x0 x1 x2 x3) 5) (ld8 arg9.view (E9' c i arg3 harg3 arg4 harg4 arg5 harg5 arg6 harg6 arg7 harg7 arg8 harg8 arg9 harg9 arg10 harg10 arg11 harg11 arg12 harg12 arg13 harg13 x0 x1 x2 x3) 6) (ld8 arg9.view (E9' c i arg3 harg3 arg4 harg4 arg5 harg5 arg6 harg6 arg7 harg7 arg8 harg8 arg9 harg9 arg10 harg10 arg11 harg11 arg12 harg12 arg13 harg13 x0 x1 x2 x3) 7))⟩] := by
  unfold Own.attRun
  rfl

end

end Cert.AttIdeal.Block

end
-- ==== Proof.Att.Reads.lean ====
module

public import Idealize.ShloMosaic.Lib.WritesUnit
public import Idealize.ShloMosaic.Lib.WholeRead
public import Idealize.ShloMosaic.Lib.VecWindow
public import proofs.«01_k».proof.Proof.Att.Diag

@[expose] public section

set_option maxRecDepth 16384

noncomputable section

/-! What the loads of the body read after its stores. -/

namespace Cert.AttIdeal.Block

open Idealize.ShloMosaic Cert.AttIdeal Cert.AttIdeal.Gen

section
variable {κ : Kind} {sp : Space} {e : EltTy}

theorem ld8_hit (v : View sig κ sp S8x256x128 e) (f : v.ty.Contents (Elt Ideal)) (c : Fin 8) (w : Vec Ideal S1x256x128 e)
    (L : List (View.Piece (Elt Ideal) S8x256x128 e)) : ld8 v (v.writes (Elt Ideal) f (⟨rect8 c, w⟩ :: L)) c = w :=
  funext fun j => (View.readAt_apply ..).trans (View.read_writes_cons_hit v f (rect8 c) w L j _ rfl)

theorem ld8_miss (v : View sig κ sp S8x256x128 e) (f : v.ty.Contents (Elt Ideal)) (c d : Fin 8) (w : Vec Ideal S1x256x128 e)
    (L : List (View.Piece (Elt Ideal) S8x256x128 e)) (h : c ≠ d) :
    ld8 v (v.writes (Elt Ideal) f (⟨rect8 d, w⟩ :: L)) c = ld8 v (v.writes (Elt Ideal) f L) c :=
  funext fun j => (View.readAt_apply ..).trans ((View.read_writes_cons_unit_of_not_mem v f (inb8 d) w L _ rfl 0 (by
    have h0 : (j 0).val < 1 := (j 0).isLt
    have h1 : c.1 ≠ d.1 := fun h' => h (Fin.ext h')
    show c.1 + 1 * (j 0).val < d.1 ∨ d.1 + 1 ≤ c.1 + 1 * (j 0).val
    omega)).trans (View.readAt_apply ..).symm)

theorem ld2_hit (v : View sig κ sp S2x256x256 e) (f : v.ty.Contents (Elt Ideal)) (c : Fin 2) (w : Vec Ideal S1x256x256 e)
    (L : List (View.Piece (Elt Ideal) S2x256x256 e)) : ld2 v (v.writes (Elt Ideal) f (⟨rect2 c, w⟩ :: L)) c = w :=
  funext fun j => (View.readAt_apply ..).trans (View.read_writes_cons_hit v f (rect2 c) w L j _ rfl)

theorem ld2_miss (v : View sig κ sp S2x256x256 e) (f : v.ty.Contents (Elt Ideal)) (c d : Fin 2) (w : Vec Ideal S1x256x256 e)
    (L : List (View.Piece (Elt Ideal) S2x256x256 e)) (h : c ≠ d) :
    ld2 v (v.writes (Elt Ideal) f (⟨rect2 d, w⟩ :: L)) c = ld2 v (v.writes (Elt Ideal) f L) c :=
  funext fun j => (View.readAt_apply ..).trans ((View.read_writes_cons_unit_of_not_mem v f (inb2 d) w L _ rfl 0 (by
    have h0 : (j 0).val < 1 := (j 0).isLt
    have h1 : c.1 ≠ d.1 := fun h' => h (Fin.ext h')
    show c.1 + 1 * (j 0).val < d.1 ∨ d.1 + 1 ≤ c.1 + 1 * (j 0).val
    omega)).trans (View.readAt_apply ..).symm)

/-- Eight stores, one for each head, in the order of a trip. -/
theorem ld8_eight (v : View sig κ sp S8x256x128 e) (f : v.ty.Contents (Elt Ideal)) (w : Fin 8 → Vec Ideal S1x256x128 e) (c : Fin 8) :
    ld8 v (v.writes (Elt Ideal) f [⟨rect8 6, w 6⟩, ⟨rect8 5, w 5⟩, ⟨rect8 4, w 4⟩, ⟨rect8 3, w 3⟩, ⟨rect8 2, w 2⟩, ⟨rect8 1, w 1⟩,
      ⟨rect8 0, w 0⟩, ⟨rect8 7, w 7⟩]) c = w c := by
  match c with
  | ⟨6, _⟩ => exact ld8_hit ..
  | ⟨5, _⟩ => exact (ld8_miss _ _ 5 _ _ _ (by decide)).trans (ld8_hit ..)
  | ⟨4, _⟩ => exact (ld8_miss _ _ 4 _ _ _ (by decide)).trans ((ld8_miss _ _ 4 _ _ _ (by decide)).trans (ld8_hit ..))
  | ⟨3, _⟩ => exact (ld8_miss _ _ 3 _ _ _ (by decide)).trans ((ld8_miss _ _ 3 _ _ _ (by decide)).trans ((ld8_miss _ _ 3 _ _ _ (by decide)).trans (ld8_hit ..)))
  | ⟨2, _⟩ => exact (ld8_miss _ _ 2 _ _ _ (by decide)).trans ((ld8_miss _ _ 2 _ _ _ (by decide)).trans ((ld8_miss _ _ 2 _ _ _ (by decide)).trans
      ((ld8_miss _ _ 2 _ _ _ (by decide)).trans (ld8_hit ..))))
  | ⟨1, _⟩ => exact (ld8_miss _ _ 1 _ _ _ (by decide)).trans ((ld8_miss _ _ 1 _ _ _ (by decide)).trans ((ld8_miss _ _ 1 _ _ _ (by decide)).trans
      ((ld8_miss _ _ 1 _ _ _ (by decide)).trans ((ld8_miss _ _ 1 _ _ _ (by decide)).trans (ld8_hit ..)))))
  | ⟨0, _⟩ => exact (ld8_miss _ _ 0 _ _ _ (by decide)).trans ((ld8_miss _ _ 0 _ _ _ (by decide)).trans ((ld8_miss _ _ 0 _ _ _ (by decide)).trans
      ((ld8_miss _ _ 0 _ _ _ (by decide)).trans ((ld8_miss _ _ 0 _ _ _ (by decide)).trans ((ld8_miss _ _ 0 _ _ _ (by decide)).trans (ld8_hit ..))))))
  | ⟨7, _⟩ => exact (ld8_miss _ _ 7 _ _ _ (by decide)).trans ((ld8_miss _ _ 7 _ _ _ (by decide)).trans ((ld8_miss _ _ 7 _ _ _ (by decide)).trans
      ((ld8_miss _ _ 7 _ _ _ (by decide)).trans ((ld8_miss _ _ 7 _ _ _ (by decide)).trans ((ld8_miss _ _ 7 _ _ _ (by decide)).trans
        ((ld8_miss _ _ 7 _ _ _ (by decide)).trans (ld8_hit ..)))))))

/-- Zero in one head's place. -/
def zeroH : Vec Ideal S1x256x128 .f32 := fun _ => FloatOps.ofBits (F := Ideal) FTy.f32 0#32

theorem ld8_zero (v : View sig κ sp S8x256x128 .f32) (f : v.ty.Contents (Elt Ideal)) (c : Fin 8) :
    ld8 v (v.writes (Elt Ideal) f zero8) c = zeroH :=
  funext fun j => (View.readAt_apply ..).trans ((View.read_writes_cons_unit_of_mem v f inb_S8x256x128_S8x256x128_0_0_0 _ [] _ ((rect8 c).emb j) rfl
    (fun a => by
      match a with
      | ⟨0, _⟩ => exact (Nat.zero_add _).symm
      | ⟨1, _⟩ => exact (Nat.zero_add _).symm
      | ⟨2, _⟩ => exact (Nat.zero_add _).symm)).trans rfl)

theorem ld_full (v : View sig κ sp S256x256 e) (f : v.ty.Contents (Elt Ideal)) (w : Vec Ideal S256x256 e)
    (L : List (View.Piece (Elt Ideal) S256x256 e)) (h : S256x256.ShapeCasts S256x256) :
    ld v (v.writes (Elt Ideal) f (⟨Rect.unit (s := S256x256) ![0, 0] S256x256.size inb_S256x256_S256x256_0_0, shapeCast S256x256 w h⟩ :: L)) = w :=
  (View.readAt_writes_full v f inb_S256x256_S256x256_0_0 inb_S256x256_S256x256_0_0 _ L).trans (shapeCast_self w h)

/-- The first lanes of a whole load. -/
theorem ldFirst_eq (v : View sig κ sp S256x256 .bf16) (f : v.ty.Contents (Elt Ideal)) : ldFirst v f = firstV (ld v f) := by
  funext j
  unfold ldFirst firstV extractStridedSlice ld
  rw [View.readAt_apply, View.readAt_apply]
  refine congrArg _ (funext fun a => Fin.ext ?_)
  match a with
  | ⟨0, _⟩ => show 0 + 1 * (j 0).val = 0 + 1 * (0 + (j 0).val); omega
  | ⟨1, _⟩ => show 0 + 1 * (j 1).val = 0 + 1 * (0 + (j 1).val); omega

end

/-- A block of keys or values of a pair of heads. -/
def kvBlock (x : Vec Ideal S1x8192x512 .bf16) (p : Fin 4) (j : ℕ) : Vec Ideal S1x256x128 .bf16 := fun y =>
  x (ix3 (n0 := 1) (n1 := 8192) (n2 := 512) 0 ⟨(256 * j + (y 1).val) % 8192, Nat.mod_lt _ (by decide)⟩ ⟨128 * p.1 + (y 2).val, by
    have h : (y 2).val < 128 := (y 2).isLt
    show 128 * p.1 + (y 2).val < 512
    omega⟩)

theorem ldKV_eq (arg4 : Memref sig .tc .vmem S1x8192x512 .bf16) (harg4 : arg4.IsWhole) (x : Vec Ideal S1x8192x512 .bf16) (p : Fin 4) (j : ℕ) (hj : j < 32)
    (o : Fin 3 → Nat) (h) (ho : o = ![0, 256 * j, 128 * p.1]) : ldKV arg4.view (harg4.unread x) o h = kvBlock x p j := by
  subst ho
  funext y
  refine (harg4.readAt_unread x (Rect.unit (s := S1x8192x512) ![0, 256 * j, 128 * p.1] S1x256x128.size h).toLoadRect y).trans (congrArg x (funext fun a => Fin.ext ?_))
  have h1 : (y 1).val < 256 := (y 1).isLt
  have h0 : (y 0).val < 1 := (y 0).isLt
  match a with
  | ⟨0, _⟩ => show 0 + 1 * (y 0).val = 0; omega
  | ⟨1, _⟩ => show 256 * j + 1 * (y 1).val = (256 * j + (y 1).val) % 8192; omega
  | ⟨2, _⟩ => show 128 * p.1 + 1 * (y 2).val = 128 * p.1 + (y 2).val; omega

end Cert.AttIdeal.Block

end
-- ==== Proof.Att.Offs.lean ====
module

public import proofs.«01_k».proof.Proof.Gen.AttIdeal.Skeleton

@[expose] public section

set_option maxRecDepth 16384

/-! Where the body's loads of keys and values begin, and how often its loop runs. -/

namespace Cert.AttIdeal.Block

open Idealize.ShloMosaic Cert.AttIdeal Cert.AttIdeal.Gen

theorem trips_eq : ∀ i : grid0.Coords, (k0_t1_loop i).trips = (i 2).val := by decide +kernel
theorem off1_eq : ∀ i : grid0.Coords, k0_off1 i = ![0, 256 * (i 2).val, 0] := by decide +kernel
theorem off2_eq : ∀ i : grid0.Coords, k0_off2 i = ![0, 256 * (i 2).val, 128] := by decide +kernel
theorem off3_eq : ∀ i : grid0.Coords, k0_off3 i = ![0, 256 * (i 2).val, 256] := by decide +kernel
theorem off4_eq : ∀ i : grid0.Coords, k0_off4 i = ![0, 256 * (i 2).val, 384] := by decide +kernel
theorem off5_eq : ∀ i : grid0.Coords, k0_off5 i = ![0, 256 * ((i 2).val - 1), 0] := by decide +kernel
theorem off6_eq : ∀ (i : grid0.Coords) (k : Fin (k0_t1_loop i).trips), k0_off6 i k = ![0, 256 * ((i 2).val - (k.val + 1)), 128] := by decide +kernel
theorem off7_eq : ∀ (i : grid0.Coords) (k : Fin (k0_t1_loop i).trips), k0_off7 i k = ![0, 256 * ((i 2).val - k.val), 384] := by decide +kernel
theorem off8_eq : ∀ (i : grid0.Coords) (k : Fin (k0_t1_loop i).trips), k0_off8 i k = ![0, 256 * ((i 2).val - (k.val + 1)), 0] := by decide +kernel
theorem off9_eq : ∀ (i : grid0.Coords) (k : Fin (k0_t1_loop i).trips), k0_off9 i k = ![0, 256 * ((i 2).val - (k.val + 1)), 256] := by decide +kernel
theorem off10_eq : ∀ (i : grid0.Coords) (k : Fin (k0_t1_loop i).trips), k0_off10 i k = ![0, 256 * ((i 2).val - (k.val + 1)), 384] := by decide +kernel
theorem off11_eq : ∀ (i : grid0.Coords) (k : Fin (k0_t1_loop i).trips), k0_off11 i k = ![0, 256 * ((i 2).val - (k.val + 2)), 0] := by decide +kernel

end Cert.AttIdeal.Block

end
-- ==== Proof.Att.State.lean ====
module

public import proofs.«01_k».proof.Proof.Att.Reads
public import proofs.«01_k».proof.Proof.Att.Offs

@[expose] public section

set_option maxRecDepth 16384

noncomputable section

/-! Each head's running sum and weighted values after the blocks of keys so far, and what the body has stored when its loop begins. -/

namespace Cert.AttIdeal.Block

open Idealize.ShloMosaic Cert.AttIdeal Cert.AttIdeal.Gen

/-- The pair of a head. -/
def pairOf : Fin 8 → Fin 4 := ![0, 0, 1, 1, 2, 2, 3, 3]

def qBlock (x : Vec Ideal S1x256x512 .bf16) (p : Fin 4) : Vec Ideal S1x256x128 .bf16 := fun y =>
  x (ix3 (n0 := 1) (n1 := 256) (n2 := 512) 0 (y 1) ⟨128 * p.1 + (y 2).val, by
    have h : (y 2).val < 128 := (y 2).isLt
    show 128 * p.1 + (y 2).val < 512
    omega⟩)

def qHead (x : Vec Ideal S1x256x512 .bf16) (h : Fin 8) : Vec Ideal S1x256x128 .bf16 :=
  match h with
  | ⟨0, _⟩ => padLow (qBlock x 0)
  | ⟨1, _⟩ => padHigh (qBlock x 0)
  | ⟨2, _⟩ => padLow (qBlock x 1)
  | ⟨3, _⟩ => padHigh (qBlock x 1)
  | ⟨4, _⟩ => padLow (qBlock x 2)
  | ⟨5, _⟩ => padHigh (qBlock x 2)
  | ⟨6, _⟩ => padLow (qBlock x 3)
  | ⟨7, _⟩ => padHigh (qBlock x 3)

/-- A head's scores at the block of keys `m` blocks before the queries' block `i`, and its values there. -/
def zHead (i : ℕ) (x0 : Vec Ideal S1x256x512 .bf16) (x1 : Vec Ideal S1x8192x512 .bf16) (h : Fin 8) (m : ℕ) : FVec Ideal S256x256 .f32 :=
  scoreV (qHead x0 h) (kvBlock x1 (pairOf h) (i - m))
def vHead (i : ℕ) (x2 : Vec Ideal S1x8192x512 .bf16) (h : Fin 8) (m : ℕ) : Vec Ideal S1x256x128 .bf16 := kvBlock x2 (pairOf h) (i - m)

/-- The softplus and its logarithms, `m` blocks back; causal in the first. -/
def spAt (z : ℕ → FVec Ideal S256x256 .f32) : ℕ → FVec Ideal S256x256 .bf16
  | 0 => truncf .bf16 (spM (z 0)) bitsLt_bf16_f32
  | m + 1 => truncf .bf16 (spV (z (m + 1))) bitsLt_bf16_f32
def lsAt (z : ℕ → FVec Ideal S256x256 .f32) : ℕ → FVec Ideal S256x256 .f32
  | 0 => lsM (z 0)
  | m + 1 => subf (z (m + 1)) (spV (z (m + 1)))

/-- The running sum and the weighted values after `m` blocks. -/
def carR (tri : Vec Ideal S256x256 .bf16) (z : ℕ → FVec Ideal S256x256 .f32) : ℕ → Vec Ideal S1x256x128 .f32
  | 0 => zeroH
  | m + 1 => carV (firstV (spAt z m)) (rightV (spAt z m) tri) (carR tri z m)
def accR (tri : Vec Ideal S256x256 .bf16) (z : ℕ → FVec Ideal S256x256 .f32) (v : ℕ → Vec Ideal S1x256x128 .bf16) : ℕ → Vec Ideal S1x256x128 .f32
  | 0 => zeroH
  | m + 1 => accV (lsAt z m) (rightV (spAt z m) tri) (carR tri z m) (accR tri z v m) (v m)

theorem ldQ_eq (arg3 : Memref sig .tc .vmem S1x256x512 .bf16) (harg3 : arg3.IsWhole) (x : Vec Ideal S1x256x512 .bf16) (p : Fin 4) :
    ldQ arg3 harg3 x p = qBlock x p := by
  funext y
  refine (harg3.readAt_unread x (Rect.unit (s := S1x256x512) ![0, 0, 128 * p.1] S1x256x128.size (inbQ p)).toLoadRect y).trans
    (congrArg x (funext fun a => Fin.ext ?_))
  have h0 : (y 0).val < 1 := (y 0).isLt
  match a with
  | ⟨0, _⟩ => show 0 + 1 * (y 0).val = 0; omega
  | ⟨1, _⟩ => show 0 + 1 * (y 1).val = (y 1).val; omega
  | ⟨2, _⟩ => show 128 * p.1 + 1 * (y 2).val = 128 * p.1 + (y 2).val; omega

theorem ld8_queries (arg3 : Memref sig .tc .vmem S1x256x512 .bf16) (harg3 : arg3.IsWhole) (arg8 : Memref sig .tc .vmem S8x256x128 .bf16)
    (x : Vec Ideal S1x256x512 .bf16) (h : Fin 8) : ld8 arg8.view (F8 arg3 harg3 arg8 x) h = qHead x h := by
  unfold F8 P8
  simp only [ldQ_eq]
  match h with
  | ⟨7, _⟩ => exact ld8_hit ..
  | ⟨6, _⟩ => exact (ld8_miss _ _ 6 _ _ _ (by decide)).trans (ld8_hit ..)
  | ⟨5, _⟩ => exact (ld8_miss _ _ 5 _ _ _ (by decide)).trans ((ld8_miss _ _ 5 _ _ _ (by decide)).trans (ld8_hit ..))
  | ⟨4, _⟩ => exact (ld8_miss _ _ 4 _ _ _ (by decide)).trans ((ld8_miss _ _ 4 _ _ _ (by decide)).trans ((ld8_miss _ _ 4 _ _ _ (by decide)).trans (ld8_hit ..)))
  | ⟨3, _⟩ => exact (ld8_miss _ _ 3 _ _ _ (by decide)).trans ((ld8_miss _ _ 3 _ _ _ (by decide)).trans ((ld8_miss _ _ 3 _ _ _ (by decide)).trans
      ((ld8_miss _ _ 3 _ _ _ (by decide)).trans (ld8_hit ..))))
  | ⟨2, _⟩ => exact (ld8_miss _ _ 2 _ _ _ (by decide)).trans ((ld8_miss _ _ 2 _ _ _ (by decide)).trans ((ld8_miss _ _ 2 _ _ _ (by decide)).trans
      ((ld8_miss _ _ 2 _ _ _ (by decide)).trans ((ld8_miss _ _ 2 _ _ _ (by decide)).trans (ld8_hit ..)))))
  | ⟨1, _⟩ => exact (ld8_miss _ _ 1 _ _ _ (by decide)).trans ((ld8_miss _ _ 1 _ _ _ (by decide)).trans ((ld8_miss _ _ 1 _ _ _ (by decide)).trans
      ((ld8_miss _ _ 1 _ _ _ (by decide)).trans ((ld8_miss _ _ 1 _ _ _ (by decide)).trans ((ld8_miss _ _ 1 _ _ _ (by decide)).trans (ld8_hit ..))))))
  | ⟨0, _⟩ => exact (ld8_miss _ _ 0 _ _ _ (by decide)).trans ((ld8_miss _ _ 0 _ _ _ (by decide)).trans ((ld8_miss _ _ 0 _ _ _ (by decide)).trans
      ((ld8_miss _ _ 0 _ _ _ (by decide)).trans ((ld8_miss _ _ 0 _ _ _ (by decide)).trans ((ld8_miss _ _ 0 _ _ _ (by decide)).trans
        ((ld8_miss _ _ 0 _ _ _ (by decide)).trans (ld8_hit ..)))))))

theorem ldD_eq (i : grid0.Coords) (arg4 : Memref sig .tc .vmem S1x8192x512 .bf16) (harg4 : arg4.IsWhole) (x : Vec Ideal S1x8192x512 .bf16) (p : Fin 4) :
    ldD i arg4 harg4 x p = kvBlock x p (i 2).val := by
  have hi : (i 2).val < 32 := (i 2).isLt
  match p with
  | ⟨0, _⟩ => exact ldKV_eq arg4 harg4 x 0 _ hi _ _ (off1_eq i)
  | ⟨1, _⟩ => exact ldKV_eq arg4 harg4 x 1 _ hi _ _ (off2_eq i)
  | ⟨2, _⟩ => exact ldKV_eq arg4 harg4 x 2 _ hi _ _ (off3_eq i)
  | ⟨3, _⟩ => exact ldKV_eq arg4 harg4 x 3 _ hi _ _ (off4_eq i)

theorem ld2_two {κ : Kind} {sp : Space} (v : View sig κ sp S2x256x256 .f32) (f : v.ty.Contents (Elt Ideal)) (w0 w1 : Vec Ideal S1x256x256 .f32)
    (L : List (View.Piece (Elt Ideal) S2x256x256 .f32)) :
    ld2 v (v.writes (Elt Ideal) f (⟨rect2 1, w1⟩ :: ⟨rect2 0, w0⟩ :: L)) 0 = w0 ∧ ld2 v (v.writes (Elt Ideal) f (⟨rect2 1, w1⟩ :: ⟨rect2 0, w0⟩ :: L)) 1 = w1 :=
  ⟨(ld2_miss _ _ 0 _ _ _ (by decide)).trans (ld2_hit ..), ld2_hit ..⟩

theorem zD_eq (i : grid0.Coords) (arg3 : Memref sig .tc .vmem S1x256x512 .bf16) (harg3 : arg3.IsWhole) (arg4 : Memref sig .tc .vmem S1x8192x512 .bf16)
    (harg4 : arg4.IsWhole) (arg8 : Memref sig .tc .vmem S8x256x128 .bf16) (arg11 : Memref sig .tc .vmem S2x256x256 .f32)
    (x0 : Vec Ideal S1x256x512 .bf16) (x1 : Vec Ideal S1x8192x512 .bf16) (h : Fin 8) :
    zD i arg3 harg3 arg4 harg4 arg8 arg11 x0 x1 h = zHead (i 2).val x0 x1 h 0 := by
  unfold zD P11
  simp only [ld8_queries, ldD_eq]
  match h with
  | ⟨0, _⟩ => exact (congrArg (fun w => shapeCast S256x256 w shapeCasts_S1x256x256_S256x256) (ld2_two _ _ _ _ _).1).trans (shapeCast_shapeCast ..)
  | ⟨1, _⟩ => exact (congrArg (fun w => shapeCast S256x256 w shapeCasts_S1x256x256_S256x256) (ld2_two _ _ _ _ _).2).trans (shapeCast_shapeCast ..)
  | ⟨2, _⟩ => rfl
  | ⟨3, _⟩ => rfl
  | ⟨4, _⟩ => rfl
  | ⟨5, _⟩ => rfl
  | ⟨6, _⟩ => rfl
  | ⟨7, _⟩ => rfl

theorem ofNat_val (n : ℕ) (h : n < 8) : Fin.ofNat 8 n = (⟨n, h⟩ : Fin 8) := Fin.ext (Nat.mod_eq_of_lt h)

theorem P10_spec (arg10 : Memref sig .tc .vmem S8x256x128 .f32) (tri : Vec Ideal S256x256 .bf16) (z : Fin 8 → ℕ → FVec Ideal S256x256 .f32) (c : Fin 8) :
    ∀ n, n ≤ 8 → ld8 arg10.view (arg10.view.writes (Elt Ideal) arg10.view.junk (P10 arg10 tri (fun h => z h 0) n)) c
      = carR tri (z c) (if c.1 < n then 1 else 0)
  | 0, _ => ld8_zero ..
  | n + 1, hn => by
    have ih := P10_spec arg10 tri z c n (by omega)
    unfold P10
    rw [ofNat_val n (by omega)]
    by_cases hc : c.1 = n
    · subst hc
      refine (ld8_hit ..).trans ?_
      rw [ih, if_neg (by simp), if_pos (by simp)]
      rfl
    · refine (ld8_miss _ _ c _ _ _ fun h => hc (congrArg Fin.val h)).trans (ih.trans ?_)
      by_cases h : c.1 < n
      · rw [if_pos h, if_pos (by omega)]
      · rw [if_neg h, if_neg (by omega)]

theorem pairOf_eq : ∀ c : Fin 8, Fin.ofNat 4 (c.1 / 2) = pairOf c := by decide

theorem P9_spec (arg9 arg10 : Memref sig .tc .vmem S8x256x128 .f32) (tri : Vec Ideal S256x256 .bf16) (z : Fin 8 → ℕ → FVec Ideal S256x256 .f32)
    (v : Fin 4 → Vec Ideal S1x256x128 .bf16) (w : Fin 8 → ℕ → Vec Ideal S1x256x128 .bf16) (hw : ∀ c, w c 0 = v (pairOf c)) (c : Fin 8) :
    ∀ n, n ≤ 8 → ld8 arg9.view (arg9.view.writes (Elt Ideal) arg9.view.junk (P9 arg9 arg10 tri (fun h => z h 0) v n)) c
      = accR tri (z c) (w c) (if c.1 < n then 1 else 0)
  | 0, _ => ld8_zero ..
  | n + 1, hn => by
    have ih := P9_spec arg9 arg10 tri z v w hw c n (by omega)
    have h10 := P10_spec arg10 tri z c n (by omega)
    unfold P9
    rw [ofNat_val n (by omega)]
    by_cases hc : c.1 = n
    · subst hc
      refine (ld8_hit ..).trans ?_
      rw [ih, h10, if_neg (by simp), if_pos (by simp), show Fin.ofNat 4 (c.1 / 2) = pairOf c from pairOf_eq c, ← hw]
      rfl
    · refine (ld8_miss _ _ c _ _ _ fun h => hc (congrArg Fin.val h)).trans (ih.trans ?_)
      by_cases h : c.1 < n
      · rw [if_pos h, if_pos (by omega)]
      · rw [if_neg h, if_neg (by omega)]

end Cert.AttIdeal.Block

end
-- ==== Proof.Att.Math.lean ====
module

public import Idealize.ShloMosaic.Lib.Pointwise
public import Mathlib.Algebra.BigOperators.Intervals

@[expose] public section

noncomputable section

/-! Stick-breaking weights over the real numbers. -/

namespace Cert.Att

open Idealize.ShloMosaic

/-- Softplus. -/
def softp (a : ℝ) : ℝ := max a 0 + Real.log (1 + Real.exp (-|a|))

theorem softp_neg (a : ℝ) : a - softp a = -softp (-a) := by
  unfold softp
  rw [abs_neg]
  have h : max a 0 - max (-a) 0 = a := by
    rcases le_total 0 a with h | h
    · rw [max_eq_left h, max_eq_right (by linarith)]; ring
    · rw [max_eq_right h, max_eq_left (by linarith)]; ring
  linarith

theorem coe_max (a b : ℝ) : ((max a b : ℝ) : EReal) = max (a : EReal) (b : EReal) := EReal.coe_strictMono.monotone.map_max

theorem coe_abs (a : ℝ) : ((|a| : ℝ) : EReal) = max (a : EReal) (-(a : EReal)) := by
  rw [← EReal.coe_neg, ← coe_max]
  rfl

theorem log_coe (a : ℝ) (h : 0 < a) : Ideal.log (a : EReal) = ((Real.log a : ℝ) : EReal) := if_neg (not_le.mpr h)

theorem exp_coe (a : ℝ) : Ideal.exp (a : EReal) = ((Real.exp a : ℝ) : EReal) := rfl

/-- Softplus as a program computes it, at a real number. -/
theorem softp_coe (a : ℝ) : max (a : EReal) 0 + Ideal.log (1 + Ideal.exp ((-|a| : ℝ) : EReal)) = ((softp a : ℝ) : EReal) := by
  unfold softp
  rw [exp_coe, ← EReal.coe_zero, ← EReal.coe_one, ← coe_max, ← EReal.coe_add, log_coe _ (by positivity), ← EReal.coe_add]

theorem coe_sum {ι : Type*} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The softplus of the scores of a query, of the keys before it. -/
def before (a : ℕ → ℝ) (t u : ℕ) : ℝ := if u < t then softp (a u) else 0

/-- The weight of a key for a query. -/
def weight (a : ℕ → ℝ) (t s : ℕ) : ℝ :=
  if s < t then Real.exp (a s - softp (a s) - ∑ u ∈ Finset.Ico (s + 1) 8192, before a t u) else 0

theorem before_zero (a : ℕ → ℝ) (t u : ℕ) (h : t ≤ u) : before a t u = 0 := if_neg (by omega)

theorem weight_zero (a : ℕ → ℝ) (t s : ℕ) (h : t ≤ s) : weight a t s = 0 := if_neg (by omega)

/-- The sum over the rest of a block. -/
theorem sum_rest {M : Type*} [AddCommMonoid M] (g : ℕ → M) (b s : ℕ) :
    ∑ u : Fin 256, (if s < u.1 then g (b + u.1) else 0) = ∑ u ∈ Finset.Ico (b + s + 1) (b + 256), g u := by
  rw [Fin.sum_univ_eq_sum_range (fun u => if s < u then g (b + u) else 0) 256, ← Finset.sum_filter,
    show Finset.Ico (b + s + 1) (b + 256) = Finset.Ico (s + 1 + b) (256 + b) by congr 1 <;> omega, ← Finset.sum_Ico_add' g (s + 1) 256 b]
  refine Finset.sum_congr (Finset.ext fun u => ?_) fun u _ => by rw [Nat.add_comm]
  simp only [Finset.mem_filter, Finset.mem_range, Finset.mem_Ico]
  omega

/-- The sum over a block. -/
theorem sum_block {M : Type*} [AddCommMonoid M] (g : ℕ → M) (b : ℕ) :
    ∑ u : Fin 256, g (b + u.1) = ∑ u ∈ Finset.Ico b (b + 256), g u := by
  rw [Fin.sum_univ_eq_sum_range (fun u => g (b + u)) 256, Finset.sum_Ico_eq_sum_range, Nat.add_sub_cancel_left]

/-- A sum that stops where the rest is zero. -/
theorem sum_stop {M : Type*} [AddCommMonoid M] (g : ℕ → M) (b c d : ℕ) (hcd : c ≤ d) (h : ∀ u, c ≤ u → g u = 0) :
    ∑ u ∈ Finset.Ico b c, g u = ∑ u ∈ Finset.Ico b d, g u := by
  refine Finset.sum_subset (Finset.Ico_subset_Ico_right hcd) fun u hu hn => h u ?_
  simp only [Finset.mem_Ico] at hu hn
  omega

end Cert.Att

end
-- ==== Proof.Att.Rows.lean ====
module

public import Idealize.ShloMosaic.Lib.Pointwise
public import Idealize.ShloMosaic.Lib.WordCmp
public import proofs.«01_k».proof.Proof.Att.State
public import proofs.«01_k».proof.Proof.Att.Math

@[expose] public section

set_option maxRecDepth 16384

noncomputable section

/-! A head's weighted values, row by row: the values of the keys before the query, each times its weight. -/

namespace Cert.AttIdeal.Block

open Idealize.ShloMosaic Cert.AttIdeal Cert.AttIdeal.Gen Cert.Att

theorem mask_eq : (Named.named (F := Ideal) κ "mask" 0xF149F2CA#32 : Ideal .f32) = (⊥ : EReal) := rfl

theorem select_lt {α : Type} {p : Prop} [Decidable p] (x y : α) : Scalar.select (BitVec.ofBool (decide p)) x y = if p then x else y := by
  by_cases h : p
  · rw [decide_eq_true h, if_pos h]; rfl
  · rw [decide_eq_false h, if_neg h]; rfl

theorem causal_apply (r s : Fin 256) : causalV (ix2 r s) = BitVec.ofBool (decide (s.1 < r.1)) := by
  pointwise [causalV]
  exact WordCmp.cmpi_slt_ofNat (w := 32) (by show s.1 < 2147483648; omega) (by show r.1 < 2147483648; omega)

theorem low_apply (r : Fin 256) (l : Fin 128) : lowV (ix2 r l) = BitVec.ofBool (decide (l.1 < 64)) := by
  pointwise [lowV]
  exact WordCmp.cmpi_slt_ofNat (w := 32) (b := 64) (by show l.1 < 2147483648; omega) (by decide)

theorem padLow_apply (q : Vec Ideal S1x256x128 .bf16) (r : Fin 256) (l : Fin 128) :
    padLow q (ix3 0 r l) = if l.1 < 64 then q (ix3 0 r l) else 0 := by
  pointwise [padLow]
  rw [low_apply, select_lt]

theorem padHigh_apply (q : Vec Ideal S1x256x128 .bf16) (r : Fin 256) (l : Fin 128) :
    padHigh q (ix3 0 r l) = if l.1 < 64 then 0 else q (ix3 0 r l) := by
  pointwise [padHigh]
  rw [low_apply, select_lt]

theorem spM_apply (z : FVec Ideal S256x256 .f32) (r s : Fin 256) : spM z (ix2 r s) = if s.1 < r.1 then spK (z (ix2 r s)) else 0 := by
  pointwise [spM]
  rw [causal_apply, select_lt, spV_apply]

theorem lsM_apply (z : FVec Ideal S256x256 .f32) (r s : Fin 256) :
    lsM z (ix2 r s) = if s.1 < r.1 then z (ix2 r s) - spK (z (ix2 r s)) else ⊥ := by
  show Scalar.select (causalV (ix2 r s)) (z (ix2 r s) - spV z (ix2 r s)) (Named.named (F := Ideal) κ "mask" 0xF149F2CA#32) = _
  rw [causal_apply, select_lt, spV_apply, mask_eq]

theorem spK_coe (a : ℝ) : spK (a : EReal) = ((softp a : ℝ) : EReal) := by
  unfold spK
  rw [← softp_coe, show FloatOps.absf (F := Ideal) (φ := .f32) (a : EReal) = ((|a| : ℝ) : EReal) from (coe_abs a).symm, ← EReal.coe_zero, ← EReal.coe_sub,
    zero_sub]

section
variable (tri : Vec Ideal S256x256 .bf16) (z : ℕ → FVec Ideal S256x256 .f32) (v : ℕ → Vec Ideal S1x256x128 .bf16) (i : ℕ)
  (a : Fin 256 → ℕ → ℝ) (w : ℕ → Fin 128 → EReal)
  (htri : ∀ u s : Fin 256, tri (ix2 u s) = if s.1 < u.1 then 1 else 0)
  (hz : ∀ m ≤ i, ∀ r s : Fin 256, z m (ix2 r s) = ((a r (256 * (i - m) + s.1) : ℝ) : EReal))
  (hv : ∀ m ≤ i, ∀ (s : Fin 256) (l : Fin 128), v m (ix3 0 s l) = w (256 * (i - m) + s.1) l)
  (hi : i < 32)
include hz

theorem spAt_apply (m : ℕ) (hm : m ≤ i) (r s : Fin 256) :
    spAt z m (ix2 r s) = ((before (a r) (256 * i + r.1) (256 * (i - m) + s.1) : ℝ) : EReal) := by
  have hr := r.isLt
  have hs := s.isLt
  unfold before
  match m, hm with
  | 0, hm =>
    show spM (z 0) (ix2 r s) = _
    rw [spM_apply, hz 0 hm, spK_coe]
    by_cases h : s.1 < r.1
    · rw [if_pos h, if_pos (by omega)]
    · rw [if_neg h, if_neg (by omega)]; rfl
  | m + 1, hm =>
    show spV (z (m + 1)) (ix2 r s) = _
    rw [spV_apply, hz (m + 1) hm, spK_coe, if_pos (by omega)]

include htri in
theorem right_apply (m : ℕ) (hm : m ≤ i) (r s : Fin 256) : rightV (spAt z m) tri (ix2 r s)
    = ((∑ u ∈ Finset.Ico (256 * (i - m) + s.1 + 1) (256 * (i - m) + 256), before (a r) (256 * i + r.1) u : ℝ) : EReal) := by
  rw [rightV_apply, ← sum_rest, coe_sum]
  refine Finset.sum_congr rfl fun u _ => ?_
  rw [spAt_apply z i a hz m hm, htri]
  by_cases h : s.1 < u.1
  · rw [if_pos h, if_pos h, mul_one]
  · rw [if_neg h, if_neg h, mul_zero]; rfl

include htri in
theorem car_apply (r : Fin 256) (l : Fin 128) : ∀ m, m ≤ i + 1 → carR tri z m (ix3 0 r l)
    = ((∑ u ∈ Finset.Ico (256 * (i + 1 - m)) (256 * (i + 1)), before (a r) (256 * i + r.1) u : ℝ) : EReal)
  | 0, _ => by
    rw [Nat.sub_zero, Finset.Ico_self, Finset.sum_empty]
    show FloatOps.ofBits (F := Ideal) FTy.f32 0#32 = ((0 : ℝ) : EReal)
    simp
  | m + 1, hm => by
    show carV _ _ _ (ix3 0 r l) = _
    rw [carV_apply, car_apply r l m (by omega), right_apply tri z i a htri hz m (by omega), firstV_apply, spAt_apply z i a hz m (by omega),
      ← EReal.coe_add, ← EReal.coe_add]
    have e1 : 256 * (i + 1 - m) = 256 * (i - m) + 256 := by omega
    have e2 : 256 * (i + 1 - (m + 1)) = 256 * (i - m) := by omega
    rw [e1, e2, ← Finset.sum_Ico_consecutive _ (show 256 * (i - m) ≤ 256 * (i - m) + 256 by omega) (show 256 * (i - m) + 256 ≤ 256 * (i + 1) by omega),
      Finset.sum_eq_sum_Ico_succ_bot (show 256 * (i - m) < 256 * (i - m) + 256 by omega)]
    congr 1
    show _ + (∑ u ∈ Finset.Ico (256 * (i - m) + 0 + 1) (256 * (i - m) + 256), _ + before _ _ (256 * (i - m) + 0)) = _
    rw [Nat.add_zero]
    ring_nf

include hi in
theorem weight_apply (m : ℕ) (hm : m ≤ i) (r s : Fin 256) : Ideal.exp (lsAt z m (ix2 r s)
      - ((∑ u ∈ Finset.Ico (256 * (i + 1 - m)) (256 * (i + 1)), before (a r) (256 * i + r.1) u : ℝ) : EReal)
      - ((∑ u ∈ Finset.Ico (256 * (i - m) + s.1 + 1) (256 * (i - m) + 256), before (a r) (256 * i + r.1) u : ℝ) : EReal))
    = ((weight (a r) (256 * i + r.1) (256 * (i - m) + s.1) : ℝ) : EReal) := by
  have hr := r.isLt
  have hs := s.isLt
  have e1 : 256 * (i + 1 - m) = 256 * (i - m) + 256 := by omega
  have hsum : ∑ u ∈ Finset.Ico (256 * (i - m) + s.1 + 1) 8192, before (a r) (256 * i + r.1) u
      = ∑ u ∈ Finset.Ico (256 * (i - m) + s.1 + 1) (256 * (i - m) + 256), before (a r) (256 * i + r.1) u
        + ∑ u ∈ Finset.Ico (256 * (i + 1 - m)) (256 * (i + 1)), before (a r) (256 * i + r.1) u := by
    rw [e1, Finset.sum_Ico_consecutive _ (by omega) (by omega)]
    exact (sum_stop _ _ _ 8192 (by omega) fun u hu => before_zero _ _ _ (by omega)).symm
  have main : Ideal.exp (((a r (256 * (i - m) + s.1) : ℝ) : EReal) - ((softp (a r (256 * (i - m) + s.1)) : ℝ) : EReal)
      - ((∑ u ∈ Finset.Ico (256 * (i + 1 - m)) (256 * (i + 1)), before (a r) (256 * i + r.1) u : ℝ) : EReal)
      - ((∑ u ∈ Finset.Ico (256 * (i - m) + s.1 + 1) (256 * (i - m) + 256), before (a r) (256 * i + r.1) u : ℝ) : EReal))
    = ((Real.exp (a r (256 * (i - m) + s.1) - softp (a r (256 * (i - m) + s.1))
        - ∑ u ∈ Finset.Ico (256 * (i - m) + s.1 + 1) 8192, before (a r) (256 * i + r.1) u) : ℝ) : EReal) := by
    rw [← EReal.coe_sub, ← EReal.coe_sub, ← EReal.coe_sub, exp_coe, hsum]
    congr 2
    ring
  unfold weight
  match m, hm, main with
  | 0, hm, main =>
    show Ideal.exp (lsM (z 0) (ix2 r s) - _ - _) = _
    rw [lsM_apply, hz 0 hm, spK_coe]
    by_cases h : s.1 < r.1
    · rw [if_pos h, if_pos (by omega)]
      exact main
    · rw [if_neg h, if_neg (by omega), EReal.bot_sub, EReal.bot_sub]
      rfl
  | m + 1, hm, main =>
    show Ideal.exp (z (m + 1) (ix2 r s) - spV (z (m + 1)) (ix2 r s) - _ - _) = _
    rw [spV_apply, hz (m + 1) hm, spK_coe, if_pos (by omega)]
    exact main

include htri hv hi in
theorem acc_apply (r : Fin 256) (l : Fin 128) : ∀ m, m ≤ i + 1 → accR tri z v m (ix3 0 r l)
    = ∑ u ∈ Finset.Ico (256 * (i + 1 - m)) (256 * (i + 1)), ((weight (a r) (256 * i + r.1) u : ℝ) : EReal) * w u l
  | 0, _ => by
    rw [Nat.sub_zero, Finset.Ico_self, Finset.sum_empty]
    show FloatOps.ofBits (F := Ideal) FTy.f32 0#32 = (0 : EReal)
    simp
  | m + 1, hm => by
    show accV _ _ _ _ _ (ix3 0 r l) = _
    rw [accV_apply _ _ _ _ _ _ (fun r l => car_apply tri z i a htri hz r l m (by omega)), acc_apply r l m (by omega)]
    have e1 : 256 * (i + 1 - m) = 256 * (i - m) + 256 := by omega
    have e2 : 256 * (i + 1 - (m + 1)) = 256 * (i - m) := by omega
    rw [e2, ← Finset.sum_Ico_consecutive _ (show 256 * (i - m) ≤ 256 * (i - m) + 256 by omega) (show 256 * (i - m) + 256 ≤ 256 * (i + 1) by omega),
      ← sum_block, add_comm, ← e1]
    congr 1
    refine Finset.sum_congr rfl fun s _ => ?_
    rw [right_apply tri z i a htri hz m (by omega), weight_apply z i a hz hi m (by omega), hv m (by omega)]

include htri hv hi in
/-- All blocks. -/
theorem acc_end (r : Fin 256) (l : Fin 128) : accR tri z v (i + 1) (ix3 0 r l)
    = ∑ u ∈ Finset.range 8192, ((weight (a r) (256 * i + r.1) u : ℝ) : EReal) * w u l := by
  have hr := r.isLt
  rw [acc_apply tri z v i a w htri hz hv hi r l (i + 1) (le_refl _), Nat.sub_self, Finset.range_eq_Ico]
  exact sum_stop _ _ _ _ (by omega) fun u hu => by
    rw [weight_zero _ _ _ (by omega)]
    exact zero_mul _

end

end Cert.AttIdeal.Block

end
-- ==== Proof.Att.Spec.lean ====
module

public import proofs.«01_k».proof.Proof.Att.Math

@[expose] public section

noncomputable section

/-! What the attention computes: each value weighted by its query's weight of its key. -/

namespace Cert.Att

/-- A key, or a query, counted from the sequence's first. -/
def place (u : ℕ) : Fin 8192 := ⟨u % 8192, Nat.mod_lt _ (by decide)⟩

/-- Query `t`'s score of key `u`, of head `h` of batch element `b`: lanes 0..1023 of the array are the queries, lanes
1024..2047 the keys, 64 lanes a head. -/
def score (X : Fin 2 → Fin 8192 → Fin 3072 → EReal) (b : Fin 2) (h : Fin 16) (t u : Fin 8192) : EReal :=
  ∑ d : Fin 64, X b t ⟨64 * h.1 + d.1, by omega⟩ * X b u ⟨1024 + (64 * h.1 + d.1), by omega⟩

/-- The score as a real number. -/
def real (X : Fin 2 → Fin 8192 → Fin 3072 → EReal) (b : Fin 2) (h : Fin 16) (t : Fin 8192) (u : ℕ) : ℝ :=
  (score X b h t (place u)).toReal

/-- Every score is a real number. -/
def Scored (X : Fin 2 → Fin 8192 → Fin 3072 → EReal) : Prop :=
  ∀ b h t u, score X b h t u = ((score X b h t u).toReal : EReal)

/-- The result at lane `l`: the values, in lanes 2048..3071, weighted. -/
def attend (X : Fin 2 → Fin 8192 → Fin 3072 → EReal) (b : Fin 2) (t : Fin 8192) (l : Fin 1024) : EReal :=
  ∑ u ∈ Finset.range 8192, ((weight (real X b ⟨l.1 / 64, by omega⟩ t) t.1 u : ℝ) : EReal) * X b (place u) ⟨2048 + l.1, by omega⟩

/-- Sums of products of reals are real. -/
theorem scored (X : Fin 2 → Fin 8192 → Fin 3072 → EReal)
    (hX : ∀ b t (l : Fin 3072), l.1 < 2048 → ∃ x : ℝ, X b t l = x) : Scored X := by
  intro b h t u
  choose q hq using fun d : Fin 64 => hX b t ⟨64 * h.1 + d.1, by omega⟩ (by show 64 * h.1 + d.1 < 2048; omega)
  choose k hk using fun d : Fin 64 => hX b u ⟨1024 + (64 * h.1 + d.1), by omega⟩ (by show 1024 + (64 * h.1 + d.1) < 2048; omega)
  have e : score X b h t u = ((∑ d, q d * k d : ℝ) : EReal) := by
    unfold score
    rw [coe_sum]
    exact Finset.sum_congr rfl fun d _ => by rw [hq, hk, EReal.coe_mul]
  rw [e, EReal.toReal_coe]

/-- The sum from a key on, counted from that key. -/
theorem sum_from {M : Type*} [AddCommMonoid M] (g : ℕ → M) (s : ℕ) (hs : s ≤ 8192) :
    ∑ k : Fin 8192, (if s + k.1 < 8192 then g (s + k.1) else 0) = ∑ u ∈ Finset.Ico s 8192, g u := by
  rw [Fin.sum_univ_eq_sum_range (fun k => if s + k < 8192 then g (s + k) else 0) 8192, ← Finset.sum_filter,
    Finset.sum_Ico_eq_sum_range]
  refine Finset.sum_congr (Finset.ext fun u => ?_) fun _ _ => rfl
  simp only [Finset.mem_filter, Finset.mem_range]
  omega

end Cert.Att

end
-- ==== Proof.Att.Heads.lean ====
module

public import proofs.«01_k».proof.Proof.Att.Rows
public import proofs.«01_k».proof.Proof.Att.Spec

@[expose] public section

set_option maxRecDepth 16384

noncomputable section

/-! The scores of each head, as sums over its 64 lanes, and the output's lanes. -/

namespace Cert.AttIdeal.Block

open Idealize.ShloMosaic Cert.AttIdeal Cert.AttIdeal.Gen Cert.Att

theorem sum_low (f g : Fin 128 → EReal) : ∑ l : Fin 128, (if l.1 < 64 then f l else 0) * g l
    = ∑ d : Fin 64, f ⟨d.1, by omega⟩ * g ⟨d.1, by omega⟩ := by
  refine (Fin.sum_univ_add (a := 64) (b := 64) fun l : Fin 128 => (if l.1 < 64 then f l else 0) * g l).trans ?_
  have h1 : ∀ d : Fin 64, (if (Fin.castAdd 64 d).1 < 64 then f (Fin.castAdd 64 d) else 0) = f (Fin.castAdd 64 d) := fun d => if_pos d.isLt
  have h2 : ∀ d : Fin 64, (if (Fin.natAdd 64 d).1 < 64 then f (Fin.natAdd 64 d) else 0) = 0 := fun d => if_neg (by simp)
  simp only [h1, h2, zero_mul, Finset.sum_const_zero, add_zero]
  rfl

theorem sum_high (f g : Fin 128 → EReal) : ∑ l : Fin 128, (if l.1 < 64 then 0 else f l) * g l
    = ∑ d : Fin 64, f ⟨64 + d.1, by omega⟩ * g ⟨64 + d.1, by omega⟩ := by
  refine (Fin.sum_univ_add (a := 64) (b := 64) fun l : Fin 128 => (if l.1 < 64 then 0 else f l) * g l).trans ?_
  have h1 : ∀ d : Fin 64, (if (Fin.castAdd 64 d).1 < 64 then 0 else f (Fin.castAdd 64 d)) = 0 := fun d => if_pos d.isLt
  have h2 : ∀ d : Fin 64, (if (Fin.natAdd 64 d).1 < 64 then 0 else f (Fin.natAdd 64 d)) = f (Fin.natAdd 64 d) := fun d => if_neg (by simp)
  simp only [h1, h2, zero_mul, Finset.sum_const_zero, zero_add]
  rfl

/-- Lane `d` of head `h`. -/
def lane (h : Fin 8) (d : Fin 64) : Fin 512 := ⟨64 * h.1 + d.1, by omega⟩

theorem zHead_apply (i : ℕ) (x0 : Vec Ideal S1x256x512 .bf16) (x1 : Vec Ideal S1x8192x512 .bf16) (h : Fin 8) (m : ℕ) (r s : Fin 256) :
    zHead i x0 x1 h m (ix2 r s)
      = ∑ d : Fin 64, x0 (ix3 0 r (lane h d)) * x1 (ix3 0 (place (256 * (i - m) + s.1)) (lane h d)) := by
  have low (p : Fin 4) (h : Fin 8) (e : h.1 = 2 * p.1) : scoreV (padLow (qBlock x0 p)) (kvBlock x1 p (i - m)) (ix2 r s)
      = ∑ d : Fin 64, x0 (ix3 0 r (lane h d)) * x1 (ix3 0 (place (256 * (i - m) + s.1)) (lane h d)) := by
    rw [scoreV_apply]
    simp only [padLow_apply]
    rw [sum_low (fun l => qBlock x0 p (ix3 0 r l)) (fun l => kvBlock x1 p (i - m) (ix3 0 s l))]
    refine Finset.sum_congr rfl fun d _ => congr (congrArg _ ?_) ?_
    · exact congrArg (fun y => x0 (ix3 0 r y)) (Fin.ext (by show 128 * p.1 + d.1 = 64 * h.1 + d.1; omega))
    · exact congrArg (fun y => x1 (ix3 0 (place (256 * (i - m) + s.1)) y)) (Fin.ext (by show 128 * p.1 + d.1 = 64 * h.1 + d.1; omega))
  have high (p : Fin 4) (h : Fin 8) (e : h.1 = 2 * p.1 + 1) : scoreV (padHigh (qBlock x0 p)) (kvBlock x1 p (i - m)) (ix2 r s)
      = ∑ d : Fin 64, x0 (ix3 0 r (lane h d)) * x1 (ix3 0 (place (256 * (i - m) + s.1)) (lane h d)) := by
    rw [scoreV_apply]
    simp only [padHigh_apply]
    rw [sum_high (fun l => qBlock x0 p (ix3 0 r l)) (fun l => kvBlock x1 p (i - m) (ix3 0 s l))]
    refine Finset.sum_congr rfl fun d _ => congr (congrArg _ ?_) ?_
    · exact congrArg (fun y => x0 (ix3 0 r y)) (Fin.ext (by show 128 * p.1 + (64 + d.1) = 64 * h.1 + d.1; omega))
    · exact congrArg (fun y => x1 (ix3 0 (place (256 * (i - m) + s.1)) y)) (Fin.ext (by show 128 * p.1 + (64 + d.1) = 64 * h.1 + d.1; omega))
  match h with
  | ⟨0, _⟩ => exact low 0 0 rfl
  | ⟨1, _⟩ => exact high 0 1 rfl
  | ⟨2, _⟩ => exact low 1 2 rfl
  | ⟨3, _⟩ => exact high 1 3 rfl
  | ⟨4, _⟩ => exact low 2 4 rfl
  | ⟨5, _⟩ => exact high 2 5 rfl
  | ⟨6, _⟩ => exact low 3 6 rfl
  | ⟨7, _⟩ => exact high 3 7 rfl

/-- What the body stores, at a lane, of the eight heads' weighted values. -/
theorem pay_apply (A : Fin 8 → Vec Ideal S1x256x128 .f32) (r : Fin 256) (L : Fin 512) :
    k0_pay1 (k0_pay289 lowV (shapeCast S256x128 (A 0) shapeCasts_S1x256x128_S256x128) (A 1) (A 2) (A 3) (A 4) (A 5) (A 6) (A 7)) (ix3 0 r L)
      = A ⟨L.1 / 64, by omega⟩ (ix3 0 r ⟨L.1 % 128, by omega⟩) := by
  pointwise [k0_pay1, k0_pay289]
  have hL := L.isLt
  have hh : L.1 / 64 < 8 := by omega
  have hl : L.1 % 128 < 128 := by omega
  have same (h : Fin 8) (l : Fin 128) (e1 : L.1 / 64 = h.1) (e2 : L.1 % 128 = l.1) :
      A h (ix3 0 r l) = A ⟨L.1 / 64, hh⟩ (ix3 0 r ⟨L.1 % 128, hl⟩) := by
    obtain rfl : (⟨L.1 / 64, hh⟩ : Fin 8) = h := Fin.ext e1
    obtain rfl : (⟨L.1 % 128, hl⟩ : Fin 128) = l := Fin.ext e2
    rfl
  by_cases h1 : L.1 < 128
  · rw [dif_pos h1, low_apply, select_lt]
    by_cases h : L.1 < 64
    · rw [if_pos h]; exact same 0 _ (by show L.1 / 64 = 0; omega) (by show L.1 % 128 = L.1; omega)
    · rw [if_neg h]; exact same 1 _ (by show L.1 / 64 = 1; omega) (by show L.1 % 128 = L.1; omega)
  rw [dif_neg h1]
  by_cases h2 : L.1 - 128 < 128
  · rw [dif_pos h2, low_apply, select_lt]
    by_cases h : L.1 - 128 < 64
    · rw [if_pos h]; exact same 2 _ (by show L.1 / 64 = 2; omega) (by show L.1 % 128 = L.1 - 128; omega)
    · rw [if_neg h]; exact same 3 _ (by show L.1 / 64 = 3; omega) (by show L.1 % 128 = L.1 - 128; omega)
  rw [dif_neg h2]
  by_cases h3 : L.1 - 128 - 128 < 128
  · rw [dif_pos h3, low_apply, select_lt]
    by_cases h : L.1 - 128 - 128 < 64
    · rw [if_pos h]; exact same 4 _ (by show L.1 / 64 = 4; omega) (by show L.1 % 128 = L.1 - 128 - 128; omega)
    · rw [if_neg h]; exact same 5 _ (by show L.1 / 64 = 5; omega) (by show L.1 % 128 = L.1 - 128 - 128; omega)
  rw [dif_neg h3, low_apply, select_lt]
  by_cases h : L.1 - 128 - 128 - 128 < 64
  · rw [if_pos h]; exact same 6 _ (by show L.1 / 64 = 6; omega) (by show L.1 % 128 = L.1 - 128 - 128 - 128; omega)
  · rw [if_neg h]; exact same 7 _ (by show L.1 / 64 = 7; omega) (by show L.1 % 128 = L.1 - 128 - 128 - 128; omega)

end Cert.AttIdeal.Block

end
-- ==== Proof.Att.Loop.lean ====
module

public import proofs.«01_k».proof.Proof.Att.State

@[expose] public section

set_option maxRecDepth 16384

noncomputable section

/-! What the loop over the earlier blocks of keys has done after each trip. -/

namespace Cert.AttIdeal.Block

open Idealize.ShloMosaic Idealize.ShloMosaic.TcCoe Cert.AttIdeal Cert.AttIdeal.Gen

/-- One trip's stores from the contents after `k` trips. -/
def tripD (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : Fin (k0_t1_loop i).trips) (acc : BitVec 32) := tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 Own.any Own.any Own.any Own.any Own.any (harg4.unread x1) (harg5.unread x2) (harg6.unread x3) (F8 arg3 harg3 arg8 x0) k acc (E9 c i arg3 harg3 arg4 harg4 arg5 harg5 arg6 harg6 arg7 harg7 arg8 harg8 arg9 harg9 arg10 harg10 arg11 harg11 arg12 harg12 arg13 harg13 x0 x1 x2 x3 k.val) (E10 c i arg3 harg3 arg4 harg4 arg5 harg5 arg6 harg6 arg7 harg7 arg8 harg8 arg9 harg9 arg10 harg10 arg11 harg11 arg12 harg12 arg13 harg13 x0 x1 x2 x3 k.val) (E11 c i arg3 harg3 arg4 harg4 arg5 harg5 arg6 harg6 arg7 harg7 arg8 harg8 arg9 harg9 arg10 harg10 arg11 harg11 arg12 harg12 arg13 harg13 x0 x1 x2 x3 k.val) (E12 c i arg3 harg3 arg4 harg4 arg5 harg5 arg6 harg6 arg7 harg7 arg8 harg8 arg9 harg9 arg10 harg10 arg11 harg11 arg12 harg12 arg13 harg13 x0 x1 x2 x3 k.val) (E13 c i arg3 harg3 arg4 harg4 arg5 harg5 arg6 harg6 arg7 harg7 arg8 harg8 arg9 harg9 arg10 harg10 arg11 harg11 arg12 harg12 arg13 harg13 x0 x1 x2 x3 k.val)

theorem E_succ (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : Fin (k0_t1_loop i).trips) : ∃ acc : BitVec 32,
    (E9 c i arg3 harg3 arg4 harg4 arg5 harg5 arg6 harg6 arg7 harg7 arg8 harg8 arg9 harg9 arg10 harg10 arg11 harg11 arg12 harg12 arg13 harg13 x0 x1 x2 x3 (k.val + 1)) = arg9.view.writes (Elt Ideal) (E9 c i arg3 harg3 arg4 harg4 arg5 harg5 arg6 harg6 arg7 harg7 arg8 harg8 arg9 harg9 arg10 harg10 arg11 harg11 arg12 harg12 arg13 harg13 x0 x1 x2 x3 k.val) (tripD c i arg3 harg3 arg4 harg4 arg5 harg5 arg6 harg6 arg7 harg7 arg8 harg8 arg9 harg9 arg10 harg10 arg11 harg11 arg12 harg12 arg13 harg13 x0 x1 x2 x3 k acc).1 ∧ (E10 c i arg3 harg3 arg4 harg4 arg5 harg5 arg6 harg6 arg7 harg7 arg8 harg8 arg9 harg9 arg10 harg10 arg11 harg11 arg12 harg12 arg13 harg13 x0 x1 x2 x3 (k.val + 1)) = arg10.view.writes (Elt Ideal) (E10 c i arg3 harg3 arg4 harg4 arg5 harg5 arg6 harg6 arg7 harg7 arg8 harg8 arg9 harg9 arg10 harg10 arg11 harg11 arg12 harg12 arg13 harg13 x0 x1 x2 x3 k.val) (tripD c i arg3 harg3 arg4 harg4 arg5 harg5 arg6 harg6 arg7 harg7 arg8 harg8 arg9 harg9 arg10 harg10 arg11 harg11 arg12 harg12 arg13 harg13 x0 x1 x2 x3 k acc).2.1 ∧ (E11 c i arg3 harg3 arg4 harg4 arg5 harg5 arg6 harg6 arg7 harg7 arg8 harg8 arg9 harg9 arg10 harg10 arg11 harg11 arg12 harg12 arg13 harg13 x0 x1 x2 x3 (k.val + 1)) = arg11.view.writes (Elt Ideal) (E11 c i arg3 harg3 arg4 harg4 arg5 harg5 arg6 harg6 arg7 harg7 arg8 harg8 arg9 harg9 arg10 harg10 arg11 harg11 arg12 harg12 arg13 harg13 x0 x1 x2 x3 k.val) (tripD c i arg3 harg3 arg4 harg4 arg5 harg5 arg6 harg6 arg7 harg7 arg8 harg8 arg9 harg9 arg10 harg10 arg11 harg11 arg12 harg12 arg13 harg13 x0 x1 x2 x3 k acc).2.2.1 ∧ (E12 c i arg3 harg3 arg4 harg4 arg5 harg5 arg6 harg6 arg7 harg7 arg8 harg8 arg9 harg9 arg10 harg10 arg11 harg11 arg12 harg12 arg13 harg13 x0 x1 x2 x3 (k.val + 1)) = arg12.view.writes (Elt Ideal) (E12 c i arg3 harg3 arg4 harg4 arg5 harg5 arg6 harg6 arg7 harg7 arg8 harg8 arg9 harg9 arg10 harg10 arg11 harg11 arg12 harg12 arg13 harg13 x0 x1 x2 x3 k.val) (tripD c i arg3 harg3 arg4 harg4 arg5 harg5 arg6 harg6 arg7 harg7 arg8 harg8 arg9 harg9 arg10 harg10 arg11 harg11 arg12 harg12 arg13 harg13 x0 x1 x2 x3 k acc).2.2.2.1 ∧ (E13 c i arg3 harg3 arg4 harg4 arg5 harg5 arg6 harg6 arg7 harg7 arg8 harg8 arg9 harg9 arg10 harg10 arg11 harg11 arg12 harg12 arg13 harg13 x0 x1 x2 x3 (k.val + 1)) = arg13.view.writes (Elt Ideal) (E13 c i arg3 harg3 arg4 harg4 arg5 harg5 arg6 harg6 arg7 harg7 arg8 harg8 arg9 harg9 arg10 harg10 arg11 harg11 arg12 harg12 arg13 harg13 x0 x1 x2 x3 k.val) (tripD c i arg3 harg3 arg4 harg4 arg5 harg5 arg6 harg6 arg7 harg7 arg8 harg8 arg9 harg9 arg10 harg10 arg11 harg11 arg12 harg12 arg13 harg13 x0 x1 x2 x3 k acc).2.2.2.2 := by
  refine ⟨(stD c i arg3 harg3 arg4 harg4 arg5 harg5 arg6 harg6 arg7 harg7 arg8 harg8 arg9 harg9 arg10 harg10 arg11 harg11 arg12 harg12 arg13 harg13 x0 x1 x2 x3 k.val).1, ?_, ?_, ?_, ?_, ?_⟩

  · unfold tripD E9 E10 E11 E12 E13
    rw [View.writes_append, View.writes_append, View.writes_append, View.writes_append, View.writes_append, View.writes_append]
    unfold stD
    rw [st_k0_t1_succ]
    exact View.writes_append ..
  · unfold tripD E9 E10 E11 E12 E13
    rw [View.writes_append, View.writes_append, View.writes_append, View.writes_append, View.writes_append, View.writes_append]
    unfold stD
    rw [st_k0_t1_succ]
    exact View.writes_append ..
  · unfold tripD E9 E10 E11 E12 E13
    rw [View.writes_append, View.writes_append, View.writes_append, View.writes_append, View.writes_append, View.writes_append]
    unfold stD
    rw [st_k0_t1_succ]
    exact View.writes_append ..
  · unfold tripD E9 E10 E11 E12 E13
    rw [View.writes_append, View.writes_append, View.writes_append, View.writes_append, View.writes_append, View.writes_append]
    unfold stD
    rw [st_k0_t1_succ]
    exact View.writes_append ..
  · unfold tripD E9 E10 E11 E12 E13
    rw [View.writes_append, View.writes_append, View.writes_append, View.writes_append, View.writes_append, View.writes_append]
    unfold stD
    rw [st_k0_t1_succ]
    exact View.writes_append ..

theorem ld_tri (arg6 : Memref sig .tc .vmem S256x256 .bf16) (harg6 : arg6.IsWhole) (x : Vec Ideal S256x256 .bf16) : ld arg6.view (harg6.unread x) = x := by
  funext y
  refine (harg6.readAt_unread x (Rect.unit (s := S256x256) ![0, 0] S256x256.size inb_S256x256_S256x256_0_0).toLoadRect y).trans
    (congrArg x (funext fun a => Fin.ext ?_))
  match a with
  | ⟨0, _⟩ => show 0 + 1 * (y 0).val = (y 0).val; omega
  | ⟨1, _⟩ => show 0 + 1 * (y 1).val = (y 1).val; omega

/-- After `k` trips. -/
def Inv (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : ℕ) : Prop :=
    (∀ h : Fin 8, ld8 arg9.view (E9 c i arg3 harg3 arg4 harg4 arg5 harg5 arg6 harg6 arg7 harg7 arg8 harg8 arg9 harg9 arg10 harg10 arg11 harg11 arg12 harg12 arg13 harg13 x0 x1 x2 x3 k) h = accR x3 (zHead (i 2).val x0 x1 h) (vHead (i 2).val x2 h) (if h.1 < 7 then k + 1 else k))
    ∧ (∀ h : Fin 8, ld8 arg10.view (E10 c i arg3 harg3 arg4 harg4 arg5 harg5 arg6 harg6 arg7 harg7 arg8 harg8 arg9 harg9 arg10 harg10 arg11 harg11 arg12 harg12 arg13 harg13 x0 x1 x2 x3 k) h = carR x3 (zHead (i 2).val x0 x1 h) (if h.1 < 7 then k + 1 else k))
    ∧ ld2 arg11.view (E11 c i arg3 harg3 arg4 harg4 arg5 harg5 arg6 harg6 arg7 harg7 arg8 harg8 arg9 harg9 arg10 harg10 arg11 harg11 arg12 harg12 arg13 harg13 x0 x1 x2 x3 k) 0 = shapeCast S1x256x256 ((zHead (i 2).val x0 x1 0) (k + 1)) shapeCasts_S256x256_S1x256x256
    ∧ ld2 arg11.view (E11 c i arg3 harg3 arg4 harg4 arg5 harg5 arg6 harg6 arg7 harg7 arg8 harg8 arg9 harg9 arg10 harg10 arg11 harg11 arg12 harg12 arg13 harg13 x0 x1 x2 x3 k) 1 = shapeCast S1x256x256 ((zHead (i 2).val x0 x1 1) (k + 1)) shapeCasts_S256x256_S1x256x256
    ∧ ld arg12.view (E12 c i arg3 harg3 arg4 harg4 arg5 harg5 arg6 harg6 arg7 harg7 arg8 harg8 arg9 harg9 arg10 harg10 arg11 harg11 arg12 harg12 arg13 harg13 x0 x1 x2 x3 k) = spAt (zHead (i 2).val x0 x1 7) k
    ∧ ld arg13.view (E13 c i arg3 harg3 arg4 harg4 arg5 harg5 arg6 harg6 arg7 harg7 arg8 harg8 arg9 harg9 arg10 harg10 arg11 harg11 arg12 harg12 arg13 harg13 x0 x1 x2 x3 k) = lsAt (zHead (i 2).val x0 x1 7) k

theorem inv_zero (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : Inv c i arg3 harg3 arg4 harg4 arg5 harg5 arg6 harg6 arg7 harg7 arg8 harg8 arg9 harg9 arg10 harg10 arg11 harg11 arg12 harg12 arg13 harg13 x0 x1 x2 x3 0 := by
  have hi : (i 2).val < 32 := (i 2).isLt
  have hz : zD i arg3 harg3 arg4 harg4 arg8 arg11 x0 x1 = fun h => zHead (i 2).val x0 x1 h 0 := funext fun h => zD_eq ..
  have hv : ldD i arg5 harg5 x2 = fun p => kvBlock x2 p (i 2).val := funext fun p => ldD_eq ..
  refine ⟨fun h => ?_, fun h => ?_, ?_, ?_, ?_, ?_⟩
  · show ld8 arg9.view (arg9.view.writes (Elt Ideal) arg9.view.junk (D9 c i arg3 harg3 arg4 harg4 arg5 harg5 arg6 harg6 arg7 harg7 arg8 harg8 arg9 harg9 arg10 harg10 arg11 harg11 arg12 harg12 arg13 harg13 x0 x1 x2 x3)) h = _
    unfold D9
    rw [hz, hv, ld_tri]
    exact P9_spec arg9 arg10 x3 (zHead (i 2).val x0 x1) _ (vHead (i 2).val x2) (fun _ => rfl) h 7 (by omega)
  · show ld8 arg10.view (arg10.view.writes (Elt Ideal) arg10.view.junk (D10 c i arg3 harg3 arg4 harg4 arg5 harg5 arg6 harg6 arg7 harg7 arg8 harg8 arg9 harg9 arg10 harg10 arg11 harg11 arg12 harg12 arg13 harg13 x0 x1 x2 x3)) h = _
    unfold D10
    rw [hz, ld_tri]
    exact P10_spec arg10 x3 (zHead (i 2).val x0 x1) h 7 (by omega)
  · show ld2 arg11.view (arg11.view.writes (Elt Ideal) arg11.view.junk (D11 c i arg3 harg3 arg4 harg4 arg5 harg5 arg6 harg6 arg7 harg7 arg8 harg8 arg9 harg9 arg10 harg10 arg11 harg11 arg12 harg12 arg13 harg13 x0 x1 x2 x3)) 0 = _
    unfold D11
    rw [ld8_queries, ld8_queries, ldKV_eq arg4 harg4 x1 0 ((i 2).val - 1) (by omega) _ _ (off5_eq i)]
    exact (ld2_two _ _ _ _ _).1
  · show ld2 arg11.view (arg11.view.writes (Elt Ideal) arg11.view.junk (D11 c i arg3 harg3 arg4 harg4 arg5 harg5 arg6 harg6 arg7 harg7 arg8 harg8 arg9 harg9 arg10 harg10 arg11 harg11 arg12 harg12 arg13 harg13 x0 x1 x2 x3)) 1 = _
    unfold D11
    rw [ld8_queries, ld8_queries, ldKV_eq arg4 harg4 x1 0 ((i 2).val - 1) (by omega) _ _ (off5_eq i)]
    exact (ld2_two _ _ _ _ _).2
  · show ld arg12.view (arg12.view.writes (Elt Ideal) arg12.view.junk (D12 c i arg3 harg3 arg4 harg4 arg5 harg5 arg6 harg6 arg7 harg7 arg8 harg8 arg9 harg9 arg10 harg10 arg11 harg11 arg12 harg12 arg13 harg13 x0 x1 x2 x3)) = _
    unfold D12
    rw [hz]
    exact ld_full ..
  · show ld arg13.view (arg13.view.writes (Elt Ideal) arg13.view.junk (D13 c i arg3 harg3 arg4 harg4 arg5 harg5 arg6 harg6 arg7 harg7 arg8 harg8 arg9 harg9 arg10 harg10 arg11 harg11 arg12 harg12 arg13 harg13 x0 x1 x2 x3)) = _
    unfold D13
    rw [hz]
    exact ld_full ..

theorem inv_succ (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (k : Fin (k0_t1_loop i).trips) (hk : Inv c i arg3 harg3 arg4 harg4 arg5 harg5 arg6 harg6 arg7 harg7 arg8 harg8 arg9 harg9 arg10 harg10 arg11 harg11 arg12 harg12 arg13 harg13 x0 x1 x2 x3 k.val) : Inv c i arg3 harg3 arg4 harg4 arg5 harg5 arg6 harg6 arg7 harg7 arg8 harg8 arg9 harg9 arg10 harg10 arg11 harg11 arg12 harg12 arg13 harg13 x0 x1 x2 x3 (k.val + 1) := by
  have hi : (i 2).val < 32 := (i 2).isLt
  obtain ⟨acc, h9, h10, h11, h12, h13⟩ := E_succ c i arg3 harg3 arg4 harg4 arg5 harg5 arg6 harg6 arg7 harg7 arg8 harg8 arg9 harg9 arg10 harg10 arg11 harg11 arg12 harg12 arg13 harg13 x0 x1 x2 x3 k
  obtain ⟨g9, g10, g110, g111, g12, g13⟩ := hk
  unfold tripD at h9 h10 h11 h12 h13
  rw [trip_stores, ld_tri] at h9 h10 h11 h12 h13
  simp only [ld8_queries, g9, g10, g110, g111, g12, g13, ldFirst_eq, shapeCast_shapeCast,
    ldKV_eq arg4 harg4 x1 1 ((i 2).val - (k.val + 1)) (by omega) _ _ (off6_eq i k),
    ldKV_eq arg4 harg4 x1 2 ((i 2).val - (k.val + 1)) (by omega) _ _ (off9_eq i k),
    ldKV_eq arg4 harg4 x1 3 ((i 2).val - (k.val + 1)) (by omega) _ _ (off10_eq i k),
    ldKV_eq arg4 harg4 x1 0 ((i 2).val - (k.val + 2)) (by omega) _ _ (off11_eq i k),
    ldKV_eq arg5 harg5 x2 0 ((i 2).val - (k.val + 1)) (by omega) _ _ (off8_eq i k),
    ldKV_eq arg5 harg5 x2 1 ((i 2).val - (k.val + 1)) (by omega) _ _ (off6_eq i k),
    ldKV_eq arg5 harg5 x2 2 ((i 2).val - (k.val + 1)) (by omega) _ _ (off9_eq i k),
    ldKV_eq arg5 harg5 x2 3 ((i 2).val - (k.val + 1)) (by omega) _ _ (off10_eq i k),
    ldKV_eq arg5 harg5 x2 3 ((i 2).val - k.val) (by omega) _ _ (off7_eq i k)] at h9 h10 h11 h12 h13
  refine ⟨fun h => ?_, fun h => ?_, ?_, ?_, ?_, ?_⟩
  · rw [h9]
    exact ld8_eight arg9.view _ (fun h => accR x3 (zHead (i 2).val x0 x1 h) (vHead (i 2).val x2 h) (if h.1 < 7 then k.val + 1 + 1 else k.val + 1)) h
  · rw [h10]
    exact ld8_eight arg10.view _ (fun h => carR x3 (zHead (i 2).val x0 x1 h) (if h.1 < 7 then k.val + 1 + 1 else k.val + 1)) h
  · rw [h11]
    exact (ld2_two _ _ _ _ _).1
  · rw [h11]
    exact (ld2_two _ _ _ _ _).2
  · rw [h12]
    exact ld_full ..
  · rw [h13]
    exact ld_full ..

theorem inv (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) : ∀ k, k ≤ (k0_t1_loop i).trips → Inv c i arg3 harg3 arg4 harg4 arg5 harg5 arg6 harg6 arg7 harg7 arg8 harg8 arg9 harg9 arg10 harg10 arg11 harg11 arg12 harg12 arg13 harg13 x0 x1 x2 x3 k
  | 0, _ => inv_zero ..
  | k + 1, h => inv_succ c i arg3 harg3 arg4 harg4 arg5 harg5 arg6 harg6 arg7 harg7 arg8 harg8 arg9 harg9 arg10 harg10 arg11 harg11 arg12 harg12 arg13 harg13 x0 x1 x2 x3 ⟨k, h⟩ (inv c i arg3 harg3 arg4 harg4 arg5 harg5 arg6 harg6 arg7 harg7 arg8 harg8 arg9 harg9 arg10 harg10 arg11 harg11 arg12 harg12 arg13 harg13 x0 x1 x2 x3 k (by omega))

/-- The weighted values at the end: of all the blocks up to the queries'. -/
theorem end_acc (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (h : Fin 8) : ld8 arg9.view (E9' c i arg3 harg3 arg4 harg4 arg5 harg5 arg6 harg6 arg7 harg7 arg8 harg8 arg9 harg9 arg10 harg10 arg11 harg11 arg12 harg12 arg13 harg13 x0 x1 x2 x3) h = accR x3 (zHead (i 2).val x0 x1 h) (vHead (i 2).val x2 h) ((i 2).val + 1) := by
  obtain ⟨g9, g10, g110, g111, g12, g13⟩ := inv c i arg3 harg3 arg4 harg4 arg5 harg5 arg6 harg6 arg7 harg7 arg8 harg8 arg9 harg9 arg10 harg10 arg11 harg11 arg12 harg12 arg13 harg13 x0 x1 x2 x3 _ (le_refl _)
  unfold E9'
  by_cases h7 : h = 7
  · subst h7
    refine (ld8_hit ..).trans ?_
    unfold last
    rw [g9, g10, g12, g13, ld_tri, ldKV_eq arg5 harg5 x2 3 0 (by omega) ![0, 0, 384] inb0 rfl, if_neg (by decide), trips_eq]
    show _ = accV _ _ _ _ (kvBlock x2 3 ((i 2).val - (i 2).val))
    rw [Nat.sub_self]
  · have hlt : h.1 < 7 := by have := h.isLt; have : h.1 ≠ 7 := fun h' => h7 (Fin.ext h'); omega
    refine (ld8_miss _ _ h 7 _ _ h7).trans ((g9 h).trans ?_)
    rw [if_pos hlt, trips_eq]

end Cert.AttIdeal.Block

end
-- ==== Proof.Att.Array.lean ====
module

public import proofs.«01_k».proof.Proof.Att.Heads
public import proofs.«01_k».proof.Proof.Att.Loop
public import proofs.«01_k».proof.Proof.Att.FrameIdeal
public import Idealize.ShloMosaic.Lib.Pipeline.Value

@[expose] public section

set_option maxRecDepth 16384

noncomputable section

/-! The attention call's result array, read at an index: rows `256 i + r` of batch element `b`, lanes `512 g + L`, are
written by grid point `(b, g, i)`. -/

namespace Cert.AttIdeal.Block

open Idealize.ShloMosaic Idealize.ShloMosaic.TcCoe Idealize.SL.Sem Cert.AttIdeal Cert.AttIdeal.Gen Cert.Att
open Cert.AttIdeal.Own (dats A_eq outsAt0 out0_A_4 after0_4 run_main)

variable (m : (ℓ : Loc nD τ sig) → Buf (Elt Ideal) ℓ) (ρ : Dev nD → PrngReg)

theorem flushed4 (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

/-- Two points write different blocks. -/
theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (c : Dev nD) (t : Fin cfg0.N) (hf : (cfg0.win 4).flush t = true) :
    ((cfg0.win 4).blk t).view.read (Elt Ideal) ((dats m 0 c).arrAt 4 cfg0.N) = (dats m 0 c).flushed 4 t :=
  (dats m 0 c).read_blk_arrAt_eq_flushed 4 disjoint4 cfg0.N t t.isLt hf

/-- Every run ends with the result array at the blocks written, and the argument as it was. -/
theorem run_blocks : θ_run defs (onTc (τ := τ) (main (F := Ideal))) ⟨m, fun _ => 0, ρ⟩ fun r => ∀ c : Dev nD,
      r.2.mem ((c : Thread nD τ).loc main_v4) = (dats m 0 c).arrAt 4 cfg0.N
      ∧ r.2.mem ((c : Thread nD τ).loc main_arg0) = m ((c : Thread nD τ).loc main_arg0) :=
  (θ_run defs _ _).mono (fun r h c => ⟨(h c).1 4,
    ((h c).1 2).trans (((dats m 0 c).arrAt_in 2 rfl _).trans ((A_eq m c 2).trans (V_main_arg0 m c)))⟩) (run_main m ρ)

/-- The staged triangle: 1 where the row lies after the column. -/
theorem V_main_v3 (c : Dev nD) (u s : Fin 256) :
    (V m c main_v3 : Vec Ideal S256x256 .bf16) (ix2 u s) = (if s.1 < u.1 then (1 : EReal) else 0) := by
  have h : (V m c main_v3 : Vec Ideal S256x256 .bf16)
      = uitofp (F := Ideal) .bf16 (cmpi .sgt (iotaInDim S256x256 32 0) (iotaInDim S256x256 32 1)) := by
    simp only [V, hostOps0, List.flatten_cons, List.flatten_nil, List.append_nil, List.cons_append, List.nil_append]
    after_results_simp <;> rfl
  rw [h]
  show ((((IntOp.cmpi .sgt (BitVec.ofNat 32 u.1) (BitVec.ofNat 32 s.1)).toNat : ℝ) : EReal)) = _
  rw [show IntOp.cmpi .sgt (BitVec.ofNat 32 u.1) (BitVec.ofNat 32 s.1) = IntOp.cmpi .slt (BitVec.ofNat 32 s.1) (BitVec.ofNat 32 u.1) from rfl,
    WordCmp.cmpi_slt_ofNat (by have := s.isLt; omega) (by have := u.isLt; omega)]
  by_cases hsu : s.1 < u.1 <;> simp [hsu]

/-- Where each window's block lies at point `t`. -/
theorem idx_facts : ∀ t : Fin cfg0.N,
    win0_0.index t (0 : Fin 3) = t.val / 64 ∧ win0_0.index t (1 : Fin 3) = t.val % 32 ∧ win0_0.index t (2 : Fin 3) = t.val / 32 % 2
    ∧ win0_1.index t (0 : Fin 3) = t.val / 64 ∧ win0_1.index t (1 : Fin 3) = 0 ∧ win0_1.index t (2 : Fin 3) = 2 + t.val / 32 % 2
    ∧ win0_2.index t (0 : Fin 3) = t.val / 64 ∧ win0_2.index t (1 : Fin 3) = 0 ∧ win0_2.index t (2 : Fin 3) = 4 + t.val / 32 % 2
    ∧ win0_3.index t (0 : Fin 2) = 0 ∧ win0_3.index t (1 : Fin 2) = 0
    ∧ win0_4.index t (0 : Fin 3) = t.val / 64 ∧ win0_4.index t (1 : Fin 3) = t.val % 32 ∧ win0_4.index t (2 : Fin 3) = t.val / 32 % 2
    ∧ (cfg0.win 4).flush t = true ∧ (grid0.coords t 2).val = t.val % 32 :=
  (by decide +kernel : ∀ t : Fin grid0.N, _)

/-- The batch element of point `t`, its group of heads, and row `r` of its tile. -/
abbrev bat (t : Fin 128) : Fin 2 := ⟨t.val / 64, by omega⟩
abbrev pos (t : Fin 128) (r : Fin 256) : Fin 8192 := ⟨256 * (t.val % 32) + r.val, by omega⟩

theorem emb4 (t : Fin 128) (r : Fin 256) (L : Fin 512) :
    ((cfg0.win 4).blk t).view.emb (ix3 0 r L) = ix3 (bat t) (pos t r) (⟨512 * (t.val / 32 % 2) + L.val, by omega⟩ : Fin 1024) := by
  obtain ⟨-, -, -, -, -, -, -, -, -, -, -, e0, e1, e2, -⟩ := idx_facts t
  funext a; apply Fin.ext
  match a with
  | ⟨0, _⟩ => show win0_4.index t (0 : Fin 3) * 1 + 1 * 0 = t.val / 64; omega
  | ⟨1, _⟩ => show win0_4.index t (1 : Fin 3) * 256 + 1 * r.val = 256 * (t.val % 32) + r.val; omega
  | ⟨2, _⟩ => show win0_4.index t (2 : Fin 3) * 512 + 1 * L.val = 512 * (t.val / 32 % 2) + L.val; omega

theorem iblk0_apply (c : Dev nD) (t : Fin 128) (r : Fin 256) (L : Fin 512) :
    iblk m c 0 t (ix3 0 r L) = m ((c : Thread nD τ).loc main_arg0) (ix3 (bat t) (pos t r) (⟨512 * (t.val / 32 % 2) + L.val, by omega⟩ : Fin 3072)) := by
  have e : ((cfg0.win 0).blk t).view.emb (ix3 0 r L) = ix3 (bat t) (pos t r) (⟨512 * (t.val / 32 % 2) + L.val, by omega⟩ : Fin 3072) := by
    obtain ⟨e0, e1, e2, -⟩ := idx_facts t
    funext a; apply Fin.ext
    match a with
    | ⟨0, _⟩ => show win0_0.index t (0 : Fin 3) * 1 + 1 * 0 = t.val / 64; omega
    | ⟨1, _⟩ => show win0_0.index t (1 : Fin 3) * 256 + 1 * r.val = 256 * (t.val % 32) + r.val; omega
    | ⟨2, _⟩ => show win0_0.index t (2 : Fin 3) * 512 + 1 * L.val = 512 * (t.val / 32 % 2) + L.val; omega
  show V m c main_arg0 (((cfg0.win 0).blk t).view.emb (ix3 0 r L)) = _
  rw [e, V_main_arg0]

theorem iblk1_apply (c : Dev nD) (t : Fin 128) (u : Fin 8192) (L : Fin 512) :
    iblk m c 1 t (ix3 0 u L) = m ((c : Thread nD τ).loc main_arg0) (ix3 (bat t) u (⟨1024 + (512 * (t.val / 32 % 2) + L.val), by omega⟩ : Fin 3072)) := by
  have e : ((cfg0.win 1).blk t).view.emb (ix3 0 u L) = ix3 (bat t) u (⟨1024 + (512 * (t.val / 32 % 2) + L.val), by omega⟩ : Fin 3072) := by
    obtain ⟨-, -, -, e0, e1, e2, -⟩ := idx_facts t
    funext a; apply Fin.ext
    match a with
    | ⟨0, _⟩ => show win0_1.index t (0 : Fin 3) * 1 + 1 * 0 = t.val / 64; omega
    | ⟨1, _⟩ => show win0_1.index t (1 : Fin 3) * 8192 + 1 * u.val = u.val; omega
    | ⟨2, _⟩ => show win0_1.index t (2 : Fin 3) * 512 + 1 * L.val = 1024 + (512 * (t.val / 32 % 2) + L.val); omega
  show V m c main_arg0 (((cfg0.win 1).blk t).view.emb (ix3 0 u L)) = _
  rw [e, V_main_arg0]

theorem iblk2_apply (c : Dev nD) (t : Fin 128) (u : Fin 8192) (L : Fin 512) :
    iblk m c 2 t (ix3 0 u L) = m ((c : Thread nD τ).loc main_arg0) (ix3 (bat t) u (⟨2048 + (512 * (t.val / 32 % 2) + L.val), by omega⟩ : Fin 3072)) := by
  have e : ((cfg0.win 2).blk t).view.emb (ix3 0 u L) = ix3 (bat t) u (⟨2048 + (512 * (t.val / 32 % 2) + L.val), by omega⟩ : Fin 3072) := by
    obtain ⟨-, -, -, -, -, -, e0, e1, e2, -⟩ := idx_facts t
    funext a; apply Fin.ext
    match a with
    | ⟨0, _⟩ => show win0_2.index t (0 : Fin 3) * 1 + 1 * 0 = t.val / 64; omega
    | ⟨1, _⟩ => show win0_2.index t (1 : Fin 3) * 8192 + 1 * u.val = u.val; omega
    | ⟨2, _⟩ => show win0_2.index t (2 : Fin 3) * 512 + 1 * L.val = 2048 + (512 * (t.val / 32 % 2) + L.val); omega
  show V m c main_arg0 (((cfg0.win 2).blk t).view.emb (ix3 0 u L)) = _
  rw [e, V_main_arg0]

theorem iblk3_apply (c : Dev nD) (t : Fin 128) (u s : Fin 256) :
    iblk m c 3 t (ix2 u s) = (if s.1 < u.1 then (1 : EReal) else 0) := by
  have e : ((cfg0.win 3).blk t).view.emb (ix2 u s) = ix2 u s := by
    obtain ⟨-, -, -, -, -, -, -, -, -, e0, e1, -⟩ := idx_facts t
    funext a; apply Fin.ext
    match a with
    | ⟨0, _⟩ => show win0_3.index t (0 : Fin 2) * 256 + 1 * u.val = u.val; omega
    | ⟨1, _⟩ => show win0_3.index t (1 : Fin 2) * 256 + 1 * s.val = s.val; omega
  show V m c main_v3 (((cfg0.win 3).blk t).view.emb (ix2 u s)) = _
  rw [e, V_main_v3]

/-- What the body stores, at a lane: what head `L / 64` has gathered. -/
theorem out_apply (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S256x256 .bf16) (harg6 : arg6.IsWhole) (arg7 : Memref sig .tc .vmem S1x256x512 .bf16) (harg7 : arg7.IsWhole) (arg8 : Memref sig .tc .vmem S8x256x128 .bf16) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S2x256x256 .f32) (harg11 : arg11.IsWhole) (arg12 : Memref sig .tc .vmem S256x256 .bf16) (harg12 : arg12.IsWhole) (arg13 : Memref sig .tc .vmem S256x256 .f32) (harg13 : arg13.IsWhole) (x0 : Vec Ideal S1x256x512 .bf16) (x1 x2 : Vec Ideal S1x8192x512 .bf16) (x3 : Vec Ideal S256x256 .bf16) (r : Fin 256) (L : Fin 512) :
    out0_A_4 c i arg3 harg3 arg4 harg4 arg5 harg5 arg6 harg6 arg7 harg7 arg8 harg8 arg9 harg9 arg10 harg10 arg11 harg11 arg12 harg12 arg13 harg13 x0 x1 x2 x3 (ix3 0 r L)
      = accR x3 (zHead (i 2).val x0 x1 ⟨L.1 / 64, by omega⟩) (vHead (i 2).val x2 ⟨L.1 / 64, by omega⟩) ((i 2).val + 1)
          (ix3 0 r ⟨L.1 % 128, by omega⟩) := by
  have e : ∀ a : Fin 3, ((ix3 (0 : Fin 1) r L : S1x256x512.Idx) a).val
      = (![0, 0, 0] : Fin 3 → ℕ) a + ((ix3 (0 : Fin 1) r L : S1x256x512.Idx) a).val := by
    intro a
    match a with
    | ⟨0, _⟩ => exact (Nat.zero_add _).symm
    | ⟨1, _⟩ => exact (Nat.zero_add _).symm
    | ⟨2, _⟩ => exact (Nat.zero_add _).symm
  unfold out0_A_4
  rw [att_pieces, View.read_writes_cons_unit_of_mem _ _ _ _ _ _ (ix3 (0 : Fin 1) r L) rfl e]
  refine (pay_apply (fun h => ld8 arg9.view (E9' c i arg3 harg3 arg4 harg4 arg5 harg5 arg6 harg6 arg7 harg7 arg8 harg8 arg9 harg9 arg10 harg10 arg11 harg11 arg12 harg12 arg13 harg13 x0 x1 x2 x3) h) r L).trans ?_
  exact congrFun (end_acc c i arg3 harg3 arg4 harg4 arg5 harg5 arg6 harg6 arg7 harg7 arg8 harg8 arg9 harg9 arg10 harg10 arg11 harg11 arg12 harg12 arg13 harg13 x0 x1 x2 x3 _) _

/-- The argument array, at its three places. -/
abbrev arr (c : Dev nD) (b : Fin 2) (t : Fin 8192) (l : Fin 3072) : EReal := m ((c : Thread nD τ).loc main_arg0) (ix3 b t l)

theorem pairOf_val : ∀ h : Fin 8, (pairOf h).1 = h.1 / 2 := by decide

/-- The result array at a row of point `t`'s tile. -/
theorem final_blk (c : Dev nD) (hr : Scored (arr m c)) (t : Fin 128) (r : Fin 256) (L : Fin 512) :
    (dats m 0 c).arrAt 4 cfg0.N (ix3 (bat t) (pos t r) (⟨512 * (t.val / 32 % 2) + L.val, by omega⟩ : Fin 1024))
      = attend (arr m c) (bat t) (pos t r) (⟨512 * (t.val / 32 % 2) + L.val, by omega⟩ : Fin 1024) := by
  have hL := L.isLt
  have hg : t.val / 32 % 2 < 2 := Nat.mod_lt _ (by decide)
  obtain ⟨hf, hi⟩ := (idx_facts t).2.2.2.2.2.2.2.2.2.2.2.2.2.2
  have b := congrFun ((blocks4 m c t hf).trans (flushed4 m c t)) (ix3 0 r L)
  have b' : (dats m 0 c).arrAt 4 cfg0.N (((cfg0.win 4).blk t).view.emb (ix3 0 r L)) = outsAt0 m c t (ix3 0 r L) := b
  rw [emb4] at b'
  rw [b']
  unfold outsAt0
  rw [out_apply, hi]
  let H : Fin 16 := ⟨(512 * (t.val / 32 % 2) + L.val) / 64, by omega⟩
  refine (acc_end _ _ _ (t.val % 32) (fun r u => real (arr m c) (bat t) H (pos t r) u)
    (fun u l => arr m c (bat t) (place u) ⟨2048 + (512 * (t.val / 32 % 2) + (128 * (L.1 / 128) + l.1)), by have := l.isLt; omega⟩)
    (iblk3_apply m c t) ?_ ?_ (Nat.mod_lt _ (by decide)) r _).trans ?_
  · intro k hk r s
    rw [zHead_apply]
    refine Eq.trans ?_ (hr (bat t) H (pos t r) (place (256 * (t.val % 32 - k) + s.1)))
    refine Finset.sum_congr rfl fun d _ => ?_
    rw [iblk0_apply, iblk1_apply]
    have hd := d.isLt
    refine congr (congrArg _ (congrArg (arr m c (bat t) (pos t r)) (Fin.ext ?_))) (congrArg (arr m c (bat t) (place _)) (Fin.ext ?_))
    · show 512 * (t.val / 32 % 2) + (64 * (L.1 / 64) + d.1) = 64 * ((512 * (t.val / 32 % 2) + L.val) / 64) + d.1
      omega
    · show 1024 + (512 * (t.val / 32 % 2) + (64 * (L.1 / 64) + d.1)) = 1024 + (64 * ((512 * (t.val / 32 % 2) + L.val) / 64) + d.1)
      omega
  · intro k hk s l
    refine (iblk2_apply m c t (place (256 * (t.val % 32 - k) + s.1)) ⟨128 * (pairOf ⟨L.1 / 64, by omega⟩).1 + l.1, by
      have := (pairOf ⟨L.1 / 64, by omega⟩).isLt; have := l.isLt; omega⟩).trans ?_
    refine congrArg (arr m c (bat t) (place _)) (Fin.ext ?_)
    show 2048 + (512 * (t.val / 32 % 2) + (128 * (pairOf ⟨L.1 / 64, by omega⟩).1 + l.1)) = 2048 + (512 * (t.val / 32 % 2) + (128 * (L.1 / 128) + l.1))
    rw [pairOf_val]
    show 2048 + (512 * (t.val / 32 % 2) + (128 * (L.1 / 64 / 2) + l.1)) = _
    omega
  · unfold attend
    refine Finset.sum_congr rfl fun u _ => congrArg _ (congrArg (arr m c (bat t) (place u)) (Fin.ext ?_))
    show 2048 + (512 * (t.val / 32 % 2) + (128 * (L.1 / 128) + L.1 % 128)) = 2048 + (512 * (t.val / 32 % 2) + L.val)
    omega

/-- The result array at any row. -/
theorem final_apply (c : Dev nD) (hr : Scored (arr m c)) (b : Fin 2) (r : Fin 8192) (l : Fin 1024) :
    (dats m 0 c).arrAt 4 cfg0.N (ix3 b r l) = attend (arr m c) b r l := by
  have h := final_blk m c hr (⟨64 * b.val + (32 * (l.val / 512) + r.val / 256), by omega⟩ : Fin 128) (⟨r.val % 256, by omega⟩ : Fin 256)
    (⟨l.val % 512, by omega⟩ : Fin 512)
  have eb : bat (⟨64 * b.val + (32 * (l.val / 512) + r.val / 256), by omega⟩ : Fin 128) = b := Fin.ext (by dsimp only; omega)
  have er : pos (⟨64 * b.val + (32 * (l.val / 512) + r.val / 256), by omega⟩ : Fin 128) (⟨r.val % 256, by omega⟩ : Fin 256) = r :=
    Fin.ext (by dsimp only; omega)
  have el : (⟨512 * ((⟨64 * b.val + (32 * (l.val / 512) + r.val / 256), by omega⟩ : Fin 128).val / 32 % 2) + (⟨l.val % 512, by omega⟩ : Fin 512).val, by omega⟩ : Fin 1024) = l :=
    Fin.ext (by dsimp only; omega)
  rw [eb, er, el] at h
  exact h

end Cert.AttIdeal.Block

end
-- ==== Proof.Att.Window.lean ====
module

public import Idealize.ShloMosaic.Lib.Pointwise
public import Idealize.ShloMosaic.Lib.IdealHost
public import proofs.«01_k».proof.Proof.Gen.AttRefIdeal.Read
public import proofs.«01_k».proof.Proof.Att.Spec

@[expose] public section

set_option maxRecDepth 16384

noncomputable section

/-! The reference's running sum from the last key backwards: a window of 8192 along the keys, with nothing beyond the last. -/

namespace Cert.AttRefIdeal.Block

open Idealize.ShloMosaic Cert.AttRefIdeal Cert.AttRefIdeal.Gen Cert.AttRefIdeal.Read Cert.Att

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window sum from zero, as a sum over the window. -/
theorem window_sum {s t u : Shape} {φ : FTy} (window strides lo hi : Fin s.rank → ℕ) (x : FVec Ideal s φ) (init : u.Idx → Ideal φ)
    (h : s.ReduceWindows window strides lo hi t) (hu : 0 < u.numel) (hz : init (Shape.Idx.first hu) = (0 : EReal)) (j : t.Idx) :
    Host.reduceWindowAdd (F := Ideal) window strides lo hi x init h hu j
      = ∑ k : (⟨s.rank, window⟩ : Shape).Idx,
        if hin : ∀ a, lo a ≤ (j (a.cast h.1.symm)).val * strides a + (k a).val
            ∧ (j (a.cast h.1.symm)).val * strides a + (k a).val - lo a < s.size a
          then x (fun a => ⟨(j (a.cast h.1.symm)).val * strides a + (k a).val - lo a, (hin a).2⟩) else (0 : EReal) := by
  let g : (⟨s.rank, window⟩ : Shape).Idx → EReal := fun k =>
    if hin : ∀ a, lo a ≤ (j (a.cast h.1.symm)).val * strides a + (k a).val
        ∧ (j (a.cast h.1.symm)).val * strides a + (k a).val - lo a < s.size a
      then x (fun a => ⟨(j (a.cast h.1.symm)).val * strides a + (k a).val - lo a, (hin a).2⟩) else init (Shape.Idx.first hu)
  have e : Host.reduceWindowAdd (F := Ideal) window strides lo hi x init h hu j
      = (List.finRange (⟨s.rank, window⟩ : Shape).numel).foldl (fun r n => r + g ((⟨s.rank, window⟩ : Shape).rowMajor.symm n))
        (init (Shape.Idx.first hu)) := by
    show Ideal.hostReduceWindowAdd window strides lo hi h x (init (Shape.Idx.first hu)) j = _
    unfold Ideal.hostReduceWindowAdd Host.reduceWindow
    dsimp only
    congr 1
    funext r n
    show r + _ = r + g _
    congr 1
    dsimp only [g]
    split_ifs <;> rfl
  rw [e, foldl_add, hz, zero_add, ← Fin.sum_univ_def, Equiv.sum_comp (⟨s.rank, window⟩ : Shape).rowMajor.symm g]
  refine Finset.sum_congr rfl fun k _ => ?_
  show (if hin : _ then _ else init (Shape.Idx.first hu)) = _
  rw [hz]

/-- The window's places, along the keys alone. -/
def places : Fin 8192 ≃ (⟨4, ![1, 1, 1, 8192]⟩ : Shape).Idx where
  toFun k := ix4 0 0 0 k
  invFun i := i 3
  left_inv _ := rfl
  right_inv i := by
    funext a; apply Fin.ext
    match a with
    | ⟨0, _⟩ => have h : (i 0).val < 1 := (i 0).isLt; show 0 = (i 0).val; omega
    | ⟨1, _⟩ => have h : (i 1).val < 1 := (i 1).isLt; show 0 = (i 1).val; omega
    | ⟨2, _⟩ => have h : (i 2).val < 1 := (i 2).isLt; show 0 = (i 2).val; omega
    | ⟨3, _⟩ => rfl

/-- The running sum at a key: everything from that key on. -/
theorem running (x0 : Vec Ideal S2x8192x3072 .bf16) (b : Fin 2) (h : Fin 16) (t s : Fin 8192) :
    val_main_v21 (F := Ideal) x0 (ix4 b h t s)
      = ∑ k : Fin 8192, if hk : s.1 + k.1 < 8192 then val_main_v20 (F := Ideal) x0 (ix4 b h t ⟨s.1 + k.1, hk⟩) else (0 : EReal) := by
  unfold val_main_v21
  generalize val_main_v20 (F := Ideal) x0 = y
  have hz : val_main_call2_v0 (F := Ideal) (Shape.Idx.first h_S_) = (0 : EReal) := by
    rw [val_main_call2_v0_apply, val_main_call2_cst_apply]
    exact Ideal.ofBits_zero_f32
  refine (window_sum _ _ _ _ y _ _ _ hz _).trans ?_
  refine (Equiv.sum_comp places _).symm.trans ?_
  refine Finset.sum_congr rfl fun k _ => ?_
  by_cases hk : s.1 + k.1 < 8192
  · rw [dif_pos hk, dif_pos]
    · refine congrArg y (funext fun a => Fin.ext ?_)
      match a with
      | ⟨0, _⟩ => show b.1 * 1 + 0 - 0 = b.1; omega
      | ⟨1, _⟩ => show h.1 * 1 + 0 - 0 = h.1; omega
      | ⟨2, _⟩ => show t.1 * 1 + 0 - 0 = t.1; omega
      | ⟨3, _⟩ => show s.1 * 1 + k.1 - 0 = s.1 + k.1; omega
    · intro a
      match a with
      | ⟨0, _⟩ => show 0 ≤ b.1 * 1 + 0 ∧ b.1 * 1 + 0 - 0 < 2; omega
      | ⟨1, _⟩ => show 0 ≤ h.1 * 1 + 0 ∧ h.1 * 1 + 0 - 0 < 16; omega
      | ⟨2, _⟩ => show 0 ≤ t.1 * 1 + 0 ∧ t.1 * 1 + 0 - 0 < 8192; omega
      | ⟨3, _⟩ => show 0 ≤ s.1 * 1 + k.1 ∧ s.1 * 1 + k.1 - 0 < 8192; omega
  · rw [dif_neg hk, dif_neg]
    intro hin
    have h3 : 0 ≤ s.1 * 1 + k.1 ∧ s.1 * 1 + k.1 - 0 < 8192 := hin (3 : Fin 4)
    omega

end Cert.AttRefIdeal.Block

end
-- ==== Proof.Att.Ref.lean ====
module

public import Idealize.ShloMosaic.Lib.WordCmp
public import proofs.«01_k».proof.Proof.Att.Window

@[expose] public section

set_option maxRecDepth 16384

noncomputable section

/-! The reference's attention read at an index: `attend` of the argument array. -/

namespace Cert.AttRefIdeal.Block

open Idealize.ShloMosaic Cert.AttRefIdeal Cert.AttRefIdeal.Gen Cert.AttRefIdeal.Read Cert.Att

/-- The argument array, at its three places. -/
abbrev arr (x0 : Vec Ideal S2x8192x3072 .bf16) (b : Fin 2) (t : Fin 8192) (l : Fin 3072) : EReal := x0 (ix3 b t l)

variable (x0 : Vec Ideal S2x8192x3072 .bf16)

theorem split_apply (b : Fin 2) (t : Fin 8192) (c : Fin 3) (h : Fin 16) (d : Fin 64) :
    val_main_v0 (F := Ideal) x0 (ix5 b t c h d) = arr x0 b t ⟨1024 * c.1 + (64 * h.1 + d.1), by omega⟩ := by
  rw [val_main_v0_apply]
  refine congrArg x0 (funext fun a => Fin.ext ?_)
  match a with
  | ⟨0, _⟩ => show ((((b.1 * 8192 + t.1) * 3 + c.1) * 16 + h.1) * 64 + d.1) / 25165824 = b.1; omega
  | ⟨1, _⟩ => show ((((b.1 * 8192 + t.1) * 3 + c.1) * 16 + h.1) * 64 + d.1) / 3072 % 8192 = t.1; omega
  | ⟨2, _⟩ => show ((((b.1 * 8192 + t.1) * 3 + c.1) * 16 + h.1) * 64 + d.1) % 3072 = 1024 * c.1 + (64 * h.1 + d.1); omega

theorem query_apply (b : Fin 2) (t : Fin 8192) (h : Fin 16) (d : Fin 64) :
    val_main_v3 (F := Ideal) x0 (ix4 b t h d) = arr x0 b t ⟨64 * h.1 + d.1, by omega⟩ := by
  rw [val_main_v3_apply, val_main_v2_apply, val_main_v1_apply]
  refine (congrArg (val_main_v0 (F := Ideal) x0) (?_ : _ = ix5 b t (0 : Fin 3) h d)).trans ((split_apply x0 b t 0 h d).trans ?_)
  · funext a; apply Fin.ext
    match a with
    | ⟨0, _⟩ => show (((b.1 * 8192 + t.1) * 16 + h.1) * 64 + d.1) / 8388608 = b.1; omega
    | ⟨1, _⟩ => show (((b.1 * 8192 + t.1) * 16 + h.1) * 64 + d.1) / 1024 % 8192 = t.1; omega
    | ⟨2, _⟩ => rfl
    | ⟨3, _⟩ => show (((b.1 * 8192 + t.1) * 16 + h.1) * 64 + d.1) / 64 % 16 = h.1; omega
    | ⟨4, _⟩ => show (((b.1 * 8192 + t.1) * 16 + h.1) * 64 + d.1) % 64 = d.1; omega
  · exact congrArg (arr x0 b t) (Fin.ext (by show 1024 * 0 + (64 * h.1 + d.1) = 64 * h.1 + d.1; omega))

theorem key_apply (b : Fin 2) (t : Fin 8192) (h : Fin 16) (d : Fin 64) :
    val_main_v6 (F := Ideal) x0 (ix4 b t h d) = arr x0 b t ⟨1024 + (64 * h.1 + d.1), by omega⟩ := by
  rw [val_main_v6_apply, val_main_v5_apply, val_main_v4_apply]
  refine (congrArg (val_main_v0 (F := Ideal) x0) (?_ : _ = ix5 b t (1 : Fin 3) h d)).trans (split_apply x0 b t 1 h d)
  funext a; apply Fin.ext
  match a with
  | ⟨0, _⟩ => show (((b.1 * 8192 + t.1) * 16 + h.1) * 64 + d.1) / 8388608 = b.1; omega
  | ⟨1, _⟩ => show (((b.1 * 8192 + t.1) * 16 + h.1) * 64 + d.1) / 1024 % 8192 = t.1; omega
  | ⟨2, _⟩ => rfl
  | ⟨3, _⟩ => show (((b.1 * 8192 + t.1) * 16 + h.1) * 64 + d.1) / 64 % 16 = h.1; omega
  | ⟨4, _⟩ => show (((b.1 * 8192 + t.1) * 16 + h.1) * 64 + d.1) % 64 = d.1; omega

theorem value_apply (b : Fin 2) (t : Fin 8192) (h : Fin 16) (d : Fin 64) :
    val_main_v9 (F := Ideal) x0 (ix4 b t h d) = arr x0 b t ⟨2048 + (64 * h.1 + d.1), by omega⟩ := by
  rw [val_main_v9_apply, val_main_v8_apply, val_main_v7_apply]
  refine (congrArg (val_main_v0 (F := Ideal) x0) (?_ : _ = ix5 b t (2 : Fin 3) h d)).trans (split_apply x0 b t 2 h d)
  funext a; apply Fin.ext
  match a with
  | ⟨0, _⟩ => show (((b.1 * 8192 + t.1) * 16 + h.1) * 64 + d.1) / 8388608 = b.1; omega
  | ⟨1, _⟩ => show (((b.1 * 8192 + t.1) * 16 + h.1) * 64 + d.1) / 1024 % 8192 = t.1; omega
  | ⟨2, _⟩ => rfl
  | ⟨3, _⟩ => show (((b.1 * 8192 + t.1) * 16 + h.1) * 64 + d.1) / 64 % 16 = h.1; omega
  | ⟨4, _⟩ => show (((b.1 * 8192 + t.1) * 16 + h.1) * 64 + d.1) % 64 = d.1; omega

theorem score_apply (b : Fin 2) (h : Fin 16) (t u : Fin 8192) :
    val_main_v10 (F := Ideal) x0 (ix4 b h t u) = score (arr x0) b h t u := by
  rw [val_main_v10_apply]
  refine Finset.sum_congr rfl fun d _ => congr (congrArg _ ?_) ?_
  · refine (congrArg (val_main_v3 (F := Ideal) x0) (?_ : _ = ix4 b t h d)).trans (query_apply x0 b t h d)
    funext a
    match a with
    | ⟨0, _⟩ => rfl
    | ⟨1, _⟩ => rfl
    | ⟨2, _⟩ => rfl
    | ⟨3, _⟩ => rfl
  · refine (congrArg (val_main_v6 (F := Ideal) x0) (?_ : _ = ix4 b u h d)).trans (key_apply x0 b u h d)
    funext a
    match a with
    | ⟨0, _⟩ => rfl
    | ⟨1, _⟩ => rfl
    | ⟨2, _⟩ => rfl
    | ⟨3, _⟩ => rfl

/-- The mask: keys before the query. -/
theorem mask_apply (t s : Fin 8192) : val_main_v17 (F := Ideal) (ix2 t s) = BitVec.ofBool (decide (s.1 < t.1)) := by
  rw [val_main_v17_apply, val_main_v15_apply, val_main_v12_apply, val_main_v11_apply, val_main_v16_apply, val_main_v14_apply,
    val_main_v13_apply]
  exact WordCmp.cmpi_slt_ofNat (by have := s.isLt; show s.1 < _; omega) (by have := t.isLt; show t.1 < _; omega)

theorem zero_bits : FloatOps.ofBits (F := Ideal) .f32 0x00000000#32 = (0 : EReal) := Ideal.ofBits_zero_f32

/-- The host's softplus at a real number. -/
theorem soft_spelled (y : ℝ) :
    (Scalar.select (FloatOps.cmpf (F := Ideal) .une (φ := .f32) (FloatOps.subf (F := Ideal) (φ := .f32) (y : EReal) (0 : EReal)) (FloatOps.subf (F := Ideal) (φ := .f32) (y : EReal) (0 : EReal)))
      (FloatOps.addf (F := Ideal) (φ := .f32) (y : EReal) (0 : EReal))
      (FloatOps.addf (F := Ideal) (φ := .f32) (FloatOps.maximumf (F := Ideal) (φ := .f32) (y : EReal) (0 : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (y : EReal) (0 : EReal))))))) : EReal) = ((softp y : ℝ) : EReal) := by
  have h : FloatOps.cmpf (F := Ideal) .une (φ := .f32) (FloatOps.subf (F := Ideal) (φ := .f32) (y : EReal) (0 : EReal))
      (FloatOps.subf (F := Ideal) (φ := .f32) (y : EReal) (0 : EReal)) = 0#1 := by
    show BitVec.ofBool (decide ((y : EReal) - 0 ≠ (y : EReal) - 0)) = 0#1
    simp
  rw [h]
  show max (y : EReal) 0 + Ideal.log (1 + Ideal.exp (-(max ((y : EReal) - 0) (-((y : EReal) - 0))))) = _
  rw [sub_zero, ← coe_abs, ← EReal.coe_neg]
  exact softp_coe y

theorem neg_coe (y : ℝ) : (FloatOps.hostNegf (F := Ideal) (φ := .f32) (y : EReal) : EReal) = ((-y : ℝ) : EReal) := (EReal.coe_neg y).symm

theorem select_ofBool (p : Prop) [Decidable p] (x y : EReal) : Scalar.select (BitVec.ofBool (decide p)) x y = if p then x else y := by
  by_cases hp : p <;> simp [Scalar.select, hp]

variable (hs : Scored (arr x0))
include hs

theorem score_real (b : Fin 2) (h : Fin 16) (t u : Fin 8192) :
    val_main_v10 (F := Ideal) x0 (ix4 b h t u) = ((real (arr x0) b h t u.1 : ℝ) : EReal) := by
  rw [score_apply, hs b h t u]
  unfold real
  rw [show place u.1 = u from Fin.ext (Nat.mod_eq_of_lt u.isLt)]

theorem pass_apply (b : Fin 2) (h : Fin 16) (t u : Fin 8192) :
    val_main_v19 (F := Ideal) x0 (ix4 b h t u) = ((-softp (real (arr x0) b h t u.1) : ℝ) : EReal) := by
  rw [val_main_v19_apply, val_main_call0_v1_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, val_main_call0_v0_apply,
    val_main_v18_apply, val_main_call0_call0_v0_apply, val_main_call0_call0_v2_apply, val_main_call0_call0_v5_apply,
    val_main_call0_call0_cst_apply, score_real x0 hs, zero_bits, neg_coe, neg_coe, neg_neg]
  exact (congrArg (fun y : EReal => -y) (soft_spelled _)).trans (EReal.coe_neg _).symm

theorem take_apply (b : Fin 2) (h : Fin 16) (t u : Fin 8192) :
    val_main_v23 (F := Ideal) x0 (ix4 b h t u) = ((-softp (-real (arr x0) b h t u.1) : ℝ) : EReal) := by
  rw [val_main_v23_apply, val_main_call3_v1_apply, val_main_call3_call0_v4_apply, val_main_call3_call0_v6_apply,
    val_main_call3_call0_v11_apply, val_main_call3_call0_v1_apply, val_main_call3_call0_v10_apply, val_main_call3_call0_v9_apply,
    val_main_call3_call0_v8_apply, val_main_call3_call0_v7_apply, val_main_call3_call0_v3_apply, val_main_call3_v0_apply,
    val_main_call3_call0_v0_apply, val_main_call3_call0_v2_apply, val_main_call3_call0_v5_apply,
    val_main_call3_call0_cst_apply, score_real x0 hs, zero_bits, neg_coe]
  exact (congrArg (fun y : EReal => -y) (soft_spelled _)).trans (EReal.coe_neg _).symm

theorem masked_apply (b : Fin 2) (h : Fin 16) (t u : Fin 8192) :
    val_main_v20 (F := Ideal) x0 (ix4 b h t u) = ((-before (real (arr x0) b h t) t.1 u.1 : ℝ) : EReal) := by
  have e : idx_main_call1_v1 (ix4 b h t u) = ix2 t u := by
    funext a
    match a with
    | ⟨0, _⟩ => rfl
    | ⟨1, _⟩ => rfl
  rw [val_main_v20_apply, val_main_call1_v1_apply, e, mask_apply, pass_apply x0 hs, val_main_call1_v2_apply, val_main_call1_v0_apply,
    val_main_cst_apply, zero_bits, select_ofBool]
  unfold before
  by_cases hu : u.1 < t.1
  · rw [if_pos hu, if_pos hu]
  · rw [if_neg hu, if_neg hu, neg_zero, EReal.coe_zero]

theorem running_apply (b : Fin 2) (h : Fin 16) (t s : Fin 8192) :
    val_main_v21 (F := Ideal) x0 (ix4 b h t s)
      = ((-∑ u ∈ Finset.Ico s.1 8192, before (real (arr x0) b h t) t.1 u : ℝ) : EReal) := by
  rw [running, ← Finset.sum_neg_distrib, coe_sum,
    ← sum_from (fun u => ((-before (real (arr x0) b h t) t.1 u : ℝ) : EReal)) s.1 (Nat.le_of_lt s.isLt)]
  refine Finset.sum_congr rfl fun k _ => ?_
  by_cases hk : s.1 + k.1 < 8192
  · rw [dif_pos hk, if_pos hk, masked_apply x0 hs]
  · rw [dif_neg hk, if_neg hk]

theorem rest_apply (b : Fin 2) (h : Fin 16) (t s : Fin 8192) :
    val_main_v22 (F := Ideal) x0 (ix4 b h t s)
      = ((-∑ u ∈ Finset.Ico (s.1 + 1) 8192, before (real (arr x0) b h t) t.1 u : ℝ) : EReal) := by
  rw [val_main_v22_apply, running_apply x0 hs, masked_apply x0 hs, Finset.sum_eq_sum_Ico_succ_bot s.isLt]
  refine (EReal.coe_sub _ _).symm.trans (congrArg _ ?_)
  ring

theorem weight_apply (b : Fin 2) (h : Fin 16) (t s : Fin 8192) :
    val_main_v26 (F := Ideal) x0 (ix4 b h t s) = ((weight (real (arr x0) b h t) t.1 s.1 : ℝ) : EReal) := by
  have e : idx_main_call4_v1 (ix4 b h t s) = ix2 t s := by
    funext a
    match a with
    | ⟨0, _⟩ => rfl
    | ⟨1, _⟩ => rfl
  rw [val_main_v26_apply, val_main_call4_v1_apply, e, mask_apply, val_main_v25_apply, val_main_v24_apply, take_apply x0 hs,
    rest_apply x0 hs, val_main_call4_v2_apply, val_main_call4_v0_apply, val_main_cst_0_apply, zero_bits, select_ofBool]
  unfold weight
  by_cases hu : s.1 < t.1
  · rw [if_pos hu, if_pos hu, softp_neg, sub_eq_add_neg]
    refine (congrArg Ideal.exp (EReal.coe_add _ _).symm).trans (exp_coe _)
  · rw [if_neg hu, if_neg hu, EReal.coe_zero]

theorem out_apply (b : Fin 2) (t : Fin 8192) (l : Fin 1024) :
    val_main_v30 (F := Ideal) x0 (ix3 b t l) = attend (arr x0) b t l := by
  have e : idx_main_v28 (idx_main_v29 (ix3 b t l)) = ix4 b (⟨l.1 / 64, by omega⟩ : Fin 16) (⟨l.1 % 64, by omega⟩ : Fin 64) t := by
    funext a; apply Fin.ext
    match a with
    | ⟨0, _⟩ => show ((b.1 * 8192 + t.1) * 1024 + l.1) / 8388608 = b.1; omega
    | ⟨1, _⟩ => show ((b.1 * 8192 + t.1) * 1024 + l.1) / 64 % 16 = l.1 / 64; omega
    | ⟨2, _⟩ => show ((b.1 * 8192 + t.1) * 1024 + l.1) % 64 = l.1 % 64; omega
    | ⟨3, _⟩ => show ((b.1 * 8192 + t.1) * 1024 + l.1) / 1024 % 8192 = t.1; omega
  rw [val_main_v30_apply, val_main_v29_apply, val_main_v28_apply, e]
  refine (val_main_v27_apply x0 _).trans ?_
  unfold attend
  rw [Finset.sum_range]
  refine Finset.sum_congr rfl fun u _ => ?_
  rw [mul_comm, show place u.1 = u from Fin.ext (Nat.mod_eq_of_lt u.isLt)]
  refine congr (congrArg _ ?_) ?_
  · refine (congrArg (val_main_v26 (F := Ideal) x0) (?_ : _ = ix4 b (⟨l.1 / 64, by omega⟩ : Fin 16) t u)).trans (weight_apply x0 hs b _ t u)
    funext a
    match a with
    | ⟨0, _⟩ => rfl
    | ⟨1, _⟩ => rfl
    | ⟨2, _⟩ => rfl
    | ⟨3, _⟩ => rfl
  · refine (congrArg (val_main_v9 (F := Ideal) x0) (?_ : _ = ix4 b u (⟨l.1 / 64, by omega⟩ : Fin 16) (⟨l.1 % 64, by omega⟩ : Fin 64))).trans
      ((value_apply x0 b u _ _).trans (congrArg (arr x0 b u) (Fin.ext ?_)))
    · funext a
      match a with
      | ⟨0, _⟩ => rfl
      | ⟨1, _⟩ => rfl
      | ⟨2, _⟩ => rfl
      | ⟨3, _⟩ => rfl
    · show 2048 + (64 * (l.1 / 64) + l.1 % 64) = 2048 + l.1
      omega

end Cert.AttRefIdeal.Block

end
-- ==== Proof.Att.Algebra.lean ====
module

public import proofs.«01_k».proof.Defs
public import proofs.«01_k».proof.Proof.Gen.Pre_finite
public import proofs.«01_k».proof.Proof.Att.Array
public import proofs.«01_k».proof.Proof.Att.Ref

@[expose] public section

set_option maxRecDepth 16384

noncomputable section

/-! The kernel and the reference compute one array: both results, read at an index, are `attend` of the argument. The
precondition makes every score a real number. -/

namespace Cert.AttIdeal.Block

open Idealize.ShloMosaic Idealize.ShloMosaic.TcCoe Idealize.SL.Sem Cert.Att

/-- What the precondition says at a lane: the magnitude lies below infinity. -/
theorem finite_apply (x : Vec Ideal Cert.Pre_finite.S2x8192x3072 .bf16) (h : Cert.Pre_finite.fn (F := Ideal) x = fun _ => 1#1)
    (b : Fin 2) (t : Fin 8192) (l : Fin 3072) (hl : l.1 < 2048) : ∃ y : ℝ, x (ix3 b t l) = (y : EReal) := by
  have e := congrFun h (ix3 b t (⟨l.1, hl⟩ : Fin 2048))
  have inf : Ideal.ofBits .f32 0x7F800000#32 = (⊤ : EReal) := by simp [Ideal.ofBits, Ideal.ieee]
  have e' : BitVec.ofBool (decide (max (x (ix3 b t l) : EReal) (-(x (ix3 b t l) : EReal)) < Ideal.ofBits .f32 0x7F800000#32)) = 1#1 := by
    refine Eq.trans ?_ e
    unfold Cert.Pre_finite.fn
    pointwise []
    rfl
  rw [inf] at e'
  have lt : max (x (ix3 b t l) : EReal) (-(x (ix3 b t l) : EReal)) < ⊤ := by
    by_contra hn
    rw [decide_eq_false hn] at e'
    exact absurd e' (by decide)
  obtain ⟨h1, h2⟩ := max_lt_iff.1 lt
  exact ⟨_, (EReal.coe_toReal (ne_of_lt h1) fun hb => absurd h2 (by rw [hb]; simp)).symm⟩

theorem algebraic : Cert.algebraic_AttIdeal_AttRefIdeal_pre_finite (hAttIdeal := Cert.AttIdeal.Gen.facts)
    (hAttRefIdeal := Cert.AttRefIdeal.Gen.facts) (hPre_finite := Cert.Pre_finite.Gen.facts) := by
  intro m g m' g' hpre hagree
  have hs (c : Dev Cert.AttIdeal.nD) : Scored (arr m c) := scored _ fun b t l hl => finite_apply _ (hpre c) b t l hl
  refine ⟨fun c => (Cert.AttIdeal.Own.dats m 0 c).arrAt 4 Cert.AttIdeal.cfg0.N, run_blocks m g, ?_⟩
  refine (θ_run _ _ _).mono (fun r h c => ⟨(h c).1.trans ?_, (h c).2⟩) (Cert.AttRefIdeal.Value.run (F := Ideal) m' g')
  rw [Cert.AttRefIdeal.Read.val_main_v30_eq, hagree c]
  funext i
  idx_vars i
  exact (Cert.AttRefIdeal.Block.out_apply _ (hs c) _ _ _).trans (final_apply m c (hs c) _ _ _).symm

end Cert.AttIdeal.Block

end
-- ==== Proof.lean ====
module

public import proofs.«01_k».proof.Defs
public import proofs.«01_k».proof.Proof.Gen.Ffn.Frame
public import proofs.«01_k».proof.Proof.Ffn.Algebra
public import proofs.«01_k».proof.Proof.Gen.Last.Frame
public import proofs.«01_k».proof.Proof.Last.Algebra
public import proofs.«01_k».proof.Proof.Lru.Frame
public import proofs.«01_k».proof.Proof.Lru.IdealFrame
public import proofs.«01_k».proof.Proof.Lru.Algebra
public import proofs.«01_k».proof.Proof.Gen.Qkv.Frame
public import proofs.«01_k».proof.Proof.Qkv.Algebra
public import proofs.«01_k».proof.Proof.Gen.Proj.Frame
public import proofs.«01_k».proof.Proof.Proj.Algebra
public import proofs.«01_k».proof.Proof.Att.FrameBits
public import proofs.«01_k».proof.Proof.Att.Pres
public import proofs.«01_k».proof.Proof.Att.FrameIdeal
public import proofs.«01_k».proof.Proof.Gen.AttRefIdeal.Run
public import proofs.«01_k».proof.Proof.Gen.AttRefIdeal.Read
public import proofs.«01_k».proof.Proof.Att.Algebra
public import Idealize.ShloMosaic.Adequacy
public import Idealize.ShloMosaic.Init

@[expose] public section

noncomputable section

/-! The claims, from the modules that prove them: each program's frame, that each idealized kernel is the printed one with
    no rewrite, and that each kernel and its reference compute one array. -/

namespace Cert.Proof

open Idealize.ShloMosaic Idealize.SL.Sem

theorem frame_FfnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_LastRef : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run (F := Ideal) m ρ)

theorem frame_LruRef : Cert.quiescent_LruRefIdeal (hLruRefIdeal := Cert.LruRefIdeal.Gen.facts) := fun m ρ _ =>
  (θ_run Cert.LruRefIdeal.defs _ _).mono (fun r h => ⟨fun c => (h c).2, sem_eq_zero_of_no_sems (by decide) r.2⟩)
    (Cert.LruRefIdeal.Read.run m ρ)

theorem frame_QkvRef : Cert.quiescent_QkvRefIdeal (hQkvRefIdeal := Cert.QkvRefIdeal.Gen.facts) := fun m ρ _ =>
  (θ_run Cert.QkvRefIdeal.defs _ _).mono (fun r h => ⟨fun c => (h c).2, sem_eq_zero_of_no_sems (by decide) r.2⟩)
    (Cert.QkvRefIdeal.Value.run (F := Ideal) m ρ)

theorem frame_ProjRef : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem frame_AttRef : Cert.quiescent_AttRefIdeal (hAttRefIdeal := Cert.AttRefIdeal.Gen.facts) := fun m ρ _ =>
  (θ_run Cert.AttRefIdeal.defs _ _).mono (fun r h => ⟨fun c => (h c).2, sem_eq_zero_of_no_sems (by decide) r.2⟩)
    (Cert.AttRefIdeal.Value.run (F := Ideal) m ρ)

theorem claim : Cert.Claim :=
  ⟨Cert.Ffn.Gen.facts, Cert.FfnIdeal.Gen.facts, Cert.FfnRefIdeal.Gen.facts,
  Cert.Last.Gen.facts, Cert.LastIdeal.Gen.facts, Cert.LastRefIdeal.Gen.facts,
  Cert.Lru.Gen.facts, Cert.LruIdeal.Gen.facts, Cert.LruRefIdeal.Gen.facts,
  Cert.Qkv.Gen.facts, Cert.QkvIdeal.Gen.facts, Cert.QkvRefIdeal.Gen.facts,
  Cert.Proj.Gen.facts, Cert.ProjIdeal.Gen.facts, Cert.ProjRefIdeal.Gen.facts,
  Cert.Att.Gen.facts, Cert.AttIdeal.Gen.facts, Cert.AttRefIdeal.Gen.facts,
  Cert.Pre_finite.Gen.facts,
  fun m ρ _ => Cert.Ffn.Gen.frame m ρ, fun m ρ _ => Cert.FfnIdeal.Gen.frame m ρ, frame_FfnRef,
  fun m ρ _ => Cert.Last.Gen.frame m ρ, fun m ρ _ => Cert.LastIdeal.Gen.frame m ρ, frame_LastRef,
  fun m ρ _ => Cert.Lru.Frame.frame m ρ, fun m ρ _ => Cert.LruIdeal.Frame.frame m ρ, frame_LruRef,
  fun m ρ _ => Cert.Qkv.Gen.frame m ρ, fun m ρ _ => Cert.QkvIdeal.Gen.frame m ρ, frame_QkvRef,
  fun m ρ _ => Cert.Proj.Gen.frame m ρ, fun m ρ _ => Cert.ProjIdeal.Gen.frame m ρ, frame_ProjRef,
  fun m ρ _ => Cert.Att.Own.frame m ρ, fun m ρ _ => Cert.AttIdeal.Own.frame m ρ, fun m ρ _ => Cert.AttIdeal.Own.frame m ρ, frame_AttRef, fun m ρ _ => frame_AttRef m ρ trivial,
  trivial, Cert.FfnIdeal.Block.algebraic,
  trivial, Cert.LastIdeal.Block.algebraic,
  trivial, Cert.LruIdeal.Block.algebraic,
  trivial, Cert.QkvIdeal.Block.algebraic,
  trivial, Cert.ProjIdeal.Block.algebraic,
  Cert.Att.Own.preserves, Cert.AttIdeal.Block.algebraic⟩

end Cert.Proof

end
